-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x5000x4 : Shape := ⟨3, ![16, 5000, 4]⟩
abbrev S16x100x4 : Shape := ⟨3, ![16, 100, 4]⟩
abbrev S16x100 : Shape := ⟨2, ![16, 100]⟩
abbrev S_ : Shape := ⟨0, ![]⟩
abbrev S1 : Shape := ⟨1, ![1]⟩
abbrev S2 : Shape := ⟨1, ![2]⟩
abbrev S1x1 : Shape := ⟨2, ![1, 1]⟩
abbrev S2x1 : Shape := ⟨2, ![2, 1]⟩
abbrev S2x2 : Shape := ⟨2, ![2, 2]⟩
abbrev S1x2 : Shape := ⟨2, ![1, 2]⟩
abbrev S16x5000 : Shape := ⟨2, ![16, 5000]⟩
abbrev S16x5120 : Shape := ⟨2, ![16, 5120]⟩
abbrev S16x40x128 : Shape := ⟨3, ![16, 40, 128]⟩
abbrev S16x4x5000 : Shape := ⟨3, ![16, 4, 5000]⟩
abbrev S16x4x5120 : Shape := ⟨3, ![16, 4, 5120]⟩
abbrev S16x4x40x128 : Shape := ⟨4, ![16, 4, 40, 128]⟩
abbrev S16x4x100 : Shape := ⟨3, ![16, 4, 100]⟩
abbrev S16x4x100x1 : Shape := ⟨4, ![16, 4, 100, 1]⟩
abbrev S16x100x1 : Shape := ⟨3, ![16, 100, 1]⟩
abbrev S4x4x40x128 : Shape := ⟨4, ![4, 4, 40, 128]⟩
abbrev S4x4x100x1 : Shape := ⟨4, ![4, 4, 100, 1]⟩
abbrev S4x100x1 : Shape := ⟨3, ![4, 100, 1]⟩
abbrev S4x40x128 : Shape := ⟨3, ![4, 40, 128]⟩
abbrev S4x21x4x40x128 : Shape := ⟨5, ![4, 21, 4, 40, 128]⟩
abbrev S4x21x40x128 : Shape := ⟨4, ![4, 21, 40, 128]⟩
abbrev S4x84x5120 : Shape := ⟨3, ![4, 84, 5120]⟩
abbrev S4x5120x84 : Shape := ⟨3, ![4, 5120, 84]⟩
abbrev S4x5000x84 : Shape := ⟨3, ![4, 5000, 84]⟩
abbrev S4x21x5120 : Shape := ⟨3, ![4, 21, 5120]⟩
abbrev S4x5120x21 : Shape := ⟨3, ![4, 5120, 21]⟩
abbrev S4x5000x21 : Shape := ⟨3, ![4, 5000, 21]⟩
abbrev S16x5000x84 : Shape := ⟨3, ![16, 5000, 84]⟩
abbrev S16x5000x21 : Shape := ⟨3, ![16, 5000, 21]⟩
abbrev S16x5000x21x4 : Shape := ⟨4, ![16, 5000, 21, 4]⟩
abbrev S1x4x40x128 : Shape := ⟨4, ![1, 4, 40, 128]⟩
abbrev S1x4x100x1 : Shape := ⟨4, ![1, 4, 100, 1]⟩
abbrev S1x100x1 : Shape := ⟨3, ![1, 100, 1]⟩
abbrev S1x40x128 : Shape := ⟨3, ![1, 40, 128]⟩
abbrev S1x21x4x40x128 : Shape := ⟨5, ![1, 21, 4, 40, 128]⟩
abbrev S1x21x40x128 : Shape := ⟨4, ![1, 21, 40, 128]⟩
abbrev S1x1x40x128 : Shape := ⟨4, ![1, 1, 40, 128]⟩
abbrev S40x128 : Shape := ⟨2, ![40, 128]⟩
abbrev S1x1x100x1 : Shape := ⟨4, ![1, 1, 100, 1]⟩
abbrev S100x1 : Shape := ⟨2, ![100, 1]⟩
abbrev S100x1x1 : Shape := ⟨3, ![100, 1, 1]⟩
abbrev S100x40x128 : Shape := ⟨3, ![100, 40, 128]⟩
abbrev S1x1x1 : Shape := ⟨3, ![1, 1, 1]⟩
abbrev S21x1x1x1 : Shape := ⟨4, ![21, 1, 1, 1]⟩
abbrev S21x1x40x128 : Shape := ⟨4, ![21, 1, 40, 128]⟩
abbrev S21x4x40x128 : Shape := ⟨4, ![21, 4, 40, 128]⟩
abbrev S21x1x1 : Shape := ⟨3, ![21, 1, 1]⟩
abbrev S21x40x128 : Shape := ⟨3, ![21, 40, 128]⟩

abbrev nBuf : Space → Nat
  | .hbm => 850
  | .vmem => 48
  | .smem => 0
  | _ => 0

abbrev hbmTy0_0 (i : Nat) : BufTy := match i % 128 with
  | 0 => ⟨S16x5000x4, .f32⟩
  | 1 => ⟨S16x100x4, .f32⟩
  | 2 => ⟨S16x100, .i32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S1x1, .i32⟩
  | 32 => ⟨S1x1, .i32⟩
  | 33 => ⟨S1, .i32⟩
  | 34 => ⟨S_, .i32⟩
  | 35 => ⟨S1, .i32⟩
  | 36 => ⟨S_, .i32⟩
  | 37 => ⟨S2, .i64⟩
  | 38 => ⟨S_, .i64⟩
  | 39 => ⟨S2, .i64⟩
  | 40 => ⟨S2, .i64⟩
  | 41 => ⟨S_, .i64⟩
  | 42 => ⟨S2, .i64⟩
  | 43 => ⟨S2, .i64⟩
  | 44 => ⟨S2, .i32⟩
  | 45 => ⟨S2, .i32⟩
  | 46 => ⟨S_, .i32⟩
  | 47 => ⟨S_, .i32⟩
  | 48 => ⟨S_, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S16x5000x4, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S16x5000x4, .f32⟩

abbrev hbmTy0_2 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S2x1, .i32⟩
  | 13 => ⟨S2x1, .i32⟩
  | 14 => ⟨S2x2, .i32⟩
  | 15 => ⟨S1x2, .i32⟩
  | 16 => ⟨S2, .i32⟩
  | 17 => ⟨S1x2, .i32⟩
  | 18 => ⟨S2, .i32⟩
  | 19 => ⟨S1, .i32⟩
  | 20 => ⟨S_, .i32⟩
  | 21 => ⟨S1, .i32⟩
  | 22 => ⟨S_, .i32⟩
  | 23 => ⟨S16x5000, .i64⟩
  | 24 => ⟨S16x5000, .i64⟩
  | 25 => ⟨S_, .i64⟩
  | 26 => ⟨S16x5000, .i64⟩
  | 27 => ⟨S16x5000, .i64⟩
  | 28 => ⟨S_, .i64⟩
  | 29 => ⟨S16x5000, .i64⟩
  | 30 => ⟨S16x5000, .i64⟩
  | 31 => ⟨S16x5000, .i64⟩
  | 32 => ⟨S_, .i64⟩
  | 33 => ⟨S16x5000, .i64⟩
  | 34 => ⟨S16x5000, .i64⟩
  | 35 => ⟨S16x5000, .i32⟩
  | 36 => ⟨S16x5000, .i32⟩
  | 37 => ⟨S_, .i32⟩
  | 38 => ⟨S_, .i32⟩
  | 39 => ⟨S_, .i32⟩
  | 40 => ⟨S16x5000, .i32⟩
  | 41 => ⟨S16x5000, .i32⟩
  | 42 => ⟨S16x5000, .i32⟩
  | 43 => ⟨S16x5000, .i32⟩
  | 44 => ⟨S16x5000, .i32⟩
  | 45 => ⟨S_, .i32⟩
  | 46 => ⟨S16x5000, .i32⟩
  | 47 => ⟨S16x5000, .i32⟩
  | 48 => ⟨S_, .i32⟩
  | 49 => ⟨S16x5000, .i32⟩
  | 50 => ⟨S16x5000, .i32⟩
  | 51 => ⟨S16x5000, .i32⟩
  | 52 => ⟨S16x5000, .i32⟩
  | 53 => ⟨S16x5000, .i32⟩
  | 54 => ⟨S_, .i32⟩
  | 55 => ⟨S16x5000, .i32⟩
  | 56 => ⟨S16x5000, .i32⟩
  | 57 => ⟨S_, .i32⟩
  | 58 => ⟨S16x5000, .i32⟩
  | 59 => ⟨S16x5000, .i32⟩
  | 60 => ⟨S16x5000, .i32⟩
  | 61 => ⟨S16x5000, .i32⟩
  | 62 => ⟨S16x5000, .i32⟩
  | 63 => ⟨S_, .i32⟩
  | 64 => ⟨S16x5000, .i32⟩
  | 65 => ⟨S16x5000, .i32⟩
  | 66 => ⟨S_, .i32⟩
  | 67 => ⟨S16x5000, .i32⟩
  | 68 => ⟨S16x5000, .i32⟩
  | 69 => ⟨S16x5000, .i32⟩
  | 70 => ⟨S16x5000, .i32⟩
  | 71 => ⟨S16x5000, .i32⟩
  | 72 => ⟨S_, .i32⟩
  | 73 => ⟨S16x5000, .i32⟩
  | 74 => ⟨S16x5000, .i32⟩
  | 75 => ⟨S_, .i32⟩
  | 76 => ⟨S16x5000, .i32⟩
  | 77 => ⟨S16x5000, .i32⟩
  | 78 => ⟨S16x5000, .i32⟩
  | 79 => ⟨S16x5000, .i32⟩
  | 80 => ⟨S16x5000, .i32⟩
  | 81 => ⟨S16x5000, .i32⟩
  | 82 => ⟨S16x5000, .i32⟩
  | 83 => ⟨S16x5000, .i32⟩
  | 84 => ⟨S_, .i32⟩
  | 85 => ⟨S16x5000, .i32⟩
  | 86 => ⟨S16x5000, .i32⟩
  | 87 => ⟨S16x5000, .i32⟩
  | 88 => ⟨S_, .i32⟩
  | 89 => ⟨S16x5000, .i32⟩
  | 90 => ⟨S16x5000, .i32⟩
  | 91 => ⟨S_, .i32⟩
  | 92 => ⟨S16x5000, .i32⟩
  | 93 => ⟨S16x5000, .i32⟩
  | 94 => ⟨S16x5000, .i32⟩
  | 95 => ⟨S16x5000, .i32⟩
  | 96 => ⟨S16x5000, .i32⟩
  | 97 => ⟨S_, .i32⟩
  | 98 => ⟨S16x5000, .i32⟩
  | 99 => ⟨S16x5000, .i32⟩
  | 100 => ⟨S_, .i32⟩
  | 101 => ⟨S16x5000, .i32⟩
  | 102 => ⟨S16x5000, .i32⟩
  | 103 => ⟨S16x5000, .i32⟩
  | 104 => ⟨S16x5000, .i32⟩
  | 105 => ⟨S16x5000, .i32⟩
  | 106 => ⟨S_, .i32⟩
  | 107 => ⟨S16x5000, .i32⟩
  | 108 => ⟨S16x5000, .i32⟩
  | 109 => ⟨S_, .i32⟩
  | 110 => ⟨S16x5000, .i32⟩
  | 111 => ⟨S16x5000, .i32⟩
  | 112 => ⟨S16x5000, .i32⟩
  | 113 => ⟨S16x5000, .i32⟩
  | 114 => ⟨S16x5000, .i32⟩
  | 115 => ⟨S_, .i32⟩
  | 116 => ⟨S16x5000, .i32⟩
  | 117 => ⟨S16x5000, .i32⟩
  | 118 => ⟨S_, .i32⟩
  | 119 => ⟨S16x5000, .i32⟩
  | 120 => ⟨S16x5000, .i32⟩
  | 121 => ⟨S16x5000, .i32⟩
  | 122 => ⟨S16x5000, .i32⟩
  | 123 => ⟨S16x5000, .i32⟩
  | 124 => ⟨S16x5000, .i32⟩
  | 125 => ⟨S16x5000, .i32⟩
  | 126 => ⟨S16x5000, .i32⟩
  | 127 => ⟨S_, .i32⟩
  | _ => ⟨S16x5000x4, .f32⟩

abbrev hbmTy0_3 (i : Nat) : BufTy := match i % 128 with
  | 0 => ⟨S16x5000, .i32⟩
  | 1 => ⟨S16x5000, .i32⟩
  | 2 => ⟨S16x5000, .i32⟩
  | 3 => ⟨S_, .i32⟩
  | 4 => ⟨S16x5000, .i32⟩
  | 5 => ⟨S16x5000, .i32⟩
  | 6 => ⟨S_, .i32⟩
  | 7 => ⟨S16x5000, .i32⟩
  | 8 => ⟨S16x5000, .i32⟩
  | 9 => ⟨S16x5000, .i32⟩
  | 10 => ⟨S16x5000, .i32⟩
  | 11 => ⟨S16x5000, .i32⟩
  | 12 => ⟨S_, .i32⟩
  | 13 => ⟨S16x5000, .i32⟩
  | 14 => ⟨S16x5000, .i32⟩
  | 15 => ⟨S_, .i32⟩
  | 16 => ⟨S16x5000, .i32⟩
  | 17 => ⟨S16x5000, .i32⟩
  | 18 => ⟨S16x5000, .i32⟩
  | 19 => ⟨S16x5000, .i32⟩
  | 20 => ⟨S16x5000, .i32⟩
  | 21 => ⟨S_, .i32⟩
  | 22 => ⟨S16x5000, .i32⟩
  | 23 => ⟨S16x5000, .i32⟩
  | 24 => ⟨S_, .i32⟩
  | 25 => ⟨S16x5000, .i32⟩
  | 26 => ⟨S16x5000, .i32⟩
  | 27 => ⟨S16x5000, .i32⟩
  | 28 => ⟨S16x5000, .i32⟩
  | 29 => ⟨S16x5000, .i32⟩
  | 30 => ⟨S_, .i32⟩
  | 31 => ⟨S16x5000, .i32⟩
  | 32 => ⟨S16x5000, .i32⟩
  | 33 => ⟨S_, .i32⟩
  | 34 => ⟨S16x5000, .i32⟩
  | 35 => ⟨S16x5000, .i32⟩
  | 36 => ⟨S16x5000, .i32⟩
  | 37 => ⟨S16x5000, .i32⟩
  | 38 => ⟨S16x5000, .i32⟩
  | 39 => ⟨S16x5000, .i32⟩
  | 40 => ⟨S16x5000, .i32⟩
  | 41 => ⟨S16x5000, .i32⟩
  | 42 => ⟨S_, .i32⟩
  | 43 => ⟨S16x5000, .i32⟩
  | 44 => ⟨S16x5000, .i32⟩
  | 45 => ⟨S16x5000, .i32⟩
  | 46 => ⟨S_, .i32⟩
  | 47 => ⟨S16x5000, .i32⟩
  | 48 => ⟨S16x5000, .i32⟩
  | 49 => ⟨S_, .i32⟩
  | 50 => ⟨S16x5000, .i32⟩
  | 51 => ⟨S16x5000, .i32⟩
  | 52 => ⟨S16x5000, .i32⟩
  | 53 => ⟨S16x5000, .i32⟩
  | 54 => ⟨S16x5000, .i32⟩
  | 55 => ⟨S_, .i32⟩
  | 56 => ⟨S16x5000, .i32⟩
  | 57 => ⟨S16x5000, .i32⟩
  | 58 => ⟨S_, .i32⟩
  | 59 => ⟨S16x5000, .i32⟩
  | 60 => ⟨S16x5000, .i32⟩
  | 61 => ⟨S16x5000, .i32⟩
  | 62 => ⟨S16x5000, .i32⟩
  | 63 => ⟨S16x5000, .i32⟩
  | 64 => ⟨S_, .i32⟩
  | 65 => ⟨S16x5000, .i32⟩
  | 66 => ⟨S16x5000, .i32⟩
  | 67 => ⟨S_, .i32⟩
  | 68 => ⟨S16x5000, .i32⟩
  | 69 => ⟨S16x5000, .i32⟩
  | 70 => ⟨S16x5000, .i32⟩
  | 71 => ⟨S16x5000, .i32⟩
  | 72 => ⟨S16x5000, .i32⟩
  | 73 => ⟨S_, .i32⟩
  | 74 => ⟨S16x5000, .i32⟩
  | 75 => ⟨S16x5000, .i32⟩
  | 76 => ⟨S_, .i32⟩
  | 77 => ⟨S16x5000, .i32⟩
  | 78 => ⟨S16x5000, .i32⟩
  | 79 => ⟨S16x5000, .i32⟩
  | 80 => ⟨S16x5000, .i32⟩
  | 81 => ⟨S16x5000, .i32⟩
  | 82 => ⟨S16x5000, .i32⟩
  | 83 => ⟨S16x5000, .i32⟩
  | 84 => ⟨S16x5000, .i32⟩
  | 85 => ⟨S_, .i32⟩
  | 86 => ⟨S16x5000, .i32⟩
  | 87 => ⟨S16x5000, .i32⟩
  | 88 => ⟨S16x5000, .i32⟩
  | 89 => ⟨S_, .i32⟩
  | 90 => ⟨S16x5000, .i32⟩
  | 91 => ⟨S16x5000, .i32⟩
  | 92 => ⟨S_, .i32⟩
  | 93 => ⟨S16x5000, .i32⟩
  | 94 => ⟨S16x5000, .i32⟩
  | 95 => ⟨S16x5000, .i32⟩
  | 96 => ⟨S16x5000, .i32⟩
  | 97 => ⟨S16x5000, .i32⟩
  | 98 => ⟨S_, .i32⟩
  | 99 => ⟨S16x5000, .i32⟩
  | 100 => ⟨S16x5000, .i32⟩
  | 101 => ⟨S_, .i32⟩
  | 102 => ⟨S16x5000, .i32⟩
  | 103 => ⟨S16x5000, .i32⟩
  | 104 => ⟨S16x5000, .i32⟩
  | 105 => ⟨S16x5000, .i32⟩
  | 106 => ⟨S16x5000, .i32⟩
  | 107 => ⟨S_, .i32⟩
  | 108 => ⟨S16x5000, .i32⟩
  | 109 => ⟨S16x5000, .i32⟩
  | 110 => ⟨S_, .i32⟩
  | 111 => ⟨S16x5000, .i32⟩
  | 112 => ⟨S16x5000, .i32⟩
  | 113 => ⟨S16x5000, .i32⟩
  | 114 => ⟨S16x5000, .i32⟩
  | 115 => ⟨S16x5000, .i32⟩
  | 116 => ⟨S_, .i32⟩
  | 117 => ⟨S16x5000, .i32⟩
  | 118 => ⟨S16x5000, .i32⟩
  | 119 => ⟨S_, .i32⟩
  | 120 => ⟨S16x5000, .i32⟩
  | 121 => ⟨S16x5000, .i32⟩
  | 122 => ⟨S16x5000, .i32⟩
  | 123 => ⟨S16x5000, .i32⟩
  | 124 => ⟨S16x5000, .i32⟩
  | 125 => ⟨S16x5000, .i32⟩
  | 126 => ⟨S16x5000, .i32⟩
  | 127 => ⟨S16x5000, .i32⟩
  | _ => ⟨S16x5000x4, .f32⟩

abbrev hbmTy0_4 (i : Nat) : BufTy := match i % 128 with
  | 0 => ⟨S_, .i32⟩
  | 1 => ⟨S16x5000, .i32⟩
  | 2 => ⟨S16x5000, .i32⟩
  | 3 => ⟨S16x5000, .i32⟩
  | 4 => ⟨S1, .i32⟩
  | 5 => ⟨S_, .i32⟩
  | 6 => ⟨S1, .i32⟩
  | 7 => ⟨S_, .i32⟩
  | 8 => ⟨S16x5000, .i64⟩
  | 9 => ⟨S16x5000, .i64⟩
  | 10 => ⟨S_, .i64⟩
  | 11 => ⟨S16x5000, .i64⟩
  | 12 => ⟨S16x5000, .i64⟩
  | 13 => ⟨S_, .i64⟩
  | 14 => ⟨S16x5000, .i64⟩
  | 15 => ⟨S16x5000, .i64⟩
  | 16 => ⟨S16x5000, .i64⟩
  | 17 => ⟨S_, .i64⟩
  | 18 => ⟨S16x5000, .i64⟩
  | 19 => ⟨S16x5000, .i64⟩
  | 20 => ⟨S16x5000, .i32⟩
  | 21 => ⟨S16x5000, .i32⟩
  | 22 => ⟨S_, .i32⟩
  | 23 => ⟨S_, .i32⟩
  | 24 => ⟨S_, .i32⟩
  | 25 => ⟨S16x5000, .i32⟩
  | 26 => ⟨S16x5000, .i32⟩
  | 27 => ⟨S16x5000, .i32⟩
  | 28 => ⟨S16x5000, .i32⟩
  | 29 => ⟨S16x5000, .i32⟩
  | 30 => ⟨S_, .i32⟩
  | 31 => ⟨S16x5000, .i32⟩
  | 32 => ⟨S16x5000, .i32⟩
  | 33 => ⟨S_, .i32⟩
  | 34 => ⟨S16x5000, .i32⟩
  | 35 => ⟨S16x5000, .i32⟩
  | 36 => ⟨S16x5000, .i32⟩
  | 37 => ⟨S16x5000, .i32⟩
  | 38 => ⟨S16x5000, .i32⟩
  | 39 => ⟨S_, .i32⟩
  | 40 => ⟨S16x5000, .i32⟩
  | 41 => ⟨S16x5000, .i32⟩
  | 42 => ⟨S_, .i32⟩
  | 43 => ⟨S16x5000, .i32⟩
  | 44 => ⟨S16x5000, .i32⟩
  | 45 => ⟨S16x5000, .i32⟩
  | 46 => ⟨S16x5000, .i32⟩
  | 47 => ⟨S16x5000, .i32⟩
  | 48 => ⟨S_, .i32⟩
  | 49 => ⟨S16x5000, .i32⟩
  | 50 => ⟨S16x5000, .i32⟩
  | 51 => ⟨S_, .i32⟩
  | 52 => ⟨S16x5000, .i32⟩
  | 53 => ⟨S16x5000, .i32⟩
  | 54 => ⟨S16x5000, .i32⟩
  | 55 => ⟨S16x5000, .i32⟩
  | 56 => ⟨S16x5000, .i32⟩
  | 57 => ⟨S_, .i32⟩
  | 58 => ⟨S16x5000, .i32⟩
  | 59 => ⟨S16x5000, .i32⟩
  | 60 => ⟨S_, .i32⟩
  | 61 => ⟨S16x5000, .i32⟩
  | 62 => ⟨S16x5000, .i32⟩
  | 63 => ⟨S16x5000, .i32⟩
  | 64 => ⟨S16x5000, .i32⟩
  | 65 => ⟨S16x5000, .i32⟩
  | 66 => ⟨S16x5000, .i32⟩
  | 67 => ⟨S16x5000, .i32⟩
  | 68 => ⟨S16x5000, .i32⟩
  | 69 => ⟨S_, .i32⟩
  | 70 => ⟨S16x5000, .i32⟩
  | 71 => ⟨S16x5000, .i32⟩
  | 72 => ⟨S16x5000, .i32⟩
  | 73 => ⟨S_, .i32⟩
  | 74 => ⟨S16x5000, .i32⟩
  | 75 => ⟨S16x5000, .i32⟩
  | 76 => ⟨S_, .i32⟩
  | 77 => ⟨S16x5000, .i32⟩
  | 78 => ⟨S16x5000, .i32⟩
  | 79 => ⟨S16x5000, .i32⟩
  | 80 => ⟨S16x5000, .i32⟩
  | 81 => ⟨S16x5000, .i32⟩
  | 82 => ⟨S_, .i32⟩
  | 83 => ⟨S16x5000, .i32⟩
  | 84 => ⟨S16x5000, .i32⟩
  | 85 => ⟨S_, .i32⟩
  | 86 => ⟨S16x5000, .i32⟩
  | 87 => ⟨S16x5000, .i32⟩
  | 88 => ⟨S16x5000, .i32⟩
  | 89 => ⟨S16x5000, .i32⟩
  | 90 => ⟨S16x5000, .i32⟩
  | 91 => ⟨S_, .i32⟩
  | 92 => ⟨S16x5000, .i32⟩
  | 93 => ⟨S16x5000, .i32⟩
  | 94 => ⟨S_, .i32⟩
  | 95 => ⟨S16x5000, .i32⟩
  | 96 => ⟨S16x5000, .i32⟩
  | 97 => ⟨S16x5000, .i32⟩
  | 98 => ⟨S16x5000, .i32⟩
  | 99 => ⟨S16x5000, .i32⟩
  | 100 => ⟨S_, .i32⟩
  | 101 => ⟨S16x5000, .i32⟩
  | 102 => ⟨S16x5000, .i32⟩
  | 103 => ⟨S_, .i32⟩
  | 104 => ⟨S16x5000, .i32⟩
  | 105 => ⟨S16x5000, .i32⟩
  | 106 => ⟨S16x5000, .i32⟩
  | 107 => ⟨S16x5000, .i32⟩
  | 108 => ⟨S16x5000, .i32⟩
  | 109 => ⟨S16x5000, .i32⟩
  | 110 => ⟨S16x5000, .i32⟩
  | 111 => ⟨S16x5000, .i32⟩
  | 112 => ⟨S_, .i32⟩
  | 113 => ⟨S16x5000, .i32⟩
  | 114 => ⟨S16x5000, .i32⟩
  | 115 => ⟨S16x5000, .i32⟩
  | 116 => ⟨S_, .i32⟩
  | 117 => ⟨S16x5000, .i32⟩
  | 118 => ⟨S16x5000, .i32⟩
  | 119 => ⟨S_, .i32⟩
  | 120 => ⟨S16x5000, .i32⟩
  | 121 => ⟨S16x5000, .i32⟩
  | 122 => ⟨S16x5000, .i32⟩
  | 123 => ⟨S16x5000, .i32⟩
  | 124 => ⟨S16x5000, .i32⟩
  | 125 => ⟨S_, .i32⟩
  | 126 => ⟨S16x5000, .i32⟩
  | 127 => ⟨S16x5000, .i32⟩
  | _ => ⟨S16x5000x4, .f32⟩

abbrev hbmTy0_5 (i : Nat) : BufTy := match i % 128 with
  | 0 => ⟨S_, .i32⟩
  | 1 => ⟨S16x5000, .i32⟩
  | 2 => ⟨S16x5000, .i32⟩
  | 3 => ⟨S16x5000, .i32⟩
  | 4 => ⟨S16x5000, .i32⟩
  | 5 => ⟨S16x5000, .i32⟩
  | 6 => ⟨S_, .i32⟩
  | 7 => ⟨S16x5000, .i32⟩
  | 8 => ⟨S16x5000, .i32⟩
  | 9 => ⟨S_, .i32⟩
  | 10 => ⟨S16x5000, .i32⟩
  | 11 => ⟨S16x5000, .i32⟩
  | 12 => ⟨S16x5000, .i32⟩
  | 13 => ⟨S16x5000, .i32⟩
  | 14 => ⟨S16x5000, .i32⟩
  | 15 => ⟨S_, .i32⟩
  | 16 => ⟨S16x5000, .i32⟩
  | 17 => ⟨S16x5000, .i32⟩
  | 18 => ⟨S_, .i32⟩
  | 19 => ⟨S16x5000, .i32⟩
  | 20 => ⟨S16x5000, .i32⟩
  | 21 => ⟨S16x5000, .i32⟩
  | 22 => ⟨S16x5000, .i32⟩
  | 23 => ⟨S16x5000, .i32⟩
  | 24 => ⟨S16x5000, .i32⟩
  | 25 => ⟨S16x5000, .i32⟩
  | 26 => ⟨S16x5000, .i32⟩
  | 27 => ⟨S_, .i32⟩
  | 28 => ⟨S16x5000, .i32⟩
  | 29 => ⟨S16x5000, .i32⟩
  | 30 => ⟨S16x5000, .i32⟩
  | 31 => ⟨S_, .i32⟩
  | 32 => ⟨S16x5000, .i32⟩
  | 33 => ⟨S16x5000, .i32⟩
  | 34 => ⟨S_, .i32⟩
  | 35 => ⟨S16x5000, .i32⟩
  | 36 => ⟨S16x5000, .i32⟩
  | 37 => ⟨S16x5000, .i32⟩
  | 38 => ⟨S16x5000, .i32⟩
  | 39 => ⟨S16x5000, .i32⟩
  | 40 => ⟨S_, .i32⟩
  | 41 => ⟨S16x5000, .i32⟩
  | 42 => ⟨S16x5000, .i32⟩
  | 43 => ⟨S_, .i32⟩
  | 44 => ⟨S16x5000, .i32⟩
  | 45 => ⟨S16x5000, .i32⟩
  | 46 => ⟨S16x5000, .i32⟩
  | 47 => ⟨S16x5000, .i32⟩
  | 48 => ⟨S16x5000, .i32⟩
  | 49 => ⟨S_, .i32⟩
  | 50 => ⟨S16x5000, .i32⟩
  | 51 => ⟨S16x5000, .i32⟩
  | 52 => ⟨S_, .i32⟩
  | 53 => ⟨S16x5000, .i32⟩
  | 54 => ⟨S16x5000, .i32⟩
  | 55 => ⟨S16x5000, .i32⟩
  | 56 => ⟨S16x5000, .i32⟩
  | 57 => ⟨S16x5000, .i32⟩
  | 58 => ⟨S_, .i32⟩
  | 59 => ⟨S16x5000, .i32⟩
  | 60 => ⟨S16x5000, .i32⟩
  | 61 => ⟨S_, .i32⟩
  | 62 => ⟨S16x5000, .i32⟩
  | 63 => ⟨S16x5000, .i32⟩
  | 64 => ⟨S16x5000, .i32⟩
  | 65 => ⟨S16x5000, .i32⟩
  | 66 => ⟨S16x5000, .i32⟩
  | 67 => ⟨S16x5000, .i32⟩
  | 68 => ⟨S16x5000, .i32⟩
  | 69 => ⟨S16x5000, .i32⟩
  | 70 => ⟨S_, .i32⟩
  | 71 => ⟨S16x5000, .i32⟩
  | 72 => ⟨S16x5000, .i32⟩
  | 73 => ⟨S16x5000, .i32⟩
  | 74 => ⟨S_, .i32⟩
  | 75 => ⟨S16x5000, .i32⟩
  | 76 => ⟨S16x5000, .i32⟩
  | 77 => ⟨S_, .i32⟩
  | 78 => ⟨S16x5000, .i32⟩
  | 79 => ⟨S16x5000, .i32⟩
  | 80 => ⟨S16x5000, .i32⟩
  | 81 => ⟨S16x5000, .i32⟩
  | 82 => ⟨S16x5000, .i32⟩
  | 83 => ⟨S_, .i32⟩
  | 84 => ⟨S16x5000, .i32⟩
  | 85 => ⟨S16x5000, .i32⟩
  | 86 => ⟨S_, .i32⟩
  | 87 => ⟨S16x5000, .i32⟩
  | 88 => ⟨S16x5000, .i32⟩
  | 89 => ⟨S16x5000, .i32⟩
  | 90 => ⟨S16x5000, .i32⟩
  | 91 => ⟨S16x5000, .i32⟩
  | 92 => ⟨S_, .i32⟩
  | 93 => ⟨S16x5000, .i32⟩
  | 94 => ⟨S16x5000, .i32⟩
  | 95 => ⟨S_, .i32⟩
  | 96 => ⟨S16x5000, .i32⟩
  | 97 => ⟨S16x5000, .i32⟩
  | 98 => ⟨S16x5000, .i32⟩
  | 99 => ⟨S16x5000, .i32⟩
  | 100 => ⟨S16x5000, .i32⟩
  | 101 => ⟨S_, .i32⟩
  | 102 => ⟨S16x5000, .i32⟩
  | 103 => ⟨S16x5000, .i32⟩
  | 104 => ⟨S_, .i32⟩
  | 105 => ⟨S16x5000, .i32⟩
  | 106 => ⟨S16x5000, .i32⟩
  | 107 => ⟨S16x5000, .i32⟩
  | 108 => ⟨S16x5000, .i32⟩
  | 109 => ⟨S16x5000, .i32⟩
  | 110 => ⟨S16x5000, .i32⟩
  | 111 => ⟨S16x5000, .i32⟩
  | 112 => ⟨S16x5000, .i32⟩
  | 113 => ⟨S_, .i32⟩
  | 114 => ⟨S16x5000, .i32⟩
  | 115 => ⟨S16x5000, .i32⟩
  | 116 => ⟨S16x5000, .i32⟩
  | 117 => ⟨S1x1, .i32⟩
  | 118 => ⟨S1x1, .i32⟩
  | 119 => ⟨S1x1, .i1⟩
  | 120 => ⟨S_, .i32⟩
  | 121 => ⟨S1x1, .i32⟩
  | 122 => ⟨S1x1, .i32⟩
  | 123 => ⟨S1x1, .i1⟩
  | 124 => ⟨S1x1, .i1⟩
  | 125 => ⟨S1x1, .i1⟩
  | 126 => ⟨S_, .i32⟩
  | 127 => ⟨S1x1, .i32⟩
  | _ => ⟨S16x5000x4, .f32⟩

abbrev hbmTy0_6 (i : Nat) : BufTy := match i % 128 with
  | 0 => ⟨S1x1, .i32⟩
  | 1 => ⟨S1x1, .i32⟩
  | 2 => ⟨S_, .i32⟩
  | 3 => ⟨S1x1, .i32⟩
  | 4 => ⟨S1x1, .i32⟩
  | 5 => ⟨S1x1, .i32⟩
  | 6 => ⟨S1x1, .i32⟩
  | 7 => ⟨S16x5000, .i32⟩
  | 8 => ⟨S16x5000, .i32⟩
  | 9 => ⟨S16x5000, .i32⟩
  | 10 => ⟨S16x5000, .i32⟩
  | 11 => ⟨S16x5000, .i32⟩
  | 12 => ⟨S16x5000, .i32⟩
  | 13 => ⟨S16x5000, .i32⟩
  | 14 => ⟨S16x5000, .i32⟩
  | 15 => ⟨S16x5000, .i32⟩
  | 16 => ⟨S16x5000, .i32⟩
  | 17 => ⟨S16x5000, .i32⟩
  | 18 => ⟨S16x5000, .i32⟩
  | 19 => ⟨S_, .i32⟩
  | 20 => ⟨S_, .i32⟩
  | 21 => ⟨S16x5120, .i32⟩
  | 22 => ⟨S16x40x128, .i32⟩
  | 23 => ⟨S16x4x5000, .f32⟩
  | 24 => ⟨S_, .i32⟩
  | 25 => ⟨S_, .f32⟩
  | 26 => ⟨S16x4x5120, .f32⟩
  | 27 => ⟨S16x4x40x128, .f32⟩
  | 28 => ⟨S16x4x100, .f32⟩
  | 29 => ⟨S16x4x100x1, .f32⟩
  | 30 => ⟨S16x100x1, .i32⟩
  | 31 => ⟨S4x4x40x128, .f32⟩
  | 32 => ⟨S4x4x100x1, .f32⟩
  | 33 => ⟨S4x100x1, .i32⟩
  | 34 => ⟨S4x40x128, .i32⟩
  | 35 => ⟨S4x21x4x40x128, .f32⟩
  | 36 => ⟨S4x21x40x128, .f32⟩
  | 37 => ⟨S4x84x5120, .f32⟩
  | 38 => ⟨S4x5120x84, .f32⟩
  | 39 => ⟨S4x5000x84, .f32⟩
  | 40 => ⟨S4x21x5120, .f32⟩
  | 41 => ⟨S4x5120x21, .f32⟩
  | 42 => ⟨S4x5000x21, .f32⟩
  | 43 => ⟨S4x4x40x128, .f32⟩
  | 44 => ⟨S4x4x100x1, .f32⟩
  | 45 => ⟨S4x100x1, .i32⟩
  | 46 => ⟨S4x40x128, .i32⟩
  | 47 => ⟨S4x21x4x40x128, .f32⟩
  | 48 => ⟨S4x21x40x128, .f32⟩
  | 49 => ⟨S4x84x5120, .f32⟩
  | 50 => ⟨S4x5120x84, .f32⟩
  | 51 => ⟨S4x5000x84, .f32⟩
  | 52 => ⟨S4x21x5120, .f32⟩
  | 53 => ⟨S4x5120x21, .f32⟩
  | 54 => ⟨S4x5000x21, .f32⟩
  | 55 => ⟨S4x4x40x128, .f32⟩
  | 56 => ⟨S4x4x100x1, .f32⟩
  | 57 => ⟨S4x100x1, .i32⟩
  | 58 => ⟨S4x40x128, .i32⟩
  | 59 => ⟨S4x21x4x40x128, .f32⟩
  | 60 => ⟨S4x21x40x128, .f32⟩
  | 61 => ⟨S4x84x5120, .f32⟩
  | 62 => ⟨S4x5120x84, .f32⟩
  | 63 => ⟨S4x5000x84, .f32⟩
  | 64 => ⟨S4x21x5120, .f32⟩
  | 65 => ⟨S4x5120x21, .f32⟩
  | 66 => ⟨S4x5000x21, .f32⟩
  | 67 => ⟨S4x4x40x128, .f32⟩
  | 68 => ⟨S4x4x100x1, .f32⟩
  | 69 => ⟨S4x100x1, .i32⟩
  | 70 => ⟨S4x40x128, .i32⟩
  | 71 => ⟨S4x21x4x40x128, .f32⟩
  | 72 => ⟨S4x21x40x128, .f32⟩
  | 73 => ⟨S4x84x5120, .f32⟩
  | 74 => ⟨S4x5120x84, .f32⟩
  | 75 => ⟨S4x5000x84, .f32⟩
  | 76 => ⟨S4x21x5120, .f32⟩
  | 77 => ⟨S4x5120x21, .f32⟩
  | 78 => ⟨S4x5000x21, .f32⟩
  | 79 => ⟨S16x5000x84, .f32⟩
  | 80 => ⟨S16x5000x21, .f32⟩
  | 81 => ⟨S16x5000x21x4, .f32⟩
  | _ => ⟨S16x5000x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16x5000x4, .f32⟩

abbrev bufTy : (tb : Table) → Fin (tcTables nBuf tb) → BufTy
  | .hbm, ⟨i, _⟩ => hbmTy i
  | .local _ .vmem, ⟨0, _⟩ => ⟨S1x4x40x128, .f32⟩
  | .local _ .vmem, ⟨1, _⟩ => ⟨S1x4x40x128, .f32⟩
  | .local _ .vmem, ⟨2, _⟩ => ⟨S1x4x100x1, .f32⟩
  | .local _ .vmem, ⟨3, _⟩ => ⟨S1x4x100x1, .f32⟩
  | .local _ .vmem, ⟨4, _⟩ => ⟨S1x100x1, .i32⟩
  | .local _ .vmem, ⟨5, _⟩ => ⟨S1x100x1, .i32⟩
  | .local _ .vmem, ⟨6, _⟩ => ⟨S1x40x128, .i32⟩
  | .local _ .vmem, ⟨7, _⟩ => ⟨S1x40x128, .i32⟩
  | .local _ .vmem, ⟨8, _⟩ => ⟨S1x21x4x40x128, .f32⟩
  | .local _ .vmem, ⟨9, _⟩ => ⟨S1x21x4x40x128, .f32⟩
  | .local _ .vmem, ⟨10, _⟩ => ⟨S1x21x40x128, .f32⟩
  | .local _ .vmem, ⟨11, _⟩ => ⟨S1x21x40x128, .f32⟩
  | .local _ .vmem, ⟨12, _⟩ => ⟨S1x4x40x128, .f32⟩
  | .local _ .vmem, ⟨13, _⟩ => ⟨S1x4x40x128, .f32⟩
  | .local _ .vmem, ⟨14, _⟩ => ⟨S1x4x100x1, .f32⟩
  | .local _ .vmem, ⟨15, _⟩ => ⟨S1x4x100x1, .f32⟩
  | .local _ .vmem, ⟨16, _⟩ => ⟨S1x100x1, .i32⟩
  | .local _ .vmem, ⟨17, _⟩ => ⟨S1x100x1, .i32⟩
  | .local _ .vmem, ⟨18, _⟩ => ⟨S1x40x128, .i32⟩
  | .local _ .vmem, ⟨19, _⟩ => ⟨S1x40x128, .i32⟩
  | .local _ .vmem, ⟨20, _⟩ => ⟨S1x21x4x40x128, .f32⟩
  | .local _ .vmem, ⟨21, _⟩ => ⟨S1x21x4x40x128, .f32⟩
  | .local _ .vmem, ⟨22, _⟩ => ⟨S1x21x40x128, .f32⟩
  | .local _ .vmem, ⟨23, _⟩ => ⟨S1x21x40x128, .f32⟩
  | .local _ .vmem, ⟨24, _⟩ => ⟨S1x4x40x128, .f32⟩
  | .local _ .vmem, ⟨25, _⟩ => ⟨S1x4x40x128, .f32⟩
  | .local _ .vmem, ⟨26, _⟩ => ⟨S1x4x100x1, .f32⟩
  | .local _ .vmem, ⟨27, _⟩ => ⟨S1x4x100x1, .f32⟩
  | .local _ .vmem, ⟨28, _⟩ => ⟨S1x100x1, .i32⟩
  | .local _ .vmem, ⟨29, _⟩ => ⟨S1x100x1, .i32⟩
  | .local _ .vmem, ⟨30, _⟩ => ⟨S1x40x128, .i32⟩
  | .local _ .vmem, ⟨31, _⟩ => ⟨S1x40x128, .i32⟩
  | .local _ .vmem, ⟨32, _⟩ => ⟨S1x21x4x40x128, .f32⟩
  | .local _ .vmem, ⟨33, _⟩ => ⟨S1x21x4x40x128, .f32⟩
  | .local _ .vmem, ⟨34, _⟩ => ⟨S1x21x40x128, .f32⟩
  | .local _ .vmem, ⟨35, _⟩ => ⟨S1x21x40x128, .f32⟩
  | .local _ .vmem, ⟨36, _⟩ => ⟨S1x4x40x128, .f32⟩
  | .local _ .vmem, ⟨37, _⟩ => ⟨S1x4x40x128, .f32⟩
  | .local _ .vmem, ⟨38, _⟩ => ⟨S1x4x100x1, .f32⟩
  | .local _ .vmem, ⟨39, _⟩ => ⟨S1x4x100x1, .f32⟩
  | .local _ .vmem, ⟨40, _⟩ => ⟨S1x100x1, .i32⟩
  | .local _ .vmem, ⟨41, _⟩ => ⟨S1x100x1, .i32⟩
  | .local _ .vmem, ⟨42, _⟩ => ⟨S1x40x128, .i32⟩
  | .local _ .vmem, ⟨43, _⟩ => ⟨S1x40x128, .i32⟩
  | .local _ .vmem, ⟨44, _⟩ => ⟨S1x21x4x40x128, .f32⟩
  | .local _ .vmem, ⟨45, _⟩ => ⟨S1x21x4x40x128, .f32⟩
  | .local _ .vmem, ⟨46, _⟩ => ⟨S1x21x40x128, .f32⟩
  | .local _ .vmem, ⟨47, _⟩ => ⟨S1x21x40x128, .f32⟩
  | _, _ => ⟨S16x5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_c_1 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_c_3 : Ref sig .tc := ⟨.hbm, 14, rfl⟩
abbrev main_call0_call0_c : Ref sig .tc := ⟨.hbm, 15, rfl⟩
abbrev main_call0_call0_c_0 : Ref sig .tc := ⟨.hbm, 16, rfl⟩
abbrev main_call0_call0_c_1 : Ref sig .tc := ⟨.hbm, 17, rfl⟩
abbrev main_call0_call0_call0_v0 : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_c_2 : Ref sig .tc := ⟨.hbm, 21, rfl⟩
abbrev main_call0_call0_c_3 : Ref sig .tc := ⟨.hbm, 22, rfl⟩
abbrev main_call0_call0_call1_v0 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_c_4 : Ref sig .tc := ⟨.hbm, 26, rfl⟩
abbrev main_call0_call0_c_5 : Ref sig .tc := ⟨.hbm, 27, rfl⟩
abbrev main_call0_call0_call2_v0 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_call3_v0 : Ref sig .tc := ⟨.hbm, 33, rfl⟩
abbrev main_call0_call0_call3_v1 : Ref sig .tc := ⟨.hbm, 34, rfl⟩
abbrev main_call0_call0_call3_v2 : Ref sig .tc := ⟨.hbm, 35, rfl⟩
abbrev main_call0_call0_call3_v3 : Ref sig .tc := ⟨.hbm, 36, rfl⟩
abbrev main_call0_call0_call3_v4 : Ref sig .tc := ⟨.hbm, 37, rfl⟩
abbrev main_call0_call0_call3_c : Ref sig .tc := ⟨.hbm, 38, rfl⟩
abbrev main_call0_call0_call3_v5 : Ref sig .tc := ⟨.hbm, 39, rfl⟩
abbrev main_call0_call0_call3_v6 : Ref sig .tc := ⟨.hbm, 40, rfl⟩
abbrev main_call0_call0_call3_c_0 : Ref sig .tc := ⟨.hbm, 41, rfl⟩
abbrev main_call0_call0_call3_v7 : Ref sig .tc := ⟨.hbm, 42, rfl⟩
abbrev main_call0_call0_call3_v8 : Ref sig .tc := ⟨.hbm, 43, rfl⟩
abbrev main_call0_call0_call3_v9 : Ref sig .tc := ⟨.hbm, 44, rfl⟩
abbrev main_call0_call0_call3_v10 : Ref sig .tc := ⟨.hbm, 45, rfl⟩
abbrev main_call0_call0_call3_call0_v0 : Ref sig .tc := ⟨.hbm, 46, rfl⟩
abbrev main_call0_call0_call3_call0_c : Ref sig .tc := ⟨.hbm, 47, rfl⟩
abbrev main_call0_call0_call3_call0_v1 : Ref sig .tc := ⟨.hbm, 48, rfl⟩
abbrev main_call0_call0_call3_call0_v2 : Ref sig .tc := ⟨.hbm, 49, rfl⟩
abbrev main_call0_call0_call3_call0_v3 : Ref sig .tc := ⟨.hbm, 50, rfl⟩
abbrev main_call0_call0_call3_call0_v4 : Ref sig .tc := ⟨.hbm, 51, rfl⟩
abbrev main_call0_call0_call3_call0_v5 : Ref sig .tc := ⟨.hbm, 52, rfl⟩
abbrev main_call0_call0_call3_call0_v6 : Ref sig .tc := ⟨.hbm, 53, rfl⟩
abbrev main_call0_call0_call3_call0_c_0 : Ref sig .tc := ⟨.hbm, 54, rfl⟩
abbrev main_call0_call0_call3_call0_v7 : Ref sig .tc := ⟨.hbm, 55, rfl⟩
abbrev main_call0_call0_call3_call0_v8 : Ref sig .tc := ⟨.hbm, 56, rfl⟩
abbrev main_call0_call0_call3_call0_c_1 : Ref sig .tc := ⟨.hbm, 57, rfl⟩
abbrev main_call0_call0_call3_call0_v9 : Ref sig .tc := ⟨.hbm, 58, rfl⟩
abbrev main_call0_call0_call3_call0_v10 : Ref sig .tc := ⟨.hbm, 59, rfl⟩
abbrev main_call0_call0_call3_call0_v11 : Ref sig .tc := ⟨.hbm, 60, rfl⟩
abbrev main_call0_call0_call3_call0_v12 : Ref sig .tc := ⟨.hbm, 61, rfl⟩
abbrev main_call0_call0_call3_call0_v13 : Ref sig .tc := ⟨.hbm, 62, rfl⟩
abbrev main_call0_call0_call3_call0_c_2 : Ref sig .tc := ⟨.hbm, 63, rfl⟩
abbrev main_call0_call0_call3_call0_v14 : Ref sig .tc := ⟨.hbm, 64, rfl⟩
abbrev main_call0_call0_call3_call0_v15 : Ref sig .tc := ⟨.hbm, 65, rfl⟩
abbrev main_call0_call0_call3_call0_c_3 : Ref sig .tc := ⟨.hbm, 66, rfl⟩
abbrev main_call0_call0_call3_call0_v16 : Ref sig .tc := ⟨.hbm, 67, rfl⟩
abbrev main_call0_call0_call3_call0_v17 : Ref sig .tc := ⟨.hbm, 68, rfl⟩
abbrev main_call0_call0_call3_call0_v18 : Ref sig .tc := ⟨.hbm, 69, rfl⟩
abbrev main_call0_call0_call3_call0_v19 : Ref sig .tc := ⟨.hbm, 70, rfl⟩
abbrev main_call0_call0_call3_call0_v20 : Ref sig .tc := ⟨.hbm, 71, rfl⟩
abbrev main_call0_call0_call3_call0_c_4 : Ref sig .tc := ⟨.hbm, 72, rfl⟩
abbrev main_call0_call0_call3_call0_v21 : Ref sig .tc := ⟨.hbm, 73, rfl⟩
abbrev main_call0_call0_call3_call0_v22 : Ref sig .tc := ⟨.hbm, 74, rfl⟩
abbrev main_call0_call0_call3_call0_c_5 : Ref sig .tc := ⟨.hbm, 75, rfl⟩
abbrev main_call0_call0_call3_call0_v23 : Ref sig .tc := ⟨.hbm, 76, rfl⟩
abbrev main_call0_call0_call3_call0_v24 : Ref sig .tc := ⟨.hbm, 77, rfl⟩
abbrev main_call0_call0_call3_call0_v25 : Ref sig .tc := ⟨.hbm, 78, rfl⟩
abbrev main_call0_call0_call3_call0_v26 : Ref sig .tc := ⟨.hbm, 79, rfl⟩
abbrev main_call0_call0_call3_call0_v27 : Ref sig .tc := ⟨.hbm, 80, rfl⟩
abbrev main_call0_call0_call3_call0_c_6 : Ref sig .tc := ⟨.hbm, 81, rfl⟩
abbrev main_call0_call0_call3_call0_v28 : Ref sig .tc := ⟨.hbm, 82, rfl⟩
abbrev main_call0_call0_call3_call0_v29 : Ref sig .tc := ⟨.hbm, 83, rfl⟩
abbrev main_call0_call0_call3_call0_c_7 : Ref sig .tc := ⟨.hbm, 84, rfl⟩
abbrev main_call0_call0_call3_call0_v30 : Ref sig .tc := ⟨.hbm, 85, rfl⟩
abbrev main_call0_call0_call3_call0_v31 : Ref sig .tc := ⟨.hbm, 86, rfl⟩
abbrev main_call0_call0_call3_call0_v32 : Ref sig .tc := ⟨.hbm, 87, rfl⟩
abbrev main_call0_call0_call3_call0_v33 : Ref sig .tc := ⟨.hbm, 88, rfl⟩
abbrev main_call0_call0_call3_call0_v34 : Ref sig .tc := ⟨.hbm, 89, rfl⟩
abbrev main_call0_call0_call3_call0_v35 : Ref sig .tc := ⟨.hbm, 90, rfl⟩
abbrev main_call0_call0_call3_call0_v36 : Ref sig .tc := ⟨.hbm, 91, rfl⟩
abbrev main_call0_call0_call3_call0_v37 : Ref sig .tc := ⟨.hbm, 92, rfl⟩
abbrev main_call0_call0_call3_call0_c_8 : Ref sig .tc := ⟨.hbm, 93, rfl⟩
abbrev main_call0_call0_call3_call0_v38 : Ref sig .tc := ⟨.hbm, 94, rfl⟩
abbrev main_call0_call0_call3_call0_v39 : Ref sig .tc := ⟨.hbm, 95, rfl⟩
abbrev main_call0_call0_call3_call0_v40 : Ref sig .tc := ⟨.hbm, 96, rfl⟩
abbrev main_call0_call0_call3_call0_c_9 : Ref sig .tc := ⟨.hbm, 97, rfl⟩
abbrev main_call0_call0_call3_call0_v41 : Ref sig .tc := ⟨.hbm, 98, rfl⟩
abbrev main_call0_call0_call3_call0_v42 : Ref sig .tc := ⟨.hbm, 99, rfl⟩
abbrev main_call0_call0_call3_call0_c_10 : Ref sig .tc := ⟨.hbm, 100, rfl⟩
abbrev main_call0_call0_call3_call0_v43 : Ref sig .tc := ⟨.hbm, 101, rfl⟩
abbrev main_call0_call0_call3_call0_v44 : Ref sig .tc := ⟨.hbm, 102, rfl⟩
abbrev main_call0_call0_call3_call0_v45 : Ref sig .tc := ⟨.hbm, 103, rfl⟩
abbrev main_call0_call0_call3_call0_v46 : Ref sig .tc := ⟨.hbm, 104, rfl⟩
abbrev main_call0_call0_call3_call0_v47 : Ref sig .tc := ⟨.hbm, 105, rfl⟩
abbrev main_call0_call0_call3_call0_c_11 : Ref sig .tc := ⟨.hbm, 106, rfl⟩
abbrev main_call0_call0_call3_call0_v48 : Ref sig .tc := ⟨.hbm, 107, rfl⟩
abbrev main_call0_call0_call3_call0_v49 : Ref sig .tc := ⟨.hbm, 108, rfl⟩
abbrev main_call0_call0_call3_call0_c_12 : Ref sig .tc := ⟨.hbm, 109, rfl⟩
abbrev main_call0_call0_call3_call0_v50 : Ref sig .tc := ⟨.hbm, 110, rfl⟩
abbrev main_call0_call0_call3_call0_v51 : Ref sig .tc := ⟨.hbm, 111, rfl⟩
abbrev main_call0_call0_call3_call0_v52 : Ref sig .tc := ⟨.hbm, 112, rfl⟩
abbrev main_call0_call0_call3_call0_v53 : Ref sig .tc := ⟨.hbm, 113, rfl⟩
abbrev main_call0_call0_call3_call0_v54 : Ref sig .tc := ⟨.hbm, 114, rfl⟩
abbrev main_call0_call0_call3_call0_c_13 : Ref sig .tc := ⟨.hbm, 115, rfl⟩
abbrev main_call0_call0_call3_call0_v55 : Ref sig .tc := ⟨.hbm, 116, rfl⟩
abbrev main_call0_call0_call3_call0_v56 : Ref sig .tc := ⟨.hbm, 117, rfl⟩
abbrev main_call0_call0_call3_call0_c_14 : Ref sig .tc := ⟨.hbm, 118, rfl⟩
abbrev main_call0_call0_call3_call0_v57 : Ref sig .tc := ⟨.hbm, 119, rfl⟩
abbrev main_call0_call0_call3_call0_v58 : Ref sig .tc := ⟨.hbm, 120, rfl⟩
abbrev main_call0_call0_call3_call0_v59 : Ref sig .tc := ⟨.hbm, 121, rfl⟩
abbrev main_call0_call0_call3_call0_v60 : Ref sig .tc := ⟨.hbm, 122, rfl⟩
abbrev main_call0_call0_call3_call0_v61 : Ref sig .tc := ⟨.hbm, 123, rfl⟩
abbrev main_call0_call0_call3_call0_c_15 : Ref sig .tc := ⟨.hbm, 124, rfl⟩
abbrev main_call0_call0_call3_call0_v62 : Ref sig .tc := ⟨.hbm, 125, rfl⟩
abbrev main_call0_call0_call3_call0_v63 : Ref sig .tc := ⟨.hbm, 126, rfl⟩
abbrev main_call0_call0_call3_call0_c_16 : Ref sig .tc := ⟨.hbm, 127, rfl⟩
abbrev main_call0_call0_call3_call0_v64 : Ref sig .tc := ⟨.hbm, 128, rfl⟩
abbrev main_call0_call0_call3_call0_v65 : Ref sig .tc := ⟨.hbm, 129, rfl⟩
abbrev main_call0_call0_call3_call0_v66 : Ref sig .tc := ⟨.hbm, 130, rfl⟩
abbrev main_call0_call0_call3_call0_v67 : Ref sig .tc := ⟨.hbm, 131, rfl⟩
abbrev main_call0_call0_call3_call0_v68 : Ref sig .tc := ⟨.hbm, 132, rfl⟩
abbrev main_call0_call0_call3_call0_v69 : Ref sig .tc := ⟨.hbm, 133, rfl⟩
abbrev main_call0_call0_call3_call0_v70 : Ref sig .tc := ⟨.hbm, 134, rfl⟩
abbrev main_call0_call0_call3_call0_v71 : Ref sig .tc := ⟨.hbm, 135, rfl⟩
abbrev main_call0_call0_call3_call0_c_17 : Ref sig .tc := ⟨.hbm, 136, rfl⟩
abbrev main_call0_call0_call3_call0_v72 : Ref sig .tc := ⟨.hbm, 137, rfl⟩
abbrev main_call0_call0_call3_call0_v73 : Ref sig .tc := ⟨.hbm, 138, rfl⟩
abbrev main_call0_call0_call3_call0_v74 : Ref sig .tc := ⟨.hbm, 139, rfl⟩
abbrev main_call0_call0_call3_call0_c_18 : Ref sig .tc := ⟨.hbm, 140, rfl⟩
abbrev main_call0_call0_call3_call0_v75 : Ref sig .tc := ⟨.hbm, 141, rfl⟩
abbrev main_call0_call0_call3_call0_v76 : Ref sig .tc := ⟨.hbm, 142, rfl⟩
abbrev main_call0_call0_call3_call0_c_19 : Ref sig .tc := ⟨.hbm, 143, rfl⟩
abbrev main_call0_call0_call3_call0_v77 : Ref sig .tc := ⟨.hbm, 144, rfl⟩
abbrev main_call0_call0_call3_call0_v78 : Ref sig .tc := ⟨.hbm, 145, rfl⟩
abbrev main_call0_call0_call3_call0_v79 : Ref sig .tc := ⟨.hbm, 146, rfl⟩
abbrev main_call0_call0_call3_call0_v80 : Ref sig .tc := ⟨.hbm, 147, rfl⟩
abbrev main_call0_call0_call3_call0_v81 : Ref sig .tc := ⟨.hbm, 148, rfl⟩
abbrev main_call0_call0_call3_call0_c_20 : Ref sig .tc := ⟨.hbm, 149, rfl⟩
abbrev main_call0_call0_call3_call0_v82 : Ref sig .tc := ⟨.hbm, 150, rfl⟩
abbrev main_call0_call0_call3_call0_v83 : Ref sig .tc := ⟨.hbm, 151, rfl⟩
abbrev main_call0_call0_call3_call0_c_21 : Ref sig .tc := ⟨.hbm, 152, rfl⟩
abbrev main_call0_call0_call3_call0_v84 : Ref sig .tc := ⟨.hbm, 153, rfl⟩
abbrev main_call0_call0_call3_call0_v85 : Ref sig .tc := ⟨.hbm, 154, rfl⟩
abbrev main_call0_call0_call3_call0_v86 : Ref sig .tc := ⟨.hbm, 155, rfl⟩
abbrev main_call0_call0_call3_call0_v87 : Ref sig .tc := ⟨.hbm, 156, rfl⟩
abbrev main_call0_call0_call3_call0_v88 : Ref sig .tc := ⟨.hbm, 157, rfl⟩
abbrev main_call0_call0_call3_call0_c_22 : Ref sig .tc := ⟨.hbm, 158, rfl⟩
abbrev main_call0_call0_call3_call0_v89 : Ref sig .tc := ⟨.hbm, 159, rfl⟩
abbrev main_call0_call0_call3_call0_v90 : Ref sig .tc := ⟨.hbm, 160, rfl⟩
abbrev main_call0_call0_call3_call0_c_23 : Ref sig .tc := ⟨.hbm, 161, rfl⟩
abbrev main_call0_call0_call3_call0_v91 : Ref sig .tc := ⟨.hbm, 162, rfl⟩
abbrev main_call0_call0_call3_call0_v92 : Ref sig .tc := ⟨.hbm, 163, rfl⟩
abbrev main_call0_call0_call3_call0_v93 : Ref sig .tc := ⟨.hbm, 164, rfl⟩
abbrev main_call0_call0_call3_call0_v94 : Ref sig .tc := ⟨.hbm, 165, rfl⟩
abbrev main_call0_call0_call3_call0_v95 : Ref sig .tc := ⟨.hbm, 166, rfl⟩
abbrev main_call0_call0_call3_call0_c_24 : Ref sig .tc := ⟨.hbm, 167, rfl⟩
abbrev main_call0_call0_call3_call0_v96 : Ref sig .tc := ⟨.hbm, 168, rfl⟩
abbrev main_call0_call0_call3_call0_v97 : Ref sig .tc := ⟨.hbm, 169, rfl⟩
abbrev main_call0_call0_call3_call0_c_25 : Ref sig .tc := ⟨.hbm, 170, rfl⟩
abbrev main_call0_call0_call3_call0_v98 : Ref sig .tc := ⟨.hbm, 171, rfl⟩
abbrev main_call0_call0_call3_call0_v99 : Ref sig .tc := ⟨.hbm, 172, rfl⟩
abbrev main_call0_call0_call3_call0_v100 : Ref sig .tc := ⟨.hbm, 173, rfl⟩
abbrev main_call0_call0_call3_call0_v101 : Ref sig .tc := ⟨.hbm, 174, rfl⟩
abbrev main_call0_call0_call3_call0_v102 : Ref sig .tc := ⟨.hbm, 175, rfl⟩
abbrev main_call0_call0_call3_call0_v103 : Ref sig .tc := ⟨.hbm, 176, rfl⟩
abbrev main_call0_call0_call3_call0_v104 : Ref sig .tc := ⟨.hbm, 177, rfl⟩
abbrev main_call0_call0_call3_call0_v105 : Ref sig .tc := ⟨.hbm, 178, rfl⟩
abbrev main_call0_call0_call3_call0_c_26 : Ref sig .tc := ⟨.hbm, 179, rfl⟩
abbrev main_call0_call0_call3_call0_v106 : Ref sig .tc := ⟨.hbm, 180, rfl⟩
abbrev main_call0_call0_call3_call0_v107 : Ref sig .tc := ⟨.hbm, 181, rfl⟩
abbrev main_call0_call0_call3_call0_v108 : Ref sig .tc := ⟨.hbm, 182, rfl⟩
abbrev main_call0_call0_call3_call0_c_27 : Ref sig .tc := ⟨.hbm, 183, rfl⟩
abbrev main_call0_call0_call3_call0_v109 : Ref sig .tc := ⟨.hbm, 184, rfl⟩
abbrev main_call0_call0_call3_call0_v110 : Ref sig .tc := ⟨.hbm, 185, rfl⟩
abbrev main_call0_call0_call3_call0_c_28 : Ref sig .tc := ⟨.hbm, 186, rfl⟩
abbrev main_call0_call0_call3_call0_v111 : Ref sig .tc := ⟨.hbm, 187, rfl⟩
abbrev main_call0_call0_call3_call0_v112 : Ref sig .tc := ⟨.hbm, 188, rfl⟩
abbrev main_call0_call0_call3_call0_v113 : Ref sig .tc := ⟨.hbm, 189, rfl⟩
abbrev main_call0_call0_call3_call0_v114 : Ref sig .tc := ⟨.hbm, 190, rfl⟩
abbrev main_call0_call0_call3_call0_v115 : Ref sig .tc := ⟨.hbm, 191, rfl⟩
abbrev main_call0_call0_call3_call0_c_29 : Ref sig .tc := ⟨.hbm, 192, rfl⟩
abbrev main_call0_call0_call3_call0_v116 : Ref sig .tc := ⟨.hbm, 193, rfl⟩
abbrev main_call0_call0_call3_call0_v117 : Ref sig .tc := ⟨.hbm, 194, rfl⟩
abbrev main_call0_call0_call3_call0_c_30 : Ref sig .tc := ⟨.hbm, 195, rfl⟩
abbrev main_call0_call0_call3_call0_v118 : Ref sig .tc := ⟨.hbm, 196, rfl⟩
abbrev main_call0_call0_call3_call0_v119 : Ref sig .tc := ⟨.hbm, 197, rfl⟩
abbrev main_call0_call0_call3_call0_v120 : Ref sig .tc := ⟨.hbm, 198, rfl⟩
abbrev main_call0_call0_call3_call0_v121 : Ref sig .tc := ⟨.hbm, 199, rfl⟩
abbrev main_call0_call0_call3_call0_v122 : Ref sig .tc := ⟨.hbm, 200, rfl⟩
abbrev main_call0_call0_call3_call0_c_31 : Ref sig .tc := ⟨.hbm, 201, rfl⟩
abbrev main_call0_call0_call3_call0_v123 : Ref sig .tc := ⟨.hbm, 202, rfl⟩
abbrev main_call0_call0_call3_call0_v124 : Ref sig .tc := ⟨.hbm, 203, rfl⟩
abbrev main_call0_call0_call3_call0_c_32 : Ref sig .tc := ⟨.hbm, 204, rfl⟩
abbrev main_call0_call0_call3_call0_v125 : Ref sig .tc := ⟨.hbm, 205, rfl⟩
abbrev main_call0_call0_call3_call0_v126 : Ref sig .tc := ⟨.hbm, 206, rfl⟩
abbrev main_call0_call0_call3_call0_v127 : Ref sig .tc := ⟨.hbm, 207, rfl⟩
abbrev main_call0_call0_call3_call0_v128 : Ref sig .tc := ⟨.hbm, 208, rfl⟩
abbrev main_call0_call0_call3_call0_v129 : Ref sig .tc := ⟨.hbm, 209, rfl⟩
abbrev main_call0_call0_call3_call0_c_33 : Ref sig .tc := ⟨.hbm, 210, rfl⟩
abbrev main_call0_call0_call3_call0_v130 : Ref sig .tc := ⟨.hbm, 211, rfl⟩
abbrev main_call0_call0_call3_call0_v131 : Ref sig .tc := ⟨.hbm, 212, rfl⟩
abbrev main_call0_call0_call3_call0_c_34 : Ref sig .tc := ⟨.hbm, 213, rfl⟩
abbrev main_call0_call0_call3_call0_v132 : Ref sig .tc := ⟨.hbm, 214, rfl⟩
abbrev main_call0_call0_call3_call0_v133 : Ref sig .tc := ⟨.hbm, 215, rfl⟩
abbrev main_call0_call0_call3_call0_v134 : Ref sig .tc := ⟨.hbm, 216, rfl⟩
abbrev main_call0_call0_call3_call0_v135 : Ref sig .tc := ⟨.hbm, 217, rfl⟩
abbrev main_call0_call0_call3_call0_v136 : Ref sig .tc := ⟨.hbm, 218, rfl⟩
abbrev main_call0_call0_call3_call0_v137 : Ref sig .tc := ⟨.hbm, 219, rfl⟩
abbrev main_call0_call0_call3_call0_v138 : Ref sig .tc := ⟨.hbm, 220, rfl⟩
abbrev main_call0_call0_call3_call0_v139 : Ref sig .tc := ⟨.hbm, 221, rfl⟩
abbrev main_call0_call0_call3_call0_c_35 : Ref sig .tc := ⟨.hbm, 222, rfl⟩
abbrev main_call0_call0_call3_call0_v140 : Ref sig .tc := ⟨.hbm, 223, rfl⟩
abbrev main_call0_call0_call3_call0_v141 : Ref sig .tc := ⟨.hbm, 224, rfl⟩
abbrev main_call0_call0_call3_call0_v142 : Ref sig .tc := ⟨.hbm, 225, rfl⟩
abbrev main_call0_call0_call3_call0_c_36 : Ref sig .tc := ⟨.hbm, 226, rfl⟩
abbrev main_call0_call0_call3_call0_v143 : Ref sig .tc := ⟨.hbm, 227, rfl⟩
abbrev main_call0_call0_call3_call0_v144 : Ref sig .tc := ⟨.hbm, 228, rfl⟩
abbrev main_call0_call0_call3_call0_c_37 : Ref sig .tc := ⟨.hbm, 229, rfl⟩
abbrev main_call0_call0_call3_call0_v145 : Ref sig .tc := ⟨.hbm, 230, rfl⟩
abbrev main_call0_call0_call3_call0_v146 : Ref sig .tc := ⟨.hbm, 231, rfl⟩
abbrev main_call0_call0_call3_call0_v147 : Ref sig .tc := ⟨.hbm, 232, rfl⟩
abbrev main_call0_call0_call3_call0_v148 : Ref sig .tc := ⟨.hbm, 233, rfl⟩
abbrev main_call0_call0_call3_call0_v149 : Ref sig .tc := ⟨.hbm, 234, rfl⟩
abbrev main_call0_call0_call3_call0_c_38 : Ref sig .tc := ⟨.hbm, 235, rfl⟩
abbrev main_call0_call0_call3_call0_v150 : Ref sig .tc := ⟨.hbm, 236, rfl⟩
abbrev main_call0_call0_call3_call0_v151 : Ref sig .tc := ⟨.hbm, 237, rfl⟩
abbrev main_call0_call0_call3_call0_c_39 : Ref sig .tc := ⟨.hbm, 238, rfl⟩
abbrev main_call0_call0_call3_call0_v152 : Ref sig .tc := ⟨.hbm, 239, rfl⟩
abbrev main_call0_call0_call3_call0_v153 : Ref sig .tc := ⟨.hbm, 240, rfl⟩
abbrev main_call0_call0_call3_call0_v154 : Ref sig .tc := ⟨.hbm, 241, rfl⟩
abbrev main_call0_call0_call3_call0_v155 : Ref sig .tc := ⟨.hbm, 242, rfl⟩
abbrev main_call0_call0_call3_call0_v156 : Ref sig .tc := ⟨.hbm, 243, rfl⟩
abbrev main_call0_call0_call3_call0_c_40 : Ref sig .tc := ⟨.hbm, 244, rfl⟩
abbrev main_call0_call0_call3_call0_v157 : Ref sig .tc := ⟨.hbm, 245, rfl⟩
abbrev main_call0_call0_call3_call0_v158 : Ref sig .tc := ⟨.hbm, 246, rfl⟩
abbrev main_call0_call0_call3_call0_c_41 : Ref sig .tc := ⟨.hbm, 247, rfl⟩
abbrev main_call0_call0_call3_call0_v159 : Ref sig .tc := ⟨.hbm, 248, rfl⟩
abbrev main_call0_call0_call3_call0_v160 : Ref sig .tc := ⟨.hbm, 249, rfl⟩
abbrev main_call0_call0_call3_call0_v161 : Ref sig .tc := ⟨.hbm, 250, rfl⟩
abbrev main_call0_call0_call3_call0_v162 : Ref sig .tc := ⟨.hbm, 251, rfl⟩
abbrev main_call0_call0_call3_call0_v163 : Ref sig .tc := ⟨.hbm, 252, rfl⟩
abbrev main_call0_call0_call3_call0_c_42 : Ref sig .tc := ⟨.hbm, 253, rfl⟩
abbrev main_call0_call0_call3_call0_v164 : Ref sig .tc := ⟨.hbm, 254, rfl⟩
abbrev main_call0_call0_call3_call0_v165 : Ref sig .tc := ⟨.hbm, 255, rfl⟩
abbrev main_call0_call0_call3_call0_c_43 : Ref sig .tc := ⟨.hbm, 256, rfl⟩
abbrev main_call0_call0_call3_call0_v166 : Ref sig .tc := ⟨.hbm, 257, rfl⟩
abbrev main_call0_call0_call3_call0_v167 : Ref sig .tc := ⟨.hbm, 258, rfl⟩
abbrev main_call0_call0_call3_call0_v168 : Ref sig .tc := ⟨.hbm, 259, rfl⟩
abbrev main_call0_call0_call3_call0_v169 : Ref sig .tc := ⟨.hbm, 260, rfl⟩
abbrev main_call0_call0_call3_call0_v170 : Ref sig .tc := ⟨.hbm, 261, rfl⟩
abbrev main_call0_call0_call3_v11_0 : Ref sig .tc := ⟨.hbm, 262, rfl⟩
abbrev main_call0_call0_call3_call0_v172 : Ref sig .tc := ⟨.hbm, 263, rfl⟩
abbrev main_call0_call0_call3_call0_v173 : Ref sig .tc := ⟨.hbm, 264, rfl⟩
abbrev main_call0_call0_call3_call0_c_44 : Ref sig .tc := ⟨.hbm, 265, rfl⟩
abbrev main_call0_call0_call3_call0_v174 : Ref sig .tc := ⟨.hbm, 266, rfl⟩
abbrev main_call0_call0_call3_v11_1 : Ref sig .tc := ⟨.hbm, 267, rfl⟩
abbrev main_call0_call0_call3_v12 : Ref sig .tc := ⟨.hbm, 268, rfl⟩
abbrev main_call0_call0_call3_v13 : Ref sig .tc := ⟨.hbm, 269, rfl⟩
abbrev main_call0_call0_v8 : Ref sig .tc := ⟨.hbm, 270, rfl⟩
abbrev main_call0_call0_v9 : Ref sig .tc := ⟨.hbm, 271, rfl⟩
abbrev main_call0_call0_v10 : Ref sig .tc := ⟨.hbm, 272, rfl⟩
abbrev main_call0_call0_v11 : Ref sig .tc := ⟨.hbm, 273, rfl⟩
abbrev main_call0_call0_v12 : Ref sig .tc := ⟨.hbm, 274, rfl⟩
abbrev main_call0_call0_v13 : Ref sig .tc := ⟨.hbm, 275, rfl⟩
abbrev main_call0_call0_v14 : Ref sig .tc := ⟨.hbm, 276, rfl⟩
abbrev main_call0_call0_v15 : Ref sig .tc := ⟨.hbm, 277, rfl⟩
abbrev main_call0_call0_v16 : Ref sig .tc := ⟨.hbm, 278, rfl⟩
abbrev main_call0_call0_v17 : Ref sig .tc := ⟨.hbm, 279, rfl⟩
abbrev main_call0_call0_v18 : Ref sig .tc := ⟨.hbm, 280, rfl⟩
abbrev main_call0_call0_c_6 : Ref sig .tc := ⟨.hbm, 281, rfl⟩
abbrev main_call0_call0_v19 : Ref sig .tc := ⟨.hbm, 282, rfl⟩
abbrev main_call0_call0_v20 : Ref sig .tc := ⟨.hbm, 283, rfl⟩
abbrev main_call0_call0_c_7 : Ref sig .tc := ⟨.hbm, 284, rfl⟩
abbrev main_call0_call0_v21 : Ref sig .tc := ⟨.hbm, 285, rfl⟩
abbrev main_call0_call0_v22 : Ref sig .tc := ⟨.hbm, 286, rfl⟩
abbrev main_call0_call0_v23 : Ref sig .tc := ⟨.hbm, 287, rfl⟩
abbrev main_call0_call0_c_8 : Ref sig .tc := ⟨.hbm, 288, rfl⟩
abbrev main_call0_call0_v24 : Ref sig .tc := ⟨.hbm, 289, rfl⟩
abbrev main_call0_call0_v25 : Ref sig .tc := ⟨.hbm, 290, rfl⟩
abbrev main_call0_call0_v26 : Ref sig .tc := ⟨.hbm, 291, rfl⟩
abbrev main_call0_call0_v27 : Ref sig .tc := ⟨.hbm, 292, rfl⟩
abbrev main_call0_call0_call4_v0 : Ref sig .tc := ⟨.hbm, 293, rfl⟩
abbrev main_call0_call0_call4_c : Ref sig .tc := ⟨.hbm, 294, rfl⟩
abbrev main_call0_call0_call4_v1 : Ref sig .tc := ⟨.hbm, 295, rfl⟩
abbrev main_call0_call0_call4_v2 : Ref sig .tc := ⟨.hbm, 296, rfl⟩
abbrev main_call0_call0_call4_v3 : Ref sig .tc := ⟨.hbm, 297, rfl⟩
abbrev main_call0_call0_call4_v4 : Ref sig .tc := ⟨.hbm, 298, rfl⟩
abbrev main_call0_call0_call4_v5 : Ref sig .tc := ⟨.hbm, 299, rfl⟩
abbrev main_call0_call0_call4_v6 : Ref sig .tc := ⟨.hbm, 300, rfl⟩
abbrev main_call0_call0_call4_c_0 : Ref sig .tc := ⟨.hbm, 301, rfl⟩
abbrev main_call0_call0_call4_v7 : Ref sig .tc := ⟨.hbm, 302, rfl⟩
abbrev main_call0_call0_call4_v8 : Ref sig .tc := ⟨.hbm, 303, rfl⟩
abbrev main_call0_call0_call4_c_1 : Ref sig .tc := ⟨.hbm, 304, rfl⟩
abbrev main_call0_call0_call4_v9 : Ref sig .tc := ⟨.hbm, 305, rfl⟩
abbrev main_call0_call0_call4_v10 : Ref sig .tc := ⟨.hbm, 306, rfl⟩
abbrev main_call0_call0_call4_v11 : Ref sig .tc := ⟨.hbm, 307, rfl⟩
abbrev main_call0_call0_call4_v12 : Ref sig .tc := ⟨.hbm, 308, rfl⟩
abbrev main_call0_call0_call4_v13 : Ref sig .tc := ⟨.hbm, 309, rfl⟩
abbrev main_call0_call0_call4_c_2 : Ref sig .tc := ⟨.hbm, 310, rfl⟩
abbrev main_call0_call0_call4_v14 : Ref sig .tc := ⟨.hbm, 311, rfl⟩
abbrev main_call0_call0_call4_v15 : Ref sig .tc := ⟨.hbm, 312, rfl⟩
abbrev main_call0_call0_call4_c_3 : Ref sig .tc := ⟨.hbm, 313, rfl⟩
abbrev main_call0_call0_call4_v16 : Ref sig .tc := ⟨.hbm, 314, rfl⟩
abbrev main_call0_call0_call4_v17 : Ref sig .tc := ⟨.hbm, 315, rfl⟩
abbrev main_call0_call0_call4_v18 : Ref sig .tc := ⟨.hbm, 316, rfl⟩
abbrev main_call0_call0_call4_v19 : Ref sig .tc := ⟨.hbm, 317, rfl⟩
abbrev main_call0_call0_call4_v20 : Ref sig .tc := ⟨.hbm, 318, rfl⟩
abbrev main_call0_call0_call4_c_4 : Ref sig .tc := ⟨.hbm, 319, rfl⟩
abbrev main_call0_call0_call4_v21 : Ref sig .tc := ⟨.hbm, 320, rfl⟩
abbrev main_call0_call0_call4_v22 : Ref sig .tc := ⟨.hbm, 321, rfl⟩
abbrev main_call0_call0_call4_c_5 : Ref sig .tc := ⟨.hbm, 322, rfl⟩
abbrev main_call0_call0_call4_v23 : Ref sig .tc := ⟨.hbm, 323, rfl⟩
abbrev main_call0_call0_call4_v24 : Ref sig .tc := ⟨.hbm, 324, rfl⟩
abbrev main_call0_call0_call4_v25 : Ref sig .tc := ⟨.hbm, 325, rfl⟩
abbrev main_call0_call0_call4_v26 : Ref sig .tc := ⟨.hbm, 326, rfl⟩
abbrev main_call0_call0_call4_v27 : Ref sig .tc := ⟨.hbm, 327, rfl⟩
abbrev main_call0_call0_call4_c_6 : Ref sig .tc := ⟨.hbm, 328, rfl⟩
abbrev main_call0_call0_call4_v28 : Ref sig .tc := ⟨.hbm, 329, rfl⟩
abbrev main_call0_call0_call4_v29 : Ref sig .tc := ⟨.hbm, 330, rfl⟩
abbrev main_call0_call0_call4_c_7 : Ref sig .tc := ⟨.hbm, 331, rfl⟩
abbrev main_call0_call0_call4_v30 : Ref sig .tc := ⟨.hbm, 332, rfl⟩
abbrev main_call0_call0_call4_v31 : Ref sig .tc := ⟨.hbm, 333, rfl⟩
abbrev main_call0_call0_call4_v32 : Ref sig .tc := ⟨.hbm, 334, rfl⟩
abbrev main_call0_call0_call4_v33 : Ref sig .tc := ⟨.hbm, 335, rfl⟩
abbrev main_call0_call0_call4_v34 : Ref sig .tc := ⟨.hbm, 336, rfl⟩
abbrev main_call0_call0_call4_v35 : Ref sig .tc := ⟨.hbm, 337, rfl⟩
abbrev main_call0_call0_call4_v36 : Ref sig .tc := ⟨.hbm, 338, rfl⟩
abbrev main_call0_call0_call4_v37 : Ref sig .tc := ⟨.hbm, 339, rfl⟩
abbrev main_call0_call0_call4_c_8 : Ref sig .tc := ⟨.hbm, 340, rfl⟩
abbrev main_call0_call0_call4_v38 : Ref sig .tc := ⟨.hbm, 341, rfl⟩
abbrev main_call0_call0_call4_v39 : Ref sig .tc := ⟨.hbm, 342, rfl⟩
abbrev main_call0_call0_call4_v40 : Ref sig .tc := ⟨.hbm, 343, rfl⟩
abbrev main_call0_call0_call4_c_9 : Ref sig .tc := ⟨.hbm, 344, rfl⟩
abbrev main_call0_call0_call4_v41 : Ref sig .tc := ⟨.hbm, 345, rfl⟩
abbrev main_call0_call0_call4_v42 : Ref sig .tc := ⟨.hbm, 346, rfl⟩
abbrev main_call0_call0_call4_c_10 : Ref sig .tc := ⟨.hbm, 347, rfl⟩
abbrev main_call0_call0_call4_v43 : Ref sig .tc := ⟨.hbm, 348, rfl⟩
abbrev main_call0_call0_call4_v44 : Ref sig .tc := ⟨.hbm, 349, rfl⟩
abbrev main_call0_call0_call4_v45 : Ref sig .tc := ⟨.hbm, 350, rfl⟩
abbrev main_call0_call0_call4_v46 : Ref sig .tc := ⟨.hbm, 351, rfl⟩
abbrev main_call0_call0_call4_v47 : Ref sig .tc := ⟨.hbm, 352, rfl⟩
abbrev main_call0_call0_call4_c_11 : Ref sig .tc := ⟨.hbm, 353, rfl⟩
abbrev main_call0_call0_call4_v48 : Ref sig .tc := ⟨.hbm, 354, rfl⟩
abbrev main_call0_call0_call4_v49 : Ref sig .tc := ⟨.hbm, 355, rfl⟩
abbrev main_call0_call0_call4_c_12 : Ref sig .tc := ⟨.hbm, 356, rfl⟩
abbrev main_call0_call0_call4_v50 : Ref sig .tc := ⟨.hbm, 357, rfl⟩
abbrev main_call0_call0_call4_v51 : Ref sig .tc := ⟨.hbm, 358, rfl⟩
abbrev main_call0_call0_call4_v52 : Ref sig .tc := ⟨.hbm, 359, rfl⟩
abbrev main_call0_call0_call4_v53 : Ref sig .tc := ⟨.hbm, 360, rfl⟩
abbrev main_call0_call0_call4_v54 : Ref sig .tc := ⟨.hbm, 361, rfl⟩
abbrev main_call0_call0_call4_c_13 : Ref sig .tc := ⟨.hbm, 362, rfl⟩
abbrev main_call0_call0_call4_v55 : Ref sig .tc := ⟨.hbm, 363, rfl⟩
abbrev main_call0_call0_call4_v56 : Ref sig .tc := ⟨.hbm, 364, rfl⟩
abbrev main_call0_call0_call4_c_14 : Ref sig .tc := ⟨.hbm, 365, rfl⟩
abbrev main_call0_call0_call4_v57 : Ref sig .tc := ⟨.hbm, 366, rfl⟩
abbrev main_call0_call0_call4_v58 : Ref sig .tc := ⟨.hbm, 367, rfl⟩
abbrev main_call0_call0_call4_v59 : Ref sig .tc := ⟨.hbm, 368, rfl⟩
abbrev main_call0_call0_call4_v60 : Ref sig .tc := ⟨.hbm, 369, rfl⟩
abbrev main_call0_call0_call4_v61 : Ref sig .tc := ⟨.hbm, 370, rfl⟩
abbrev main_call0_call0_call4_c_15 : Ref sig .tc := ⟨.hbm, 371, rfl⟩
abbrev main_call0_call0_call4_v62 : Ref sig .tc := ⟨.hbm, 372, rfl⟩
abbrev main_call0_call0_call4_v63 : Ref sig .tc := ⟨.hbm, 373, rfl⟩
abbrev main_call0_call0_call4_c_16 : Ref sig .tc := ⟨.hbm, 374, rfl⟩
abbrev main_call0_call0_call4_v64 : Ref sig .tc := ⟨.hbm, 375, rfl⟩
abbrev main_call0_call0_call4_v65 : Ref sig .tc := ⟨.hbm, 376, rfl⟩
abbrev main_call0_call0_call4_v66 : Ref sig .tc := ⟨.hbm, 377, rfl⟩
abbrev main_call0_call0_call4_v67 : Ref sig .tc := ⟨.hbm, 378, rfl⟩
abbrev main_call0_call0_call4_v68 : Ref sig .tc := ⟨.hbm, 379, rfl⟩
abbrev main_call0_call0_call4_v69 : Ref sig .tc := ⟨.hbm, 380, rfl⟩
abbrev main_call0_call0_call4_v70 : Ref sig .tc := ⟨.hbm, 381, rfl⟩
abbrev main_call0_call0_call4_v71 : Ref sig .tc := ⟨.hbm, 382, rfl⟩
abbrev main_call0_call0_call4_c_17 : Ref sig .tc := ⟨.hbm, 383, rfl⟩
abbrev main_call0_call0_call4_v72 : Ref sig .tc := ⟨.hbm, 384, rfl⟩
abbrev main_call0_call0_call4_v73 : Ref sig .tc := ⟨.hbm, 385, rfl⟩
abbrev main_call0_call0_call4_v74 : Ref sig .tc := ⟨.hbm, 386, rfl⟩
abbrev main_call0_call0_call4_c_18 : Ref sig .tc := ⟨.hbm, 387, rfl⟩
abbrev main_call0_call0_call4_v75 : Ref sig .tc := ⟨.hbm, 388, rfl⟩
abbrev main_call0_call0_call4_v76 : Ref sig .tc := ⟨.hbm, 389, rfl⟩
abbrev main_call0_call0_call4_c_19 : Ref sig .tc := ⟨.hbm, 390, rfl⟩
abbrev main_call0_call0_call4_v77 : Ref sig .tc := ⟨.hbm, 391, rfl⟩
abbrev main_call0_call0_call4_v78 : Ref sig .tc := ⟨.hbm, 392, rfl⟩
abbrev main_call0_call0_call4_v79 : Ref sig .tc := ⟨.hbm, 393, rfl⟩
abbrev main_call0_call0_call4_v80 : Ref sig .tc := ⟨.hbm, 394, rfl⟩
abbrev main_call0_call0_call4_v81 : Ref sig .tc := ⟨.hbm, 395, rfl⟩
abbrev main_call0_call0_call4_c_20 : Ref sig .tc := ⟨.hbm, 396, rfl⟩
abbrev main_call0_call0_call4_v82 : Ref sig .tc := ⟨.hbm, 397, rfl⟩
abbrev main_call0_call0_call4_v83 : Ref sig .tc := ⟨.hbm, 398, rfl⟩
abbrev main_call0_call0_call4_c_21 : Ref sig .tc := ⟨.hbm, 399, rfl⟩
abbrev main_call0_call0_call4_v84 : Ref sig .tc := ⟨.hbm, 400, rfl⟩
abbrev main_call0_call0_call4_v85 : Ref sig .tc := ⟨.hbm, 401, rfl⟩
abbrev main_call0_call0_call4_v86 : Ref sig .tc := ⟨.hbm, 402, rfl⟩
abbrev main_call0_call0_call4_v87 : Ref sig .tc := ⟨.hbm, 403, rfl⟩
abbrev main_call0_call0_call4_v88 : Ref sig .tc := ⟨.hbm, 404, rfl⟩
abbrev main_call0_call0_call4_c_22 : Ref sig .tc := ⟨.hbm, 405, rfl⟩
abbrev main_call0_call0_call4_v89 : Ref sig .tc := ⟨.hbm, 406, rfl⟩
abbrev main_call0_call0_call4_v90 : Ref sig .tc := ⟨.hbm, 407, rfl⟩
abbrev main_call0_call0_call4_c_23 : Ref sig .tc := ⟨.hbm, 408, rfl⟩
abbrev main_call0_call0_call4_v91 : Ref sig .tc := ⟨.hbm, 409, rfl⟩
abbrev main_call0_call0_call4_v92 : Ref sig .tc := ⟨.hbm, 410, rfl⟩
abbrev main_call0_call0_call4_v93 : Ref sig .tc := ⟨.hbm, 411, rfl⟩
abbrev main_call0_call0_call4_v94 : Ref sig .tc := ⟨.hbm, 412, rfl⟩
abbrev main_call0_call0_call4_v95 : Ref sig .tc := ⟨.hbm, 413, rfl⟩
abbrev main_call0_call0_call4_c_24 : Ref sig .tc := ⟨.hbm, 414, rfl⟩
abbrev main_call0_call0_call4_v96 : Ref sig .tc := ⟨.hbm, 415, rfl⟩
abbrev main_call0_call0_call4_v97 : Ref sig .tc := ⟨.hbm, 416, rfl⟩
abbrev main_call0_call0_call4_c_25 : Ref sig .tc := ⟨.hbm, 417, rfl⟩
abbrev main_call0_call0_call4_v98 : Ref sig .tc := ⟨.hbm, 418, rfl⟩
abbrev main_call0_call0_call4_v99 : Ref sig .tc := ⟨.hbm, 419, rfl⟩
abbrev main_call0_call0_call4_v100 : Ref sig .tc := ⟨.hbm, 420, rfl⟩
abbrev main_call0_call0_call4_v101 : Ref sig .tc := ⟨.hbm, 421, rfl⟩
abbrev main_call0_call0_call4_v102 : Ref sig .tc := ⟨.hbm, 422, rfl⟩
abbrev main_call0_call0_call4_v103 : Ref sig .tc := ⟨.hbm, 423, rfl⟩
abbrev main_call0_call0_call4_v104 : Ref sig .tc := ⟨.hbm, 424, rfl⟩
abbrev main_call0_call0_call4_v105 : Ref sig .tc := ⟨.hbm, 425, rfl⟩
abbrev main_call0_call0_call4_c_26 : Ref sig .tc := ⟨.hbm, 426, rfl⟩
abbrev main_call0_call0_call4_v106 : Ref sig .tc := ⟨.hbm, 427, rfl⟩
abbrev main_call0_call0_call4_v107 : Ref sig .tc := ⟨.hbm, 428, rfl⟩
abbrev main_call0_call0_call4_v108 : Ref sig .tc := ⟨.hbm, 429, rfl⟩
abbrev main_call0_call0_call4_c_27 : Ref sig .tc := ⟨.hbm, 430, rfl⟩
abbrev main_call0_call0_call4_v109 : Ref sig .tc := ⟨.hbm, 431, rfl⟩
abbrev main_call0_call0_call4_v110 : Ref sig .tc := ⟨.hbm, 432, rfl⟩
abbrev main_call0_call0_call4_c_28 : Ref sig .tc := ⟨.hbm, 433, rfl⟩
abbrev main_call0_call0_call4_v111 : Ref sig .tc := ⟨.hbm, 434, rfl⟩
abbrev main_call0_call0_call4_v112 : Ref sig .tc := ⟨.hbm, 435, rfl⟩
abbrev main_call0_call0_call4_v113 : Ref sig .tc := ⟨.hbm, 436, rfl⟩
abbrev main_call0_call0_call4_v114 : Ref sig .tc := ⟨.hbm, 437, rfl⟩
abbrev main_call0_call0_call4_v115 : Ref sig .tc := ⟨.hbm, 438, rfl⟩
abbrev main_call0_call0_call4_c_29 : Ref sig .tc := ⟨.hbm, 439, rfl⟩
abbrev main_call0_call0_call4_v116 : Ref sig .tc := ⟨.hbm, 440, rfl⟩
abbrev main_call0_call0_call4_v117 : Ref sig .tc := ⟨.hbm, 441, rfl⟩
abbrev main_call0_call0_call4_c_30 : Ref sig .tc := ⟨.hbm, 442, rfl⟩
abbrev main_call0_call0_call4_v118 : Ref sig .tc := ⟨.hbm, 443, rfl⟩
abbrev main_call0_call0_call4_v119 : Ref sig .tc := ⟨.hbm, 444, rfl⟩
abbrev main_call0_call0_call4_v120 : Ref sig .tc := ⟨.hbm, 445, rfl⟩
abbrev main_call0_call0_call4_v121 : Ref sig .tc := ⟨.hbm, 446, rfl⟩
abbrev main_call0_call0_call4_v122 : Ref sig .tc := ⟨.hbm, 447, rfl⟩
abbrev main_call0_call0_call4_c_31 : Ref sig .tc := ⟨.hbm, 448, rfl⟩
abbrev main_call0_call0_call4_v123 : Ref sig .tc := ⟨.hbm, 449, rfl⟩
abbrev main_call0_call0_call4_v124 : Ref sig .tc := ⟨.hbm, 450, rfl⟩
abbrev main_call0_call0_call4_c_32 : Ref sig .tc := ⟨.hbm, 451, rfl⟩
abbrev main_call0_call0_call4_v125 : Ref sig .tc := ⟨.hbm, 452, rfl⟩
abbrev main_call0_call0_call4_v126 : Ref sig .tc := ⟨.hbm, 453, rfl⟩
abbrev main_call0_call0_call4_v127 : Ref sig .tc := ⟨.hbm, 454, rfl⟩
abbrev main_call0_call0_call4_v128 : Ref sig .tc := ⟨.hbm, 455, rfl⟩
abbrev main_call0_call0_call4_v129 : Ref sig .tc := ⟨.hbm, 456, rfl⟩
abbrev main_call0_call0_call4_c_33 : Ref sig .tc := ⟨.hbm, 457, rfl⟩
abbrev main_call0_call0_call4_v130 : Ref sig .tc := ⟨.hbm, 458, rfl⟩
abbrev main_call0_call0_call4_v131 : Ref sig .tc := ⟨.hbm, 459, rfl⟩
abbrev main_call0_call0_call4_c_34 : Ref sig .tc := ⟨.hbm, 460, rfl⟩
abbrev main_call0_call0_call4_v132 : Ref sig .tc := ⟨.hbm, 461, rfl⟩
abbrev main_call0_call0_call4_v133 : Ref sig .tc := ⟨.hbm, 462, rfl⟩
abbrev main_call0_call0_call4_v134 : Ref sig .tc := ⟨.hbm, 463, rfl⟩
abbrev main_call0_call0_call4_v135 : Ref sig .tc := ⟨.hbm, 464, rfl⟩
abbrev main_call0_call0_call4_v136 : Ref sig .tc := ⟨.hbm, 465, rfl⟩
abbrev main_call0_call0_call4_v137 : Ref sig .tc := ⟨.hbm, 466, rfl⟩
abbrev main_call0_call0_call4_v138 : Ref sig .tc := ⟨.hbm, 467, rfl⟩
abbrev main_call0_call0_call4_v139 : Ref sig .tc := ⟨.hbm, 468, rfl⟩
abbrev main_call0_call0_call4_c_35 : Ref sig .tc := ⟨.hbm, 469, rfl⟩
abbrev main_call0_call0_call4_v140 : Ref sig .tc := ⟨.hbm, 470, rfl⟩
abbrev main_call0_call0_call4_v141 : Ref sig .tc := ⟨.hbm, 471, rfl⟩
abbrev main_call0_call0_call4_v142 : Ref sig .tc := ⟨.hbm, 472, rfl⟩
abbrev main_call0_call0_call4_c_36 : Ref sig .tc := ⟨.hbm, 473, rfl⟩
abbrev main_call0_call0_call4_v143 : Ref sig .tc := ⟨.hbm, 474, rfl⟩
abbrev main_call0_call0_call4_v144 : Ref sig .tc := ⟨.hbm, 475, rfl⟩
abbrev main_call0_call0_call4_c_37 : Ref sig .tc := ⟨.hbm, 476, rfl⟩
abbrev main_call0_call0_call4_v145 : Ref sig .tc := ⟨.hbm, 477, rfl⟩
abbrev main_call0_call0_call4_v146 : Ref sig .tc := ⟨.hbm, 478, rfl⟩
abbrev main_call0_call0_call4_v147 : Ref sig .tc := ⟨.hbm, 479, rfl⟩
abbrev main_call0_call0_call4_v148 : Ref sig .tc := ⟨.hbm, 480, rfl⟩
abbrev main_call0_call0_call4_v149 : Ref sig .tc := ⟨.hbm, 481, rfl⟩
abbrev main_call0_call0_call4_c_38 : Ref sig .tc := ⟨.hbm, 482, rfl⟩
abbrev main_call0_call0_call4_v150 : Ref sig .tc := ⟨.hbm, 483, rfl⟩
abbrev main_call0_call0_call4_v151 : Ref sig .tc := ⟨.hbm, 484, rfl⟩
abbrev main_call0_call0_call4_c_39 : Ref sig .tc := ⟨.hbm, 485, rfl⟩
abbrev main_call0_call0_call4_v152 : Ref sig .tc := ⟨.hbm, 486, rfl⟩
abbrev main_call0_call0_call4_v153 : Ref sig .tc := ⟨.hbm, 487, rfl⟩
abbrev main_call0_call0_call4_v154 : Ref sig .tc := ⟨.hbm, 488, rfl⟩
abbrev main_call0_call0_call4_v155 : Ref sig .tc := ⟨.hbm, 489, rfl⟩
abbrev main_call0_call0_call4_v156 : Ref sig .tc := ⟨.hbm, 490, rfl⟩
abbrev main_call0_call0_call4_c_40 : Ref sig .tc := ⟨.hbm, 491, rfl⟩
abbrev main_call0_call0_call4_v157 : Ref sig .tc := ⟨.hbm, 492, rfl⟩
abbrev main_call0_call0_call4_v158 : Ref sig .tc := ⟨.hbm, 493, rfl⟩
abbrev main_call0_call0_call4_c_41 : Ref sig .tc := ⟨.hbm, 494, rfl⟩
abbrev main_call0_call0_call4_v159 : Ref sig .tc := ⟨.hbm, 495, rfl⟩
abbrev main_call0_call0_call4_v160 : Ref sig .tc := ⟨.hbm, 496, rfl⟩
abbrev main_call0_call0_call4_v161 : Ref sig .tc := ⟨.hbm, 497, rfl⟩
abbrev main_call0_call0_call4_v162 : Ref sig .tc := ⟨.hbm, 498, rfl⟩
abbrev main_call0_call0_call4_v163 : Ref sig .tc := ⟨.hbm, 499, rfl⟩
abbrev main_call0_call0_call4_c_42 : Ref sig .tc := ⟨.hbm, 500, rfl⟩
abbrev main_call0_call0_call4_v164 : Ref sig .tc := ⟨.hbm, 501, rfl⟩
abbrev main_call0_call0_call4_v165 : Ref sig .tc := ⟨.hbm, 502, rfl⟩
abbrev main_call0_call0_call4_c_43 : Ref sig .tc := ⟨.hbm, 503, rfl⟩
abbrev main_call0_call0_call4_v166 : Ref sig .tc := ⟨.hbm, 504, rfl⟩
abbrev main_call0_call0_call4_v167 : Ref sig .tc := ⟨.hbm, 505, rfl⟩
abbrev main_call0_call0_call4_v168 : Ref sig .tc := ⟨.hbm, 506, rfl⟩
abbrev main_call0_call0_call4_v169 : Ref sig .tc := ⟨.hbm, 507, rfl⟩
abbrev main_call0_call0_call4_v170 : Ref sig .tc := ⟨.hbm, 508, rfl⟩
abbrev main_call0_call0_v28_0 : Ref sig .tc := ⟨.hbm, 509, rfl⟩
abbrev main_call0_call0_call4_v172 : Ref sig .tc := ⟨.hbm, 510, rfl⟩
abbrev main_call0_call0_call4_v173 : Ref sig .tc := ⟨.hbm, 511, rfl⟩
abbrev main_call0_call0_call4_c_44 : Ref sig .tc := ⟨.hbm, 512, rfl⟩
abbrev main_call0_call0_call4_v174 : Ref sig .tc := ⟨.hbm, 513, rfl⟩
abbrev main_call0_call0_v28_1 : Ref sig .tc := ⟨.hbm, 514, rfl⟩
abbrev main_call0_call0_v29 : Ref sig .tc := ⟨.hbm, 515, rfl⟩
abbrev main_call0_call0_v30 : Ref sig .tc := ⟨.hbm, 516, rfl⟩
abbrev main_call0_call0_v31 : Ref sig .tc := ⟨.hbm, 517, rfl⟩
abbrev main_call0_call0_v32 : Ref sig .tc := ⟨.hbm, 518, rfl⟩
abbrev main_call0_call0_v33 : Ref sig .tc := ⟨.hbm, 519, rfl⟩
abbrev main_call0_call0_v34 : Ref sig .tc := ⟨.hbm, 520, rfl⟩
abbrev main_call0_call0_v35 : Ref sig .tc := ⟨.hbm, 521, rfl⟩
abbrev main_call0_call0_c_9 : Ref sig .tc := ⟨.hbm, 522, rfl⟩
abbrev main_call0_call0_v36 : Ref sig .tc := ⟨.hbm, 523, rfl⟩
abbrev main_call0_call0_v37 : Ref sig .tc := ⟨.hbm, 524, rfl⟩
abbrev main_call0_call0_c_10 : Ref sig .tc := ⟨.hbm, 525, rfl⟩
abbrev main_call0_call0_v38 : Ref sig .tc := ⟨.hbm, 526, rfl⟩
abbrev main_call0_call0_v39 : Ref sig .tc := ⟨.hbm, 527, rfl⟩
abbrev main_call0_call0_v40 : Ref sig .tc := ⟨.hbm, 528, rfl⟩
abbrev main_call0_call0_c_11 : Ref sig .tc := ⟨.hbm, 529, rfl⟩
abbrev main_call0_call0_v41 : Ref sig .tc := ⟨.hbm, 530, rfl⟩
abbrev main_call0_call0_v42 : Ref sig .tc := ⟨.hbm, 531, rfl⟩
abbrev main_call0_call0_v43 : Ref sig .tc := ⟨.hbm, 532, rfl⟩
abbrev main_call0_call0_v44 : Ref sig .tc := ⟨.hbm, 533, rfl⟩
abbrev main_call0_call0_call5_v0 : Ref sig .tc := ⟨.hbm, 534, rfl⟩
abbrev main_call0_call0_call5_c : Ref sig .tc := ⟨.hbm, 535, rfl⟩
abbrev main_call0_call0_call5_v1 : Ref sig .tc := ⟨.hbm, 536, rfl⟩
abbrev main_call0_call0_call5_v2 : Ref sig .tc := ⟨.hbm, 537, rfl⟩
abbrev main_call0_call0_call5_v3 : Ref sig .tc := ⟨.hbm, 538, rfl⟩
abbrev main_call0_call0_call5_v4 : Ref sig .tc := ⟨.hbm, 539, rfl⟩
abbrev main_call0_call0_call5_v5 : Ref sig .tc := ⟨.hbm, 540, rfl⟩
abbrev main_call0_call0_call5_v6 : Ref sig .tc := ⟨.hbm, 541, rfl⟩
abbrev main_call0_call0_call5_c_0 : Ref sig .tc := ⟨.hbm, 542, rfl⟩
abbrev main_call0_call0_call5_v7 : Ref sig .tc := ⟨.hbm, 543, rfl⟩
abbrev main_call0_call0_call5_v8 : Ref sig .tc := ⟨.hbm, 544, rfl⟩
abbrev main_call0_call0_call5_c_1 : Ref sig .tc := ⟨.hbm, 545, rfl⟩
abbrev main_call0_call0_call5_v9 : Ref sig .tc := ⟨.hbm, 546, rfl⟩
abbrev main_call0_call0_call5_v10 : Ref sig .tc := ⟨.hbm, 547, rfl⟩
abbrev main_call0_call0_call5_v11 : Ref sig .tc := ⟨.hbm, 548, rfl⟩
abbrev main_call0_call0_call5_v12 : Ref sig .tc := ⟨.hbm, 549, rfl⟩
abbrev main_call0_call0_call5_v13 : Ref sig .tc := ⟨.hbm, 550, rfl⟩
abbrev main_call0_call0_call5_c_2 : Ref sig .tc := ⟨.hbm, 551, rfl⟩
abbrev main_call0_call0_call5_v14 : Ref sig .tc := ⟨.hbm, 552, rfl⟩
abbrev main_call0_call0_call5_v15 : Ref sig .tc := ⟨.hbm, 553, rfl⟩
abbrev main_call0_call0_call5_c_3 : Ref sig .tc := ⟨.hbm, 554, rfl⟩
abbrev main_call0_call0_call5_v16 : Ref sig .tc := ⟨.hbm, 555, rfl⟩
abbrev main_call0_call0_call5_v17 : Ref sig .tc := ⟨.hbm, 556, rfl⟩
abbrev main_call0_call0_call5_v18 : Ref sig .tc := ⟨.hbm, 557, rfl⟩
abbrev main_call0_call0_call5_v19 : Ref sig .tc := ⟨.hbm, 558, rfl⟩
abbrev main_call0_call0_call5_v20 : Ref sig .tc := ⟨.hbm, 559, rfl⟩
abbrev main_call0_call0_call5_c_4 : Ref sig .tc := ⟨.hbm, 560, rfl⟩
abbrev main_call0_call0_call5_v21 : Ref sig .tc := ⟨.hbm, 561, rfl⟩
abbrev main_call0_call0_call5_v22 : Ref sig .tc := ⟨.hbm, 562, rfl⟩
abbrev main_call0_call0_call5_c_5 : Ref sig .tc := ⟨.hbm, 563, rfl⟩
abbrev main_call0_call0_call5_v23 : Ref sig .tc := ⟨.hbm, 564, rfl⟩
abbrev main_call0_call0_call5_v24 : Ref sig .tc := ⟨.hbm, 565, rfl⟩
abbrev main_call0_call0_call5_v25 : Ref sig .tc := ⟨.hbm, 566, rfl⟩
abbrev main_call0_call0_call5_v26 : Ref sig .tc := ⟨.hbm, 567, rfl⟩
abbrev main_call0_call0_call5_v27 : Ref sig .tc := ⟨.hbm, 568, rfl⟩
abbrev main_call0_call0_call5_c_6 : Ref sig .tc := ⟨.hbm, 569, rfl⟩
abbrev main_call0_call0_call5_v28 : Ref sig .tc := ⟨.hbm, 570, rfl⟩
abbrev main_call0_call0_call5_v29 : Ref sig .tc := ⟨.hbm, 571, rfl⟩
abbrev main_call0_call0_call5_c_7 : Ref sig .tc := ⟨.hbm, 572, rfl⟩
abbrev main_call0_call0_call5_v30 : Ref sig .tc := ⟨.hbm, 573, rfl⟩
abbrev main_call0_call0_call5_v31 : Ref sig .tc := ⟨.hbm, 574, rfl⟩
abbrev main_call0_call0_call5_v32 : Ref sig .tc := ⟨.hbm, 575, rfl⟩
abbrev main_call0_call0_call5_v33 : Ref sig .tc := ⟨.hbm, 576, rfl⟩
abbrev main_call0_call0_call5_v34 : Ref sig .tc := ⟨.hbm, 577, rfl⟩
abbrev main_call0_call0_call5_v35 : Ref sig .tc := ⟨.hbm, 578, rfl⟩
abbrev main_call0_call0_call5_v36 : Ref sig .tc := ⟨.hbm, 579, rfl⟩
abbrev main_call0_call0_call5_v37 : Ref sig .tc := ⟨.hbm, 580, rfl⟩
abbrev main_call0_call0_call5_c_8 : Ref sig .tc := ⟨.hbm, 581, rfl⟩
abbrev main_call0_call0_call5_v38 : Ref sig .tc := ⟨.hbm, 582, rfl⟩
abbrev main_call0_call0_call5_v39 : Ref sig .tc := ⟨.hbm, 583, rfl⟩
abbrev main_call0_call0_call5_v40 : Ref sig .tc := ⟨.hbm, 584, rfl⟩
abbrev main_call0_call0_call5_c_9 : Ref sig .tc := ⟨.hbm, 585, rfl⟩
abbrev main_call0_call0_call5_v41 : Ref sig .tc := ⟨.hbm, 586, rfl⟩
abbrev main_call0_call0_call5_v42 : Ref sig .tc := ⟨.hbm, 587, rfl⟩
abbrev main_call0_call0_call5_c_10 : Ref sig .tc := ⟨.hbm, 588, rfl⟩
abbrev main_call0_call0_call5_v43 : Ref sig .tc := ⟨.hbm, 589, rfl⟩
abbrev main_call0_call0_call5_v44 : Ref sig .tc := ⟨.hbm, 590, rfl⟩
abbrev main_call0_call0_call5_v45 : Ref sig .tc := ⟨.hbm, 591, rfl⟩
abbrev main_call0_call0_call5_v46 : Ref sig .tc := ⟨.hbm, 592, rfl⟩
abbrev main_call0_call0_call5_v47 : Ref sig .tc := ⟨.hbm, 593, rfl⟩
abbrev main_call0_call0_call5_c_11 : Ref sig .tc := ⟨.hbm, 594, rfl⟩
abbrev main_call0_call0_call5_v48 : Ref sig .tc := ⟨.hbm, 595, rfl⟩
abbrev main_call0_call0_call5_v49 : Ref sig .tc := ⟨.hbm, 596, rfl⟩
abbrev main_call0_call0_call5_c_12 : Ref sig .tc := ⟨.hbm, 597, rfl⟩
abbrev main_call0_call0_call5_v50 : Ref sig .tc := ⟨.hbm, 598, rfl⟩
abbrev main_call0_call0_call5_v51 : Ref sig .tc := ⟨.hbm, 599, rfl⟩
abbrev main_call0_call0_call5_v52 : Ref sig .tc := ⟨.hbm, 600, rfl⟩
abbrev main_call0_call0_call5_v53 : Ref sig .tc := ⟨.hbm, 601, rfl⟩
abbrev main_call0_call0_call5_v54 : Ref sig .tc := ⟨.hbm, 602, rfl⟩
abbrev main_call0_call0_call5_c_13 : Ref sig .tc := ⟨.hbm, 603, rfl⟩
abbrev main_call0_call0_call5_v55 : Ref sig .tc := ⟨.hbm, 604, rfl⟩
abbrev main_call0_call0_call5_v56 : Ref sig .tc := ⟨.hbm, 605, rfl⟩
abbrev main_call0_call0_call5_c_14 : Ref sig .tc := ⟨.hbm, 606, rfl⟩
abbrev main_call0_call0_call5_v57 : Ref sig .tc := ⟨.hbm, 607, rfl⟩
abbrev main_call0_call0_call5_v58 : Ref sig .tc := ⟨.hbm, 608, rfl⟩
abbrev main_call0_call0_call5_v59 : Ref sig .tc := ⟨.hbm, 609, rfl⟩
abbrev main_call0_call0_call5_v60 : Ref sig .tc := ⟨.hbm, 610, rfl⟩
abbrev main_call0_call0_call5_v61 : Ref sig .tc := ⟨.hbm, 611, rfl⟩
abbrev main_call0_call0_call5_c_15 : Ref sig .tc := ⟨.hbm, 612, rfl⟩
abbrev main_call0_call0_call5_v62 : Ref sig .tc := ⟨.hbm, 613, rfl⟩
abbrev main_call0_call0_call5_v63 : Ref sig .tc := ⟨.hbm, 614, rfl⟩
abbrev main_call0_call0_call5_c_16 : Ref sig .tc := ⟨.hbm, 615, rfl⟩
abbrev main_call0_call0_call5_v64 : Ref sig .tc := ⟨.hbm, 616, rfl⟩
abbrev main_call0_call0_call5_v65 : Ref sig .tc := ⟨.hbm, 617, rfl⟩
abbrev main_call0_call0_call5_v66 : Ref sig .tc := ⟨.hbm, 618, rfl⟩
abbrev main_call0_call0_call5_v67 : Ref sig .tc := ⟨.hbm, 619, rfl⟩
abbrev main_call0_call0_call5_v68 : Ref sig .tc := ⟨.hbm, 620, rfl⟩
abbrev main_call0_call0_call5_v69 : Ref sig .tc := ⟨.hbm, 621, rfl⟩
abbrev main_call0_call0_call5_v70 : Ref sig .tc := ⟨.hbm, 622, rfl⟩
abbrev main_call0_call0_call5_v71 : Ref sig .tc := ⟨.hbm, 623, rfl⟩
abbrev main_call0_call0_call5_c_17 : Ref sig .tc := ⟨.hbm, 624, rfl⟩
abbrev main_call0_call0_call5_v72 : Ref sig .tc := ⟨.hbm, 625, rfl⟩
abbrev main_call0_call0_call5_v73 : Ref sig .tc := ⟨.hbm, 626, rfl⟩
abbrev main_call0_call0_call5_v74 : Ref sig .tc := ⟨.hbm, 627, rfl⟩
abbrev main_call0_call0_call5_c_18 : Ref sig .tc := ⟨.hbm, 628, rfl⟩
abbrev main_call0_call0_call5_v75 : Ref sig .tc := ⟨.hbm, 629, rfl⟩
abbrev main_call0_call0_call5_v76 : Ref sig .tc := ⟨.hbm, 630, rfl⟩
abbrev main_call0_call0_call5_c_19 : Ref sig .tc := ⟨.hbm, 631, rfl⟩
abbrev main_call0_call0_call5_v77 : Ref sig .tc := ⟨.hbm, 632, rfl⟩
abbrev main_call0_call0_call5_v78 : Ref sig .tc := ⟨.hbm, 633, rfl⟩
abbrev main_call0_call0_call5_v79 : Ref sig .tc := ⟨.hbm, 634, rfl⟩
abbrev main_call0_call0_call5_v80 : Ref sig .tc := ⟨.hbm, 635, rfl⟩
abbrev main_call0_call0_call5_v81 : Ref sig .tc := ⟨.hbm, 636, rfl⟩
abbrev main_call0_call0_call5_c_20 : Ref sig .tc := ⟨.hbm, 637, rfl⟩
abbrev main_call0_call0_call5_v82 : Ref sig .tc := ⟨.hbm, 638, rfl⟩
abbrev main_call0_call0_call5_v83 : Ref sig .tc := ⟨.hbm, 639, rfl⟩
abbrev main_call0_call0_call5_c_21 : Ref sig .tc := ⟨.hbm, 640, rfl⟩
abbrev main_call0_call0_call5_v84 : Ref sig .tc := ⟨.hbm, 641, rfl⟩
abbrev main_call0_call0_call5_v85 : Ref sig .tc := ⟨.hbm, 642, rfl⟩
abbrev main_call0_call0_call5_v86 : Ref sig .tc := ⟨.hbm, 643, rfl⟩
abbrev main_call0_call0_call5_v87 : Ref sig .tc := ⟨.hbm, 644, rfl⟩
abbrev main_call0_call0_call5_v88 : Ref sig .tc := ⟨.hbm, 645, rfl⟩
abbrev main_call0_call0_call5_c_22 : Ref sig .tc := ⟨.hbm, 646, rfl⟩
abbrev main_call0_call0_call5_v89 : Ref sig .tc := ⟨.hbm, 647, rfl⟩
abbrev main_call0_call0_call5_v90 : Ref sig .tc := ⟨.hbm, 648, rfl⟩
abbrev main_call0_call0_call5_c_23 : Ref sig .tc := ⟨.hbm, 649, rfl⟩
abbrev main_call0_call0_call5_v91 : Ref sig .tc := ⟨.hbm, 650, rfl⟩
abbrev main_call0_call0_call5_v92 : Ref sig .tc := ⟨.hbm, 651, rfl⟩
abbrev main_call0_call0_call5_v93 : Ref sig .tc := ⟨.hbm, 652, rfl⟩
abbrev main_call0_call0_call5_v94 : Ref sig .tc := ⟨.hbm, 653, rfl⟩
abbrev main_call0_call0_call5_v95 : Ref sig .tc := ⟨.hbm, 654, rfl⟩
abbrev main_call0_call0_call5_c_24 : Ref sig .tc := ⟨.hbm, 655, rfl⟩
abbrev main_call0_call0_call5_v96 : Ref sig .tc := ⟨.hbm, 656, rfl⟩
abbrev main_call0_call0_call5_v97 : Ref sig .tc := ⟨.hbm, 657, rfl⟩
abbrev main_call0_call0_call5_c_25 : Ref sig .tc := ⟨.hbm, 658, rfl⟩
abbrev main_call0_call0_call5_v98 : Ref sig .tc := ⟨.hbm, 659, rfl⟩
abbrev main_call0_call0_call5_v99 : Ref sig .tc := ⟨.hbm, 660, rfl⟩
abbrev main_call0_call0_call5_v100 : Ref sig .tc := ⟨.hbm, 661, rfl⟩
abbrev main_call0_call0_call5_v101 : Ref sig .tc := ⟨.hbm, 662, rfl⟩
abbrev main_call0_call0_call5_v102 : Ref sig .tc := ⟨.hbm, 663, rfl⟩
abbrev main_call0_call0_call5_v103 : Ref sig .tc := ⟨.hbm, 664, rfl⟩
abbrev main_call0_call0_call5_v104 : Ref sig .tc := ⟨.hbm, 665, rfl⟩
abbrev main_call0_call0_call5_v105 : Ref sig .tc := ⟨.hbm, 666, rfl⟩
abbrev main_call0_call0_call5_c_26 : Ref sig .tc := ⟨.hbm, 667, rfl⟩
abbrev main_call0_call0_call5_v106 : Ref sig .tc := ⟨.hbm, 668, rfl⟩
abbrev main_call0_call0_call5_v107 : Ref sig .tc := ⟨.hbm, 669, rfl⟩
abbrev main_call0_call0_call5_v108 : Ref sig .tc := ⟨.hbm, 670, rfl⟩
abbrev main_call0_call0_call5_c_27 : Ref sig .tc := ⟨.hbm, 671, rfl⟩
abbrev main_call0_call0_call5_v109 : Ref sig .tc := ⟨.hbm, 672, rfl⟩
abbrev main_call0_call0_call5_v110 : Ref sig .tc := ⟨.hbm, 673, rfl⟩
abbrev main_call0_call0_call5_c_28 : Ref sig .tc := ⟨.hbm, 674, rfl⟩
abbrev main_call0_call0_call5_v111 : Ref sig .tc := ⟨.hbm, 675, rfl⟩
abbrev main_call0_call0_call5_v112 : Ref sig .tc := ⟨.hbm, 676, rfl⟩
abbrev main_call0_call0_call5_v113 : Ref sig .tc := ⟨.hbm, 677, rfl⟩
abbrev main_call0_call0_call5_v114 : Ref sig .tc := ⟨.hbm, 678, rfl⟩
abbrev main_call0_call0_call5_v115 : Ref sig .tc := ⟨.hbm, 679, rfl⟩
abbrev main_call0_call0_call5_c_29 : Ref sig .tc := ⟨.hbm, 680, rfl⟩
abbrev main_call0_call0_call5_v116 : Ref sig .tc := ⟨.hbm, 681, rfl⟩
abbrev main_call0_call0_call5_v117 : Ref sig .tc := ⟨.hbm, 682, rfl⟩
abbrev main_call0_call0_call5_c_30 : Ref sig .tc := ⟨.hbm, 683, rfl⟩
abbrev main_call0_call0_call5_v118 : Ref sig .tc := ⟨.hbm, 684, rfl⟩
abbrev main_call0_call0_call5_v119 : Ref sig .tc := ⟨.hbm, 685, rfl⟩
abbrev main_call0_call0_call5_v120 : Ref sig .tc := ⟨.hbm, 686, rfl⟩
abbrev main_call0_call0_call5_v121 : Ref sig .tc := ⟨.hbm, 687, rfl⟩
abbrev main_call0_call0_call5_v122 : Ref sig .tc := ⟨.hbm, 688, rfl⟩
abbrev main_call0_call0_call5_c_31 : Ref sig .tc := ⟨.hbm, 689, rfl⟩
abbrev main_call0_call0_call5_v123 : Ref sig .tc := ⟨.hbm, 690, rfl⟩
abbrev main_call0_call0_call5_v124 : Ref sig .tc := ⟨.hbm, 691, rfl⟩
abbrev main_call0_call0_call5_c_32 : Ref sig .tc := ⟨.hbm, 692, rfl⟩
abbrev main_call0_call0_call5_v125 : Ref sig .tc := ⟨.hbm, 693, rfl⟩
abbrev main_call0_call0_call5_v126 : Ref sig .tc := ⟨.hbm, 694, rfl⟩
abbrev main_call0_call0_call5_v127 : Ref sig .tc := ⟨.hbm, 695, rfl⟩
abbrev main_call0_call0_call5_v128 : Ref sig .tc := ⟨.hbm, 696, rfl⟩
abbrev main_call0_call0_call5_v129 : Ref sig .tc := ⟨.hbm, 697, rfl⟩
abbrev main_call0_call0_call5_c_33 : Ref sig .tc := ⟨.hbm, 698, rfl⟩
abbrev main_call0_call0_call5_v130 : Ref sig .tc := ⟨.hbm, 699, rfl⟩
abbrev main_call0_call0_call5_v131 : Ref sig .tc := ⟨.hbm, 700, rfl⟩
abbrev main_call0_call0_call5_c_34 : Ref sig .tc := ⟨.hbm, 701, rfl⟩
abbrev main_call0_call0_call5_v132 : Ref sig .tc := ⟨.hbm, 702, rfl⟩
abbrev main_call0_call0_call5_v133 : Ref sig .tc := ⟨.hbm, 703, rfl⟩
abbrev main_call0_call0_call5_v134 : Ref sig .tc := ⟨.hbm, 704, rfl⟩
abbrev main_call0_call0_call5_v135 : Ref sig .tc := ⟨.hbm, 705, rfl⟩
abbrev main_call0_call0_call5_v136 : Ref sig .tc := ⟨.hbm, 706, rfl⟩
abbrev main_call0_call0_call5_v137 : Ref sig .tc := ⟨.hbm, 707, rfl⟩
abbrev main_call0_call0_call5_v138 : Ref sig .tc := ⟨.hbm, 708, rfl⟩
abbrev main_call0_call0_call5_v139 : Ref sig .tc := ⟨.hbm, 709, rfl⟩
abbrev main_call0_call0_call5_c_35 : Ref sig .tc := ⟨.hbm, 710, rfl⟩
abbrev main_call0_call0_call5_v140 : Ref sig .tc := ⟨.hbm, 711, rfl⟩
abbrev main_call0_call0_call5_v141 : Ref sig .tc := ⟨.hbm, 712, rfl⟩
abbrev main_call0_call0_call5_v142 : Ref sig .tc := ⟨.hbm, 713, rfl⟩
abbrev main_call0_call0_call5_c_36 : Ref sig .tc := ⟨.hbm, 714, rfl⟩
abbrev main_call0_call0_call5_v143 : Ref sig .tc := ⟨.hbm, 715, rfl⟩
abbrev main_call0_call0_call5_v144 : Ref sig .tc := ⟨.hbm, 716, rfl⟩
abbrev main_call0_call0_call5_c_37 : Ref sig .tc := ⟨.hbm, 717, rfl⟩
abbrev main_call0_call0_call5_v145 : Ref sig .tc := ⟨.hbm, 718, rfl⟩
abbrev main_call0_call0_call5_v146 : Ref sig .tc := ⟨.hbm, 719, rfl⟩
abbrev main_call0_call0_call5_v147 : Ref sig .tc := ⟨.hbm, 720, rfl⟩
abbrev main_call0_call0_call5_v148 : Ref sig .tc := ⟨.hbm, 721, rfl⟩
abbrev main_call0_call0_call5_v149 : Ref sig .tc := ⟨.hbm, 722, rfl⟩
abbrev main_call0_call0_call5_c_38 : Ref sig .tc := ⟨.hbm, 723, rfl⟩
abbrev main_call0_call0_call5_v150 : Ref sig .tc := ⟨.hbm, 724, rfl⟩
abbrev main_call0_call0_call5_v151 : Ref sig .tc := ⟨.hbm, 725, rfl⟩
abbrev main_call0_call0_call5_c_39 : Ref sig .tc := ⟨.hbm, 726, rfl⟩
abbrev main_call0_call0_call5_v152 : Ref sig .tc := ⟨.hbm, 727, rfl⟩
abbrev main_call0_call0_call5_v153 : Ref sig .tc := ⟨.hbm, 728, rfl⟩
abbrev main_call0_call0_call5_v154 : Ref sig .tc := ⟨.hbm, 729, rfl⟩
abbrev main_call0_call0_call5_v155 : Ref sig .tc := ⟨.hbm, 730, rfl⟩
abbrev main_call0_call0_call5_v156 : Ref sig .tc := ⟨.hbm, 731, rfl⟩
abbrev main_call0_call0_call5_c_40 : Ref sig .tc := ⟨.hbm, 732, rfl⟩
abbrev main_call0_call0_call5_v157 : Ref sig .tc := ⟨.hbm, 733, rfl⟩
abbrev main_call0_call0_call5_v158 : Ref sig .tc := ⟨.hbm, 734, rfl⟩
abbrev main_call0_call0_call5_c_41 : Ref sig .tc := ⟨.hbm, 735, rfl⟩
abbrev main_call0_call0_call5_v159 : Ref sig .tc := ⟨.hbm, 736, rfl⟩
abbrev main_call0_call0_call5_v160 : Ref sig .tc := ⟨.hbm, 737, rfl⟩
abbrev main_call0_call0_call5_v161 : Ref sig .tc := ⟨.hbm, 738, rfl⟩
abbrev main_call0_call0_call5_v162 : Ref sig .tc := ⟨.hbm, 739, rfl⟩
abbrev main_call0_call0_call5_v163 : Ref sig .tc := ⟨.hbm, 740, rfl⟩
abbrev main_call0_call0_call5_c_42 : Ref sig .tc := ⟨.hbm, 741, rfl⟩
abbrev main_call0_call0_call5_v164 : Ref sig .tc := ⟨.hbm, 742, rfl⟩
abbrev main_call0_call0_call5_v165 : Ref sig .tc := ⟨.hbm, 743, rfl⟩
abbrev main_call0_call0_call5_c_43 : Ref sig .tc := ⟨.hbm, 744, rfl⟩
abbrev main_call0_call0_call5_v166 : Ref sig .tc := ⟨.hbm, 745, rfl⟩
abbrev main_call0_call0_call5_v167 : Ref sig .tc := ⟨.hbm, 746, rfl⟩
abbrev main_call0_call0_call5_v168 : Ref sig .tc := ⟨.hbm, 747, rfl⟩
abbrev main_call0_call0_call5_v169 : Ref sig .tc := ⟨.hbm, 748, rfl⟩
abbrev main_call0_call0_call5_v170 : Ref sig .tc := ⟨.hbm, 749, rfl⟩
abbrev main_call0_call0_v45_0 : Ref sig .tc := ⟨.hbm, 750, rfl⟩
abbrev main_call0_call0_call5_v172 : Ref sig .tc := ⟨.hbm, 751, rfl⟩
abbrev main_call0_call0_call5_v173 : Ref sig .tc := ⟨.hbm, 752, rfl⟩
abbrev main_call0_call0_call5_c_44 : Ref sig .tc := ⟨.hbm, 753, rfl⟩
abbrev main_call0_call0_call5_v174 : Ref sig .tc := ⟨.hbm, 754, rfl⟩
abbrev main_call0_call0_v45_1 : Ref sig .tc := ⟨.hbm, 755, rfl⟩
abbrev main_call0_call0_v46 : Ref sig .tc := ⟨.hbm, 756, rfl⟩
abbrev main_call0_call0_v47 : Ref sig .tc := ⟨.hbm, 757, rfl⟩
abbrev main_call0_call0_v48 : Ref sig .tc := ⟨.hbm, 758, rfl⟩
abbrev main_call0_call0_v49 : Ref sig .tc := ⟨.hbm, 759, rfl⟩
abbrev main_call0_call0_c_12 : Ref sig .tc := ⟨.hbm, 760, rfl⟩
abbrev main_call0_call0_v50 : Ref sig .tc := ⟨.hbm, 761, rfl⟩
abbrev main_call0_call0_v51 : Ref sig .tc := ⟨.hbm, 762, rfl⟩
abbrev main_call0_call0_v52 : Ref sig .tc := ⟨.hbm, 763, rfl⟩
abbrev main_call0_call0_v53 : Ref sig .tc := ⟨.hbm, 764, rfl⟩
abbrev main_call0_call0_v54 : Ref sig .tc := ⟨.hbm, 765, rfl⟩
abbrev main_call0_call0_c_13 : Ref sig .tc := ⟨.hbm, 766, rfl⟩
abbrev main_call0_call0_v55 : Ref sig .tc := ⟨.hbm, 767, rfl⟩
abbrev main_call0_call0_v56 : Ref sig .tc := ⟨.hbm, 768, rfl⟩
abbrev main_call0_call0_v57 : Ref sig .tc := ⟨.hbm, 769, rfl⟩
abbrev main_call0_call0_c_14 : Ref sig .tc := ⟨.hbm, 770, rfl⟩
abbrev main_call0_call0_v58 : Ref sig .tc := ⟨.hbm, 771, rfl⟩
abbrev main_call0_call0_v59 : Ref sig .tc := ⟨.hbm, 772, rfl⟩
abbrev main_call0_call0_v60 : Ref sig .tc := ⟨.hbm, 773, rfl⟩
abbrev main_call0_call0_v61 : Ref sig .tc := ⟨.hbm, 774, rfl⟩
abbrev main_call0_call0_v62 : Ref sig .tc := ⟨.hbm, 775, rfl⟩
abbrev main_call0_call0_v63 : Ref sig .tc := ⟨.hbm, 776, rfl⟩
abbrev main_call0_call0_v64 : Ref sig .tc := ⟨.hbm, 777, rfl⟩
abbrev main_call0_call0_v65 : Ref sig .tc := ⟨.hbm, 778, rfl⟩
abbrev main_call0_call0_v66 : Ref sig .tc := ⟨.hbm, 779, rfl⟩
abbrev main_call0_call0_v67 : Ref sig .tc := ⟨.hbm, 780, rfl⟩
abbrev main_call0_call0_v68 : Ref sig .tc := ⟨.hbm, 781, rfl⟩
abbrev main_call0_call0_v69 : Ref sig .tc := ⟨.hbm, 782, rfl⟩
abbrev main_call0_call0_v70 : Ref sig .tc := ⟨.hbm, 783, rfl⟩
abbrev main_call0_call0_v71 : Ref sig .tc := ⟨.hbm, 784, rfl⟩
abbrev main_call0_call0_v72 : Ref sig .tc := ⟨.hbm, 785, rfl⟩
abbrev main_call0_v7 : Ref sig .tc := ⟨.hbm, 786, rfl⟩
abbrev main_call0_c_4 : Ref sig .tc := ⟨.hbm, 787, rfl⟩
abbrev main_call0_call1_v0 : Ref sig .tc := ⟨.hbm, 788, rfl⟩
abbrev main_call0_v8 : Ref sig .tc := ⟨.hbm, 789, rfl⟩
abbrev main_call0_v9 : Ref sig .tc := ⟨.hbm, 790, rfl⟩
abbrev main_call0_v10 : Ref sig .tc := ⟨.hbm, 791, rfl⟩
abbrev main_call0_c_5 : Ref sig .tc := ⟨.hbm, 792, rfl⟩
abbrev main_call0_call2_v0 : Ref sig .tc := ⟨.hbm, 793, rfl⟩
abbrev main_call0_v11 : Ref sig .tc := ⟨.hbm, 794, rfl⟩
abbrev main_call0_v12 : Ref sig .tc := ⟨.hbm, 795, rfl⟩
abbrev main_call0_v13 : Ref sig .tc := ⟨.hbm, 796, rfl⟩
abbrev main_call0_v14 : Ref sig .tc := ⟨.hbm, 797, rfl⟩
abbrev main_call0_v15 : Ref sig .tc := ⟨.hbm, 798, rfl⟩
abbrev main_call0_v16 : Ref sig .tc := ⟨.hbm, 799, rfl⟩
abbrev main_call0_v17 : Ref sig .tc := ⟨.hbm, 800, rfl⟩
abbrev main_call0_v18 : Ref sig .tc := ⟨.hbm, 801, rfl⟩
abbrev main_call0_v19 : Ref sig .tc := ⟨.hbm, 802, rfl⟩
abbrev main_call0_v20_0 : Ref sig .tc := ⟨.hbm, 803, rfl⟩
abbrev main_call0_v20_1 : Ref sig .tc := ⟨.hbm, 804, rfl⟩
abbrev main_call0_v21 : Ref sig .tc := ⟨.hbm, 805, rfl⟩
abbrev main_call0_v22 : Ref sig .tc := ⟨.hbm, 806, rfl⟩
abbrev main_call0_v23 : Ref sig .tc := ⟨.hbm, 807, rfl⟩
abbrev main_call0_v24 : Ref sig .tc := ⟨.hbm, 808, rfl⟩
abbrev main_call0_v25 : Ref sig .tc := ⟨.hbm, 809, rfl⟩
abbrev main_call0_v26 : Ref sig .tc := ⟨.hbm, 810, rfl⟩
abbrev main_call0_v27 : Ref sig .tc := ⟨.hbm, 811, rfl⟩
abbrev main_call0_v28 : Ref sig .tc := ⟨.hbm, 812, rfl⟩
abbrev main_call0_v29 : Ref sig .tc := ⟨.hbm, 813, rfl⟩
abbrev main_call0_v30 : Ref sig .tc := ⟨.hbm, 814, rfl⟩
abbrev main_call0_v31_0 : Ref sig .tc := ⟨.hbm, 815, rfl⟩
abbrev main_call0_v31_1 : Ref sig .tc := ⟨.hbm, 816, rfl⟩
abbrev main_call0_v32 : Ref sig .tc := ⟨.hbm, 817, rfl⟩
abbrev main_call0_v33 : Ref sig .tc := ⟨.hbm, 818, rfl⟩
abbrev main_call0_v34 : Ref sig .tc := ⟨.hbm, 819, rfl⟩
abbrev main_call0_v35 : Ref sig .tc := ⟨.hbm, 820, rfl⟩
abbrev main_call0_v36 : Ref sig .tc := ⟨.hbm, 821, rfl⟩
abbrev main_call0_v37 : Ref sig .tc := ⟨.hbm, 822, rfl⟩
abbrev main_call0_v38 : Ref sig .tc := ⟨.hbm, 823, rfl⟩
abbrev main_call0_v39 : Ref sig .tc := ⟨.hbm, 824, rfl⟩
abbrev main_call0_v40 : Ref sig .tc := ⟨.hbm, 825, rfl⟩
abbrev main_call0_v41 : Ref sig .tc := ⟨.hbm, 826, rfl⟩
abbrev main_call0_v42_0 : Ref sig .tc := ⟨.hbm, 827, rfl⟩
abbrev main_call0_v42_1 : Ref sig .tc := ⟨.hbm, 828, rfl⟩
abbrev main_call0_v43 : Ref sig .tc := ⟨.hbm, 829, rfl⟩
abbrev main_call0_v44 : Ref sig .tc := ⟨.hbm, 830, rfl⟩
abbrev main_call0_v45 : Ref sig .tc := ⟨.hbm, 831, rfl⟩
abbrev main_call0_v46 : Ref sig .tc := ⟨.hbm, 832, rfl⟩
abbrev main_call0_v47 : Ref sig .tc := ⟨.hbm, 833, rfl⟩
abbrev main_call0_v48 : Ref sig .tc := ⟨.hbm, 834, rfl⟩
abbrev main_call0_v49 : Ref sig .tc := ⟨.hbm, 835, rfl⟩
abbrev main_call0_v50 : Ref sig .tc := ⟨.hbm, 836, rfl⟩
abbrev main_call0_v51 : Ref sig .tc := ⟨.hbm, 837, rfl⟩
abbrev main_call0_v52 : Ref sig .tc := ⟨.hbm, 838, rfl⟩
abbrev main_call0_v53_0 : Ref sig .tc := ⟨.hbm, 839, rfl⟩
abbrev main_call0_v53_1 : Ref sig .tc := ⟨.hbm, 840, rfl⟩
abbrev main_call0_v54 : Ref sig .tc := ⟨.hbm, 841, rfl⟩
abbrev main_call0_v55 : Ref sig .tc := ⟨.hbm, 842, rfl⟩
abbrev main_call0_v56 : Ref sig .tc := ⟨.hbm, 843, rfl⟩
abbrev main_call0_v57 : Ref sig .tc := ⟨.hbm, 844, rfl⟩
abbrev main_call0_v58 : Ref sig .tc := ⟨.hbm, 845, rfl⟩
abbrev main_call0_v59 : Ref sig .tc := ⟨.hbm, 846, rfl⟩
abbrev main_call0_v60 : Ref sig .tc := ⟨.hbm, 847, rfl⟩
abbrev main_v0_1 : Ref sig .tc := ⟨.hbm, 848, rfl⟩
abbrev main_v0_0 : Ref sig .tc := ⟨.hbm, 849, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc3_stg5_0 : Ref sig .tc := ⟨.vmem, 46, rfl⟩
abbrev cc3_stg5_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem4_1 : DmaSem sig := 45
abbrev cc3_sem5_0 : DmaSem sig := 46
abbrev cc3_sem5_1 : DmaSem sig := 47

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_44 : BitVec 32 := 0#32
  let c24_i32 : BitVec 32 := 24#32
  let v105 : BitVec 32 := Scalar.addi c0_i32_44 c24_i32
  let c1_i32 : BitVec 32 := 1#32
  ⟨c0_i32_44, v105, c1_i32⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x40x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x100x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x100x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x40x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x21x4x40x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x21x40x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

@[reducible] def k1_t1_loop : Scf.Loop 32 :=
  let c0_i32_44 : BitVec 32 := 0#32
  let c24_i32 : BitVec 32 := 24#32
  let v105 : BitVec 32 := Scalar.addi c0_i32_44 c24_i32
  let c1_i32 : BitVec 32 := 1#32
  ⟨c0_i32_44, v105, c1_i32⟩
def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x4x40x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x100x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x100x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x40x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x21x4x40x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x21x40x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

@[reducible] def k2_t1_loop : Scf.Loop 32 :=
  let c0_i32_44 : BitVec 32 := 0#32
  let c24_i32 : BitVec 32 := 24#32
  let v105 : BitVec 32 := Scalar.addi c0_i32_44 c24_i32
  let c1_i32 : BitVec 32 := 1#32
  ⟨c0_i32_44, v105, c1_i32⟩
def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc2_transform_5 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x4x40x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x4x100x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x100x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x40x128 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x21x4x40x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x21x40x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![4], ![false]⟩

@[reducible] def k3_t1_loop : Scf.Loop 32 :=
  let c0_i32_44 : BitVec 32 := 0#32
  let c24_i32 : BitVec 32 := 24#32
  let v105 : BitVec 32 := Scalar.addi c0_i32_44 c24_i32
  let c1_i32 : BitVec 32 := 1#32
  ⟨c0_i32_44, v105, c1_i32⟩
def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc3_transform_5 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x4x40x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x4x100x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x100x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x40x128 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x21x4x40x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x21x40x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== ReferenceIdeal.lean ====
abbrev S16x5000x4 : Shape := ⟨3, ![16, 5000, 4]⟩
abbrev S16x100x4 : Shape := ⟨3, ![16, 100, 4]⟩
abbrev S16x100 : Shape := ⟨2, ![16, 100]⟩
abbrev S4 : Shape := ⟨1, ![4]⟩
abbrev S16x5000x1 : Shape := ⟨3, ![16, 5000, 1]⟩
abbrev S16x100x1 : Shape := ⟨3, ![16, 100, 1]⟩
abbrev S16x5000 : Shape := ⟨2, ![16, 5000]⟩
abbrev S16x1x100 : Shape := ⟨3, ![16, 1, 100]⟩
abbrev S16x5000x100 : Shape := ⟨3, ![16, 5000, 100]⟩
abbrev S_ : Shape := ⟨0, ![]⟩
abbrev S1 : Shape := ⟨1, ![1]⟩
abbrev S2 : Shape := ⟨1, ![2]⟩
abbrev S1x1 : Shape := ⟨2, ![1, 1]⟩
abbrev S2x1 : Shape := ⟨2, ![2, 1]⟩
abbrev S2x2 : Shape := ⟨2, ![2, 2]⟩
abbrev S1x2 : Shape := ⟨2, ![1, 2]⟩
abbrev S1x1x1 : Shape := ⟨3, ![1, 1, 1]⟩
abbrev S1x1x4 : Shape := ⟨3, ![1, 1, 4]⟩
abbrev S1x1x21 : Shape := ⟨3, ![1, 1, 21]⟩
abbrev S16x5000x21 : Shape := ⟨3, ![16, 5000, 21]⟩
abbrev S16x5000x21x1 : Shape := ⟨4, ![16, 5000, 21, 1]⟩
abbrev S1x16x1x5000x1x21x1x1 : Shape := ⟨8, ![1, 16, 1, 5000, 1, 21, 1, 1]⟩
abbrev S1x16x1x5000x1x21x4x1 : Shape := ⟨8, ![1, 16, 1, 5000, 1, 21, 4, 1]⟩
abbrev S16x5000x21x4 : Shape := ⟨4, ![16, 5000, 21, 4]⟩
abbrev S16x5000x1x4 : Shape := ⟨4, ![16, 5000, 1, 4]⟩

abbrev nBuf : Space → Nat
  | .hbm => 1044
  | .vmem => 0
  | .smem => 0
  | _ => 0

abbrev hbmTy0_0 (i : Nat) : BufTy := match i % 128 with
  | 0 => ⟨S16x5000x4, .f32⟩
  | 1 => ⟨S16x100x4, .f32⟩
  | 2 => ⟨S16x100, .i32⟩
  | 3 => ⟨S4, .f32⟩
  | 4 => ⟨S16x5000x1, .f32⟩
  | 5 => ⟨S16x5000x1, .f32⟩
  | 6 => ⟨S16x5000x1, .f32⟩
  | 7 => ⟨S16x5000x1, .f32⟩
  | 8 => ⟨S16x100x1, .f32⟩
  | 9 => ⟨S16x100x1, .f32⟩
  | 10 => ⟨S16x100x1, .f32⟩
  | 11 => ⟨S16x100x1, .f32⟩
  | 12 => ⟨S16x100x1, .f32⟩
  | 13 => ⟨S16x100x1, .f32⟩
  | 14 => ⟨S16x100x1, .f32⟩
  | 15 => ⟨S16x100, .f32⟩
  | 16 => ⟨S16x5000x1, .f32⟩
  | 17 => ⟨S16x5000x1, .f32⟩
  | 18 => ⟨S16x5000x1, .f32⟩
  | 19 => ⟨S16x5000, .f32⟩
  | 20 => ⟨S16x1x100, .f32⟩
  | 21 => ⟨S16x5000x100, .f32⟩
  | 22 => ⟨S16x5000x100, .f32⟩
  | 23 => ⟨S16x5000x100, .f32⟩
  | 24 => ⟨S16x1x100, .f32⟩
  | 25 => ⟨S16x5000x100, .f32⟩
  | 26 => ⟨S16x5000x100, .f32⟩
  | 27 => ⟨S16x5000x100, .f32⟩
  | 28 => ⟨S16x1x100, .f32⟩
  | 29 => ⟨S16x5000x100, .f32⟩
  | 30 => ⟨S16x5000x100, .f32⟩
  | 31 => ⟨S16x5000x100, .f32⟩
  | 32 => ⟨S16x1x100, .f32⟩
  | 33 => ⟨S16x5000x100, .f32⟩
  | 34 => ⟨S16x5000x100, .f32⟩
  | 35 => ⟨S16x5000x100, .f32⟩
  | 36 => ⟨S16x5000x100, .f32⟩
  | 37 => ⟨S_, .f32⟩
  | 38 => ⟨S16x5000x100, .f32⟩
  | 39 => ⟨S16x5000x100, .f32⟩
  | 40 => ⟨S16x5000x100, .f32⟩
  | 41 => ⟨S_, .f32⟩
  | 42 => ⟨S16x5000x100, .f32⟩
  | 43 => ⟨S16x5000x100, .f32⟩
  | 44 => ⟨S16x5000x100, .f32⟩
  | 45 => ⟨S16x5000x1, .f32⟩
  | 46 => ⟨S16x1x100, .f32⟩
  | 47 => ⟨S16x5000x100, .f32⟩
  | 48 => ⟨S16x5000x100, .f32⟩
  | 49 => ⟨S16x5000x100, .f32⟩
  | 50 => ⟨S16x5000x100, .f32⟩
  | 51 => ⟨S_, .f32⟩
  | 52 => ⟨S16x5000x100, .f32⟩
  | 53 => ⟨S16x5000x100, .f32⟩
  | 54 => ⟨S16x5000x100, .f32⟩
  | 55 => ⟨S16x5000x100, .i32⟩
  | 56 => ⟨S_, .f32⟩
  | 57 => ⟨S_, .i32⟩
  | 58 => ⟨S16x5000, .f32⟩
  | 59 => ⟨S16x5000, .i32⟩
  | 60 => ⟨S_, .f32⟩
  | 61 => ⟨S16x5000, .f32⟩
  | 62 => ⟨S_, .f32⟩
  | 63 => ⟨S16x5000, .f32⟩
  | 64 => ⟨S16x5000, .i1⟩
  | 65 => ⟨S_, .i32⟩
  | 66 => ⟨S_, .i32⟩
  | 67 => ⟨S_, .i32⟩
  | 68 => ⟨S_, .i32⟩
  | 69 => ⟨S1, .i32⟩
  | 70 => ⟨S_, .i32⟩
  | 71 => ⟨S_, .i32⟩
  | 72 => ⟨S_, .i32⟩
  | 73 => ⟨S1, .i32⟩
  | 74 => ⟨S2, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S1x1, .i32⟩
  | 94 => ⟨S1x1, .i32⟩
  | 95 => ⟨S1, .i32⟩
  | 96 => ⟨S_, .i32⟩
  | 97 => ⟨S1, .i32⟩
  | 98 => ⟨S_, .i32⟩
  | 99 => ⟨S2, .i64⟩
  | 100 => ⟨S_, .i64⟩
  | 101 => ⟨S2, .i64⟩
  | 102 => ⟨S2, .i64⟩
  | 103 => ⟨S_, .i64⟩
  | 104 => ⟨S2, .i64⟩
  | 105 => ⟨S2, .i64⟩
  | 106 => ⟨S2, .i32⟩
  | 107 => ⟨S2, .i32⟩
  | 108 => ⟨S_, .i32⟩
  | 109 => ⟨S_, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S16x5000x4, .f32⟩

abbrev hbmTy0_1 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S16x5000x4, .f32⟩

abbrev hbmTy0_2 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2x1, .i32⟩
  | 75 => ⟨S2x1, .i32⟩
  | 76 => ⟨S2x2, .i32⟩
  | 77 => ⟨S1x2, .i32⟩
  | 78 => ⟨S2, .i32⟩
  | 79 => ⟨S1x2, .i32⟩
  | 80 => ⟨S2, .i32⟩
  | 81 => ⟨S1, .i32⟩
  | 82 => ⟨S_, .i32⟩
  | 83 => ⟨S1, .i32⟩
  | 84 => ⟨S_, .i32⟩
  | 85 => ⟨S16x5000, .i64⟩
  | 86 => ⟨S16x5000, .i64⟩
  | 87 => ⟨S_, .i64⟩
  | 88 => ⟨S16x5000, .i64⟩
  | 89 => ⟨S16x5000, .i64⟩
  | 90 => ⟨S_, .i64⟩
  | 91 => ⟨S16x5000, .i64⟩
  | 92 => ⟨S16x5000, .i64⟩
  | 93 => ⟨S16x5000, .i64⟩
  | 94 => ⟨S_, .i64⟩
  | 95 => ⟨S16x5000, .i64⟩
  | 96 => ⟨S16x5000, .i64⟩
  | 97 => ⟨S16x5000, .i32⟩
  | 98 => ⟨S16x5000, .i32⟩
  | 99 => ⟨S_, .i32⟩
  | 100 => ⟨S_, .i32⟩
  | 101 => ⟨S_, .i32⟩
  | 102 => ⟨S16x5000, .i32⟩
  | 103 => ⟨S16x5000, .i32⟩
  | 104 => ⟨S16x5000, .i32⟩
  | 105 => ⟨S16x5000, .i32⟩
  | 106 => ⟨S16x5000, .i32⟩
  | 107 => ⟨S_, .i32⟩
  | 108 => ⟨S16x5000, .i32⟩
  | 109 => ⟨S16x5000, .i32⟩
  | 110 => ⟨S_, .i32⟩
  | 111 => ⟨S16x5000, .i32⟩
  | 112 => ⟨S16x5000, .i32⟩
  | 113 => ⟨S16x5000, .i32⟩
  | 114 => ⟨S16x5000, .i32⟩
  | 115 => ⟨S16x5000, .i32⟩
  | 116 => ⟨S_, .i32⟩
  | 117 => ⟨S16x5000, .i32⟩
  | 118 => ⟨S16x5000, .i32⟩
  | 119 => ⟨S_, .i32⟩
  | 120 => ⟨S16x5000, .i32⟩
  | 121 => ⟨S16x5000, .i32⟩
  | 122 => ⟨S16x5000, .i32⟩
  | 123 => ⟨S16x5000, .i32⟩
  | 124 => ⟨S16x5000, .i32⟩
  | 125 => ⟨S_, .i32⟩
  | 126 => ⟨S16x5000, .i32⟩
  | 127 => ⟨S16x5000, .i32⟩
  | _ => ⟨S16x5000x4, .f32⟩

abbrev hbmTy0_3 (i : Nat) : BufTy := match i % 128 with
  | 0 => ⟨S_, .i32⟩
  | 1 => ⟨S16x5000, .i32⟩
  | 2 => ⟨S16x5000, .i32⟩
  | 3 => ⟨S16x5000, .i32⟩
  | 4 => ⟨S16x5000, .i32⟩
  | 5 => ⟨S16x5000, .i32⟩
  | 6 => ⟨S_, .i32⟩
  | 7 => ⟨S16x5000, .i32⟩
  | 8 => ⟨S16x5000, .i32⟩
  | 9 => ⟨S_, .i32⟩
  | 10 => ⟨S16x5000, .i32⟩
  | 11 => ⟨S16x5000, .i32⟩
  | 12 => ⟨S16x5000, .i32⟩
  | 13 => ⟨S16x5000, .i32⟩
  | 14 => ⟨S16x5000, .i32⟩
  | 15 => ⟨S16x5000, .i32⟩
  | 16 => ⟨S16x5000, .i32⟩
  | 17 => ⟨S16x5000, .i32⟩
  | 18 => ⟨S_, .i32⟩
  | 19 => ⟨S16x5000, .i32⟩
  | 20 => ⟨S16x5000, .i32⟩
  | 21 => ⟨S16x5000, .i32⟩
  | 22 => ⟨S_, .i32⟩
  | 23 => ⟨S16x5000, .i32⟩
  | 24 => ⟨S16x5000, .i32⟩
  | 25 => ⟨S_, .i32⟩
  | 26 => ⟨S16x5000, .i32⟩
  | 27 => ⟨S16x5000, .i32⟩
  | 28 => ⟨S16x5000, .i32⟩
  | 29 => ⟨S16x5000, .i32⟩
  | 30 => ⟨S16x5000, .i32⟩
  | 31 => ⟨S_, .i32⟩
  | 32 => ⟨S16x5000, .i32⟩
  | 33 => ⟨S16x5000, .i32⟩
  | 34 => ⟨S_, .i32⟩
  | 35 => ⟨S16x5000, .i32⟩
  | 36 => ⟨S16x5000, .i32⟩
  | 37 => ⟨S16x5000, .i32⟩
  | 38 => ⟨S16x5000, .i32⟩
  | 39 => ⟨S16x5000, .i32⟩
  | 40 => ⟨S_, .i32⟩
  | 41 => ⟨S16x5000, .i32⟩
  | 42 => ⟨S16x5000, .i32⟩
  | 43 => ⟨S_, .i32⟩
  | 44 => ⟨S16x5000, .i32⟩
  | 45 => ⟨S16x5000, .i32⟩
  | 46 => ⟨S16x5000, .i32⟩
  | 47 => ⟨S16x5000, .i32⟩
  | 48 => ⟨S16x5000, .i32⟩
  | 49 => ⟨S_, .i32⟩
  | 50 => ⟨S16x5000, .i32⟩
  | 51 => ⟨S16x5000, .i32⟩
  | 52 => ⟨S_, .i32⟩
  | 53 => ⟨S16x5000, .i32⟩
  | 54 => ⟨S16x5000, .i32⟩
  | 55 => ⟨S16x5000, .i32⟩
  | 56 => ⟨S16x5000, .i32⟩
  | 57 => ⟨S16x5000, .i32⟩
  | 58 => ⟨S16x5000, .i32⟩
  | 59 => ⟨S16x5000, .i32⟩
  | 60 => ⟨S16x5000, .i32⟩
  | 61 => ⟨S_, .i32⟩
  | 62 => ⟨S16x5000, .i32⟩
  | 63 => ⟨S16x5000, .i32⟩
  | 64 => ⟨S16x5000, .i32⟩
  | 65 => ⟨S_, .i32⟩
  | 66 => ⟨S16x5000, .i32⟩
  | 67 => ⟨S16x5000, .i32⟩
  | 68 => ⟨S_, .i32⟩
  | 69 => ⟨S16x5000, .i32⟩
  | 70 => ⟨S16x5000, .i32⟩
  | 71 => ⟨S16x5000, .i32⟩
  | 72 => ⟨S16x5000, .i32⟩
  | 73 => ⟨S16x5000, .i32⟩
  | 74 => ⟨S_, .i32⟩
  | 75 => ⟨S16x5000, .i32⟩
  | 76 => ⟨S16x5000, .i32⟩
  | 77 => ⟨S_, .i32⟩
  | 78 => ⟨S16x5000, .i32⟩
  | 79 => ⟨S16x5000, .i32⟩
  | 80 => ⟨S16x5000, .i32⟩
  | 81 => ⟨S16x5000, .i32⟩
  | 82 => ⟨S16x5000, .i32⟩
  | 83 => ⟨S_, .i32⟩
  | 84 => ⟨S16x5000, .i32⟩
  | 85 => ⟨S16x5000, .i32⟩
  | 86 => ⟨S_, .i32⟩
  | 87 => ⟨S16x5000, .i32⟩
  | 88 => ⟨S16x5000, .i32⟩
  | 89 => ⟨S16x5000, .i32⟩
  | 90 => ⟨S16x5000, .i32⟩
  | 91 => ⟨S16x5000, .i32⟩
  | 92 => ⟨S_, .i32⟩
  | 93 => ⟨S16x5000, .i32⟩
  | 94 => ⟨S16x5000, .i32⟩
  | 95 => ⟨S_, .i32⟩
  | 96 => ⟨S16x5000, .i32⟩
  | 97 => ⟨S16x5000, .i32⟩
  | 98 => ⟨S16x5000, .i32⟩
  | 99 => ⟨S16x5000, .i32⟩
  | 100 => ⟨S16x5000, .i32⟩
  | 101 => ⟨S16x5000, .i32⟩
  | 102 => ⟨S16x5000, .i32⟩
  | 103 => ⟨S16x5000, .i32⟩
  | 104 => ⟨S_, .i32⟩
  | 105 => ⟨S16x5000, .i32⟩
  | 106 => ⟨S16x5000, .i32⟩
  | 107 => ⟨S16x5000, .i32⟩
  | 108 => ⟨S_, .i32⟩
  | 109 => ⟨S16x5000, .i32⟩
  | 110 => ⟨S16x5000, .i32⟩
  | 111 => ⟨S_, .i32⟩
  | 112 => ⟨S16x5000, .i32⟩
  | 113 => ⟨S16x5000, .i32⟩
  | 114 => ⟨S16x5000, .i32⟩
  | 115 => ⟨S16x5000, .i32⟩
  | 116 => ⟨S16x5000, .i32⟩
  | 117 => ⟨S_, .i32⟩
  | 118 => ⟨S16x5000, .i32⟩
  | 119 => ⟨S16x5000, .i32⟩
  | 120 => ⟨S_, .i32⟩
  | 121 => ⟨S16x5000, .i32⟩
  | 122 => ⟨S16x5000, .i32⟩
  | 123 => ⟨S16x5000, .i32⟩
  | 124 => ⟨S16x5000, .i32⟩
  | 125 => ⟨S16x5000, .i32⟩
  | 126 => ⟨S_, .i32⟩
  | 127 => ⟨S16x5000, .i32⟩
  | _ => ⟨S16x5000x4, .f32⟩

abbrev hbmTy0_4 (i : Nat) : BufTy := match i % 128 with
  | 0 => ⟨S16x5000, .i32⟩
  | 1 => ⟨S_, .i32⟩
  | 2 => ⟨S16x5000, .i32⟩
  | 3 => ⟨S16x5000, .i32⟩
  | 4 => ⟨S16x5000, .i32⟩
  | 5 => ⟨S16x5000, .i32⟩
  | 6 => ⟨S16x5000, .i32⟩
  | 7 => ⟨S_, .i32⟩
  | 8 => ⟨S16x5000, .i32⟩
  | 9 => ⟨S16x5000, .i32⟩
  | 10 => ⟨S_, .i32⟩
  | 11 => ⟨S16x5000, .i32⟩
  | 12 => ⟨S16x5000, .i32⟩
  | 13 => ⟨S16x5000, .i32⟩
  | 14 => ⟨S16x5000, .i32⟩
  | 15 => ⟨S16x5000, .i32⟩
  | 16 => ⟨S16x5000, .i32⟩
  | 17 => ⟨S16x5000, .i32⟩
  | 18 => ⟨S16x5000, .i32⟩
  | 19 => ⟨S_, .i32⟩
  | 20 => ⟨S16x5000, .i32⟩
  | 21 => ⟨S16x5000, .i32⟩
  | 22 => ⟨S16x5000, .i32⟩
  | 23 => ⟨S_, .i32⟩
  | 24 => ⟨S16x5000, .i32⟩
  | 25 => ⟨S16x5000, .i32⟩
  | 26 => ⟨S_, .i32⟩
  | 27 => ⟨S16x5000, .i32⟩
  | 28 => ⟨S16x5000, .i32⟩
  | 29 => ⟨S16x5000, .i32⟩
  | 30 => ⟨S16x5000, .i32⟩
  | 31 => ⟨S16x5000, .i32⟩
  | 32 => ⟨S_, .i32⟩
  | 33 => ⟨S16x5000, .i32⟩
  | 34 => ⟨S16x5000, .i32⟩
  | 35 => ⟨S_, .i32⟩
  | 36 => ⟨S16x5000, .i32⟩
  | 37 => ⟨S16x5000, .i32⟩
  | 38 => ⟨S16x5000, .i32⟩
  | 39 => ⟨S16x5000, .i32⟩
  | 40 => ⟨S16x5000, .i32⟩
  | 41 => ⟨S_, .i32⟩
  | 42 => ⟨S16x5000, .i32⟩
  | 43 => ⟨S16x5000, .i32⟩
  | 44 => ⟨S_, .i32⟩
  | 45 => ⟨S16x5000, .i32⟩
  | 46 => ⟨S16x5000, .i32⟩
  | 47 => ⟨S16x5000, .i32⟩
  | 48 => ⟨S16x5000, .i32⟩
  | 49 => ⟨S16x5000, .i32⟩
  | 50 => ⟨S_, .i32⟩
  | 51 => ⟨S16x5000, .i32⟩
  | 52 => ⟨S16x5000, .i32⟩
  | 53 => ⟨S_, .i32⟩
  | 54 => ⟨S16x5000, .i32⟩
  | 55 => ⟨S16x5000, .i32⟩
  | 56 => ⟨S16x5000, .i32⟩
  | 57 => ⟨S16x5000, .i32⟩
  | 58 => ⟨S16x5000, .i32⟩
  | 59 => ⟨S16x5000, .i32⟩
  | 60 => ⟨S16x5000, .i32⟩
  | 61 => ⟨S16x5000, .i32⟩
  | 62 => ⟨S_, .i32⟩
  | 63 => ⟨S16x5000, .i32⟩
  | 64 => ⟨S16x5000, .i32⟩
  | 65 => ⟨S16x5000, .i32⟩
  | 66 => ⟨S1, .i32⟩
  | 67 => ⟨S_, .i32⟩
  | 68 => ⟨S1, .i32⟩
  | 69 => ⟨S_, .i32⟩
  | 70 => ⟨S16x5000, .i64⟩
  | 71 => ⟨S16x5000, .i64⟩
  | 72 => ⟨S_, .i64⟩
  | 73 => ⟨S16x5000, .i64⟩
  | 74 => ⟨S16x5000, .i64⟩
  | 75 => ⟨S_, .i64⟩
  | 76 => ⟨S16x5000, .i64⟩
  | 77 => ⟨S16x5000, .i64⟩
  | 78 => ⟨S16x5000, .i64⟩
  | 79 => ⟨S_, .i64⟩
  | 80 => ⟨S16x5000, .i64⟩
  | 81 => ⟨S16x5000, .i64⟩
  | 82 => ⟨S16x5000, .i32⟩
  | 83 => ⟨S16x5000, .i32⟩
  | 84 => ⟨S_, .i32⟩
  | 85 => ⟨S_, .i32⟩
  | 86 => ⟨S_, .i32⟩
  | 87 => ⟨S16x5000, .i32⟩
  | 88 => ⟨S16x5000, .i32⟩
  | 89 => ⟨S16x5000, .i32⟩
  | 90 => ⟨S16x5000, .i32⟩
  | 91 => ⟨S16x5000, .i32⟩
  | 92 => ⟨S_, .i32⟩
  | 93 => ⟨S16x5000, .i32⟩
  | 94 => ⟨S16x5000, .i32⟩
  | 95 => ⟨S_, .i32⟩
  | 96 => ⟨S16x5000, .i32⟩
  | 97 => ⟨S16x5000, .i32⟩
  | 98 => ⟨S16x5000, .i32⟩
  | 99 => ⟨S16x5000, .i32⟩
  | 100 => ⟨S16x5000, .i32⟩
  | 101 => ⟨S_, .i32⟩
  | 102 => ⟨S16x5000, .i32⟩
  | 103 => ⟨S16x5000, .i32⟩
  | 104 => ⟨S_, .i32⟩
  | 105 => ⟨S16x5000, .i32⟩
  | 106 => ⟨S16x5000, .i32⟩
  | 107 => ⟨S16x5000, .i32⟩
  | 108 => ⟨S16x5000, .i32⟩
  | 109 => ⟨S16x5000, .i32⟩
  | 110 => ⟨S_, .i32⟩
  | 111 => ⟨S16x5000, .i32⟩
  | 112 => ⟨S16x5000, .i32⟩
  | 113 => ⟨S_, .i32⟩
  | 114 => ⟨S16x5000, .i32⟩
  | 115 => ⟨S16x5000, .i32⟩
  | 116 => ⟨S16x5000, .i32⟩
  | 117 => ⟨S16x5000, .i32⟩
  | 118 => ⟨S16x5000, .i32⟩
  | 119 => ⟨S_, .i32⟩
  | 120 => ⟨S16x5000, .i32⟩
  | 121 => ⟨S16x5000, .i32⟩
  | 122 => ⟨S_, .i32⟩
  | 123 => ⟨S16x5000, .i32⟩
  | 124 => ⟨S16x5000, .i32⟩
  | 125 => ⟨S16x5000, .i32⟩
  | 126 => ⟨S16x5000, .i32⟩
  | 127 => ⟨S16x5000, .i32⟩
  | _ => ⟨S16x5000x4, .f32⟩

abbrev hbmTy0_5 (i : Nat) : BufTy := match i % 128 with
  | 0 => ⟨S16x5000, .i32⟩
  | 1 => ⟨S16x5000, .i32⟩
  | 2 => ⟨S16x5000, .i32⟩
  | 3 => ⟨S_, .i32⟩
  | 4 => ⟨S16x5000, .i32⟩
  | 5 => ⟨S16x5000, .i32⟩
  | 6 => ⟨S16x5000, .i32⟩
  | 7 => ⟨S_, .i32⟩
  | 8 => ⟨S16x5000, .i32⟩
  | 9 => ⟨S16x5000, .i32⟩
  | 10 => ⟨S_, .i32⟩
  | 11 => ⟨S16x5000, .i32⟩
  | 12 => ⟨S16x5000, .i32⟩
  | 13 => ⟨S16x5000, .i32⟩
  | 14 => ⟨S16x5000, .i32⟩
  | 15 => ⟨S16x5000, .i32⟩
  | 16 => ⟨S_, .i32⟩
  | 17 => ⟨S16x5000, .i32⟩
  | 18 => ⟨S16x5000, .i32⟩
  | 19 => ⟨S_, .i32⟩
  | 20 => ⟨S16x5000, .i32⟩
  | 21 => ⟨S16x5000, .i32⟩
  | 22 => ⟨S16x5000, .i32⟩
  | 23 => ⟨S16x5000, .i32⟩
  | 24 => ⟨S16x5000, .i32⟩
  | 25 => ⟨S_, .i32⟩
  | 26 => ⟨S16x5000, .i32⟩
  | 27 => ⟨S16x5000, .i32⟩
  | 28 => ⟨S_, .i32⟩
  | 29 => ⟨S16x5000, .i32⟩
  | 30 => ⟨S16x5000, .i32⟩
  | 31 => ⟨S16x5000, .i32⟩
  | 32 => ⟨S16x5000, .i32⟩
  | 33 => ⟨S16x5000, .i32⟩
  | 34 => ⟨S_, .i32⟩
  | 35 => ⟨S16x5000, .i32⟩
  | 36 => ⟨S16x5000, .i32⟩
  | 37 => ⟨S_, .i32⟩
  | 38 => ⟨S16x5000, .i32⟩
  | 39 => ⟨S16x5000, .i32⟩
  | 40 => ⟨S16x5000, .i32⟩
  | 41 => ⟨S16x5000, .i32⟩
  | 42 => ⟨S16x5000, .i32⟩
  | 43 => ⟨S16x5000, .i32⟩
  | 44 => ⟨S16x5000, .i32⟩
  | 45 => ⟨S16x5000, .i32⟩
  | 46 => ⟨S_, .i32⟩
  | 47 => ⟨S16x5000, .i32⟩
  | 48 => ⟨S16x5000, .i32⟩
  | 49 => ⟨S16x5000, .i32⟩
  | 50 => ⟨S_, .i32⟩
  | 51 => ⟨S16x5000, .i32⟩
  | 52 => ⟨S16x5000, .i32⟩
  | 53 => ⟨S_, .i32⟩
  | 54 => ⟨S16x5000, .i32⟩
  | 55 => ⟨S16x5000, .i32⟩
  | 56 => ⟨S16x5000, .i32⟩
  | 57 => ⟨S16x5000, .i32⟩
  | 58 => ⟨S16x5000, .i32⟩
  | 59 => ⟨S_, .i32⟩
  | 60 => ⟨S16x5000, .i32⟩
  | 61 => ⟨S16x5000, .i32⟩
  | 62 => ⟨S_, .i32⟩
  | 63 => ⟨S16x5000, .i32⟩
  | 64 => ⟨S16x5000, .i32⟩
  | 65 => ⟨S16x5000, .i32⟩
  | 66 => ⟨S16x5000, .i32⟩
  | 67 => ⟨S16x5000, .i32⟩
  | 68 => ⟨S_, .i32⟩
  | 69 => ⟨S16x5000, .i32⟩
  | 70 => ⟨S16x5000, .i32⟩
  | 71 => ⟨S_, .i32⟩
  | 72 => ⟨S16x5000, .i32⟩
  | 73 => ⟨S16x5000, .i32⟩
  | 74 => ⟨S16x5000, .i32⟩
  | 75 => ⟨S16x5000, .i32⟩
  | 76 => ⟨S16x5000, .i32⟩
  | 77 => ⟨S_, .i32⟩
  | 78 => ⟨S16x5000, .i32⟩
  | 79 => ⟨S16x5000, .i32⟩
  | 80 => ⟨S_, .i32⟩
  | 81 => ⟨S16x5000, .i32⟩
  | 82 => ⟨S16x5000, .i32⟩
  | 83 => ⟨S16x5000, .i32⟩
  | 84 => ⟨S16x5000, .i32⟩
  | 85 => ⟨S16x5000, .i32⟩
  | 86 => ⟨S16x5000, .i32⟩
  | 87 => ⟨S16x5000, .i32⟩
  | 88 => ⟨S16x5000, .i32⟩
  | 89 => ⟨S_, .i32⟩
  | 90 => ⟨S16x5000, .i32⟩
  | 91 => ⟨S16x5000, .i32⟩
  | 92 => ⟨S16x5000, .i32⟩
  | 93 => ⟨S_, .i32⟩
  | 94 => ⟨S16x5000, .i32⟩
  | 95 => ⟨S16x5000, .i32⟩
  | 96 => ⟨S_, .i32⟩
  | 97 => ⟨S16x5000, .i32⟩
  | 98 => ⟨S16x5000, .i32⟩
  | 99 => ⟨S16x5000, .i32⟩
  | 100 => ⟨S16x5000, .i32⟩
  | 101 => ⟨S16x5000, .i32⟩
  | 102 => ⟨S_, .i32⟩
  | 103 => ⟨S16x5000, .i32⟩
  | 104 => ⟨S16x5000, .i32⟩
  | 105 => ⟨S_, .i32⟩
  | 106 => ⟨S16x5000, .i32⟩
  | 107 => ⟨S16x5000, .i32⟩
  | 108 => ⟨S16x5000, .i32⟩
  | 109 => ⟨S16x5000, .i32⟩
  | 110 => ⟨S16x5000, .i32⟩
  | 111 => ⟨S_, .i32⟩
  | 112 => ⟨S16x5000, .i32⟩
  | 113 => ⟨S16x5000, .i32⟩
  | 114 => ⟨S_, .i32⟩
  | 115 => ⟨S16x5000, .i32⟩
  | 116 => ⟨S16x5000, .i32⟩
  | 117 => ⟨S16x5000, .i32⟩
  | 118 => ⟨S16x5000, .i32⟩
  | 119 => ⟨S16x5000, .i32⟩
  | 120 => ⟨S_, .i32⟩
  | 121 => ⟨S16x5000, .i32⟩
  | 122 => ⟨S16x5000, .i32⟩
  | 123 => ⟨S_, .i32⟩
  | 124 => ⟨S16x5000, .i32⟩
  | 125 => ⟨S16x5000, .i32⟩
  | 126 => ⟨S16x5000, .i32⟩
  | 127 => ⟨S16x5000, .i32⟩
  | _ => ⟨S16x5000x4, .f32⟩

abbrev hbmTy0_6 (i : Nat) : BufTy := match i % 128 with
  | 0 => ⟨S16x5000, .i32⟩
  | 1 => ⟨S16x5000, .i32⟩
  | 2 => ⟨S16x5000, .i32⟩
  | 3 => ⟨S16x5000, .i32⟩
  | 4 => ⟨S_, .i32⟩
  | 5 => ⟨S16x5000, .i32⟩
  | 6 => ⟨S16x5000, .i32⟩
  | 7 => ⟨S16x5000, .i32⟩
  | 8 => ⟨S_, .i32⟩
  | 9 => ⟨S16x5000, .i32⟩
  | 10 => ⟨S16x5000, .i32⟩
  | 11 => ⟨S_, .i32⟩
  | 12 => ⟨S16x5000, .i32⟩
  | 13 => ⟨S16x5000, .i32⟩
  | 14 => ⟨S16x5000, .i32⟩
  | 15 => ⟨S16x5000, .i32⟩
  | 16 => ⟨S16x5000, .i32⟩
  | 17 => ⟨S_, .i32⟩
  | 18 => ⟨S16x5000, .i32⟩
  | 19 => ⟨S16x5000, .i32⟩
  | 20 => ⟨S_, .i32⟩
  | 21 => ⟨S16x5000, .i32⟩
  | 22 => ⟨S16x5000, .i32⟩
  | 23 => ⟨S16x5000, .i32⟩
  | 24 => ⟨S16x5000, .i32⟩
  | 25 => ⟨S16x5000, .i32⟩
  | 26 => ⟨S_, .i32⟩
  | 27 => ⟨S16x5000, .i32⟩
  | 28 => ⟨S16x5000, .i32⟩
  | 29 => ⟨S_, .i32⟩
  | 30 => ⟨S16x5000, .i32⟩
  | 31 => ⟨S16x5000, .i32⟩
  | 32 => ⟨S16x5000, .i32⟩
  | 33 => ⟨S16x5000, .i32⟩
  | 34 => ⟨S16x5000, .i32⟩
  | 35 => ⟨S_, .i32⟩
  | 36 => ⟨S16x5000, .i32⟩
  | 37 => ⟨S16x5000, .i32⟩
  | 38 => ⟨S_, .i32⟩
  | 39 => ⟨S16x5000, .i32⟩
  | 40 => ⟨S16x5000, .i32⟩
  | 41 => ⟨S16x5000, .i32⟩
  | 42 => ⟨S16x5000, .i32⟩
  | 43 => ⟨S16x5000, .i32⟩
  | 44 => ⟨S16x5000, .i32⟩
  | 45 => ⟨S16x5000, .i32⟩
  | 46 => ⟨S16x5000, .i32⟩
  | 47 => ⟨S_, .i32⟩
  | 48 => ⟨S16x5000, .i32⟩
  | 49 => ⟨S16x5000, .i32⟩
  | 50 => ⟨S16x5000, .i32⟩
  | 51 => ⟨S1x1, .i32⟩
  | 52 => ⟨S1x1, .i32⟩
  | 53 => ⟨S1x1, .i1⟩
  | 54 => ⟨S_, .i32⟩
  | 55 => ⟨S1x1, .i32⟩
  | 56 => ⟨S1x1, .i32⟩
  | 57 => ⟨S1x1, .i1⟩
  | 58 => ⟨S1x1, .i1⟩
  | 59 => ⟨S1x1, .i1⟩
  | 60 => ⟨S_, .i32⟩
  | 61 => ⟨S1x1, .i32⟩
  | 62 => ⟨S1x1, .i32⟩
  | 63 => ⟨S1x1, .i32⟩
  | 64 => ⟨S_, .i32⟩
  | 65 => ⟨S1x1, .i32⟩
  | 66 => ⟨S1x1, .i32⟩
  | 67 => ⟨S1x1, .i32⟩
  | 68 => ⟨S1x1, .i32⟩
  | 69 => ⟨S16x5000, .i32⟩
  | 70 => ⟨S16x5000, .i32⟩
  | 71 => ⟨S16x5000, .i32⟩
  | 72 => ⟨S16x5000, .i32⟩
  | 73 => ⟨S16x5000, .i32⟩
  | 74 => ⟨S16x5000, .i32⟩
  | 75 => ⟨S16x5000, .i32⟩
  | 76 => ⟨S16x5000, .i32⟩
  | 77 => ⟨S16x5000, .i32⟩
  | 78 => ⟨S16x5000, .i32⟩
  | 79 => ⟨S16x5000, .i32⟩
  | 80 => ⟨S16x5000, .i32⟩
  | 81 => ⟨S16x5000, .i32⟩
  | 82 => ⟨S16x5000, .i32⟩
  | 83 => ⟨S16x5000, .i32⟩
  | 84 => ⟨S16x5000, .i32⟩
  | 85 => ⟨S16x5000, .i32⟩
  | 86 => ⟨S16x5000, .i32⟩
  | 87 => ⟨S16x5000, .i32⟩
  | 88 => ⟨S16x5000, .i32⟩
  | 89 => ⟨S16x5000, .i32⟩
  | 90 => ⟨S_, .i32⟩
  | 91 => ⟨S16x5000, .i32⟩
  | 92 => ⟨S16x5000, .i1⟩
  | 93 => ⟨S16x5000, .i1⟩
  | 94 => ⟨S16x5000x1, .i32⟩
  | 95 => ⟨S_, .i32⟩
  | 96 => ⟨S16x5000x1, .i32⟩
  | 97 => ⟨S16x5000x1, .i1⟩
  | 98 => ⟨S_, .i32⟩
  | 99 => ⟨S16x5000x1, .i32⟩
  | 100 => ⟨S16x5000x1, .i32⟩
  | 101 => ⟨S16x5000x1, .i32⟩
  | 102 => ⟨S1, .i32⟩
  | 103 => ⟨S_, .i32⟩
  | 104 => ⟨S16x5000x1, .i32⟩
  | 105 => ⟨S16x5000x1, .i1⟩
  | 106 => ⟨S1x1x1, .i32⟩
  | 107 => ⟨S16x5000x1, .i32⟩
  | 108 => ⟨S16x5000x1, .i1⟩
  | 109 => ⟨S16x5000x1, .i1⟩
  | 110 => ⟨S_, .i1⟩
  | 111 => ⟨S16x5000, .i1⟩
  | 112 => ⟨S16x5000x4, .f32⟩
  | 113 => ⟨S16x5000x4, .i1⟩
  | 114 => ⟨S_, .f32⟩
  | 115 => ⟨S16x5000x4, .f32⟩
  | 116 => ⟨S16x5000x4, .f32⟩
  | 117 => ⟨S16x5000x1, .i1⟩
  | 118 => ⟨S_, .f32⟩
  | 119 => ⟨S16x5000x4, .f32⟩
  | 120 => ⟨S16x5000x4, .i1⟩
  | 121 => ⟨S16x5000x4, .f32⟩
  | 122 => ⟨S_, .i32⟩
  | 123 => ⟨S16x5000, .i32⟩
  | 124 => ⟨S16x5000, .i1⟩
  | 125 => ⟨S_, .i32⟩
  | 126 => ⟨S16x5000, .i32⟩
  | 127 => ⟨S16x5000, .i32⟩
  | _ => ⟨S16x5000x4, .f32⟩

abbrev hbmTy0_7 (i : Nat) : BufTy := match i % 128 with
  | 0 => ⟨S16x5000, .i32⟩
  | 1 => ⟨S16x5000x1, .i32⟩
  | 2 => ⟨S1, .i32⟩
  | 3 => ⟨S_, .i32⟩
  | 4 => ⟨S16x5000x1, .i32⟩
  | 5 => ⟨S16x5000x1, .i1⟩
  | 6 => ⟨S1x1x1, .i32⟩
  | 7 => ⟨S16x5000x1, .i32⟩
  | 8 => ⟨S16x5000x1, .i1⟩
  | 9 => ⟨S16x5000x1, .i1⟩
  | 10 => ⟨S_, .i1⟩
  | 11 => ⟨S16x5000, .i1⟩
  | 12 => ⟨S16x5000, .i32⟩
  | 13 => ⟨S_, .i32⟩
  | 14 => ⟨S16x5000, .i32⟩
  | 15 => ⟨S16x5000, .i32⟩
  | 16 => ⟨S_, .i32⟩
  | 17 => ⟨S16x5000, .i32⟩
  | 18 => ⟨S16x5000, .i32⟩
  | 19 => ⟨S16x5000x1, .f32⟩
  | 20 => ⟨S16x5000, .f32⟩
  | 21 => ⟨S16x5000x1, .f32⟩
  | 22 => ⟨S16x5000, .f32⟩
  | 23 => ⟨S16x5000, .f32⟩
  | 24 => ⟨S16x5000x1, .f32⟩
  | 25 => ⟨S16x5000, .f32⟩
  | 26 => ⟨S16x5000x1, .f32⟩
  | 27 => ⟨S16x5000, .f32⟩
  | 28 => ⟨S16x5000, .f32⟩
  | 29 => ⟨S16x5000x1, .f32⟩
  | 30 => ⟨S16x5000, .f32⟩
  | 31 => ⟨S_, .f32⟩
  | 32 => ⟨S16x5000, .f32⟩
  | 33 => ⟨S16x5000, .f32⟩
  | 34 => ⟨S16x5000, .f32⟩
  | 35 => ⟨S16x5000x1, .f32⟩
  | 36 => ⟨S16x5000, .f32⟩
  | 37 => ⟨S_, .f32⟩
  | 38 => ⟨S16x5000, .f32⟩
  | 39 => ⟨S16x5000, .f32⟩
  | 40 => ⟨S16x5000, .f32⟩
  | 41 => ⟨S16x5000x1, .f32⟩
  | 42 => ⟨S16x5000, .f32⟩
  | 43 => ⟨S16x5000x1, .f32⟩
  | 44 => ⟨S16x5000, .f32⟩
  | 45 => ⟨S16x5000, .f32⟩
  | 46 => ⟨S16x5000x1, .f32⟩
  | 47 => ⟨S16x5000, .f32⟩
  | 48 => ⟨S16x5000x1, .f32⟩
  | 49 => ⟨S16x5000, .f32⟩
  | 50 => ⟨S16x5000, .f32⟩
  | 51 => ⟨S16x5000x1, .f32⟩
  | 52 => ⟨S16x5000, .f32⟩
  | 53 => ⟨S_, .f32⟩
  | 54 => ⟨S16x5000, .f32⟩
  | 55 => ⟨S16x5000, .f32⟩
  | 56 => ⟨S16x5000, .f32⟩
  | 57 => ⟨S16x5000x1, .f32⟩
  | 58 => ⟨S16x5000, .f32⟩
  | 59 => ⟨S_, .f32⟩
  | 60 => ⟨S16x5000, .f32⟩
  | 61 => ⟨S16x5000, .f32⟩
  | 62 => ⟨S16x5000, .f32⟩
  | 63 => ⟨S_, .f32⟩
  | 64 => ⟨S16x5000, .f32⟩
  | 65 => ⟨S16x5000, .i1⟩
  | 66 => ⟨S_, .f32⟩
  | 67 => ⟨S_, .f32⟩
  | 68 => ⟨S16x5000, .f32⟩
  | 69 => ⟨S16x5000, .f32⟩
  | 70 => ⟨S_, .f32⟩
  | 71 => ⟨S16x5000, .f32⟩
  | 72 => ⟨S16x5000, .i1⟩
  | 73 => ⟨S_, .f32⟩
  | 74 => ⟨S_, .f32⟩
  | 75 => ⟨S16x5000, .f32⟩
  | 76 => ⟨S16x5000, .f32⟩
  | 77 => ⟨S_, .f32⟩
  | 78 => ⟨S16x5000, .f32⟩
  | 79 => ⟨S16x5000, .i1⟩
  | 80 => ⟨S16x5000, .f32⟩
  | 81 => ⟨S16x5000, .f32⟩
  | 82 => ⟨S_, .f32⟩
  | 83 => ⟨S_, .f32⟩
  | 84 => ⟨S16x5000, .f32⟩
  | 85 => ⟨S16x5000, .f32⟩
  | 86 => ⟨S_, .f32⟩
  | 87 => ⟨S16x5000, .f32⟩
  | 88 => ⟨S16x5000, .i1⟩
  | 89 => ⟨S16x5000, .f32⟩
  | 90 => ⟨S16x5000, .f32⟩
  | 91 => ⟨S_, .f32⟩
  | 92 => ⟨S_, .f32⟩
  | 93 => ⟨S16x5000, .f32⟩
  | 94 => ⟨S16x5000, .f32⟩
  | 95 => ⟨S_, .f32⟩
  | 96 => ⟨S16x5000, .f32⟩
  | 97 => ⟨S16x5000, .i1⟩
  | 98 => ⟨S_, .f32⟩
  | 99 => ⟨S_, .f32⟩
  | 100 => ⟨S16x5000, .f32⟩
  | 101 => ⟨S16x5000, .f32⟩
  | 102 => ⟨S_, .f32⟩
  | 103 => ⟨S16x5000, .f32⟩
  | 104 => ⟨S16x5000, .i1⟩
  | 105 => ⟨S_, .f32⟩
  | 106 => ⟨S_, .f32⟩
  | 107 => ⟨S16x5000, .f32⟩
  | 108 => ⟨S16x5000, .f32⟩
  | 109 => ⟨S_, .f32⟩
  | 110 => ⟨S16x5000, .f32⟩
  | 111 => ⟨S16x5000, .i1⟩
  | 112 => ⟨S16x5000, .f32⟩
  | 113 => ⟨S16x5000, .f32⟩
  | 114 => ⟨S_, .f32⟩
  | 115 => ⟨S_, .f32⟩
  | 116 => ⟨S16x5000, .f32⟩
  | 117 => ⟨S16x5000, .f32⟩
  | 118 => ⟨S_, .f32⟩
  | 119 => ⟨S16x5000, .f32⟩
  | 120 => ⟨S16x5000, .i1⟩
  | 121 => ⟨S16x5000, .f32⟩
  | 122 => ⟨S16x5000, .f32⟩
  | 123 => ⟨S_, .f32⟩
  | 124 => ⟨S_, .f32⟩
  | 125 => ⟨S16x5000, .f32⟩
  | 126 => ⟨S16x5000, .f32⟩
  | 127 => ⟨S16x5000x1, .f32⟩
  | _ => ⟨S16x5000x4, .f32⟩

abbrev hbmTy0_8 (i : Nat) : BufTy := match i % 128 with
  | 0 => ⟨S16x5000x1, .f32⟩
  | 1 => ⟨S16x5000x1, .f32⟩
  | 2 => ⟨S16x5000x1, .f32⟩
  | 3 => ⟨S16x5000x4, .f32⟩
  | 4 => ⟨S1x1x4, .f32⟩
  | 5 => ⟨S16x5000x4, .f32⟩
  | 6 => ⟨S16x5000x4, .f32⟩
  | 7 => ⟨S16x5000x1, .i32⟩
  | 8 => ⟨S1x1x21, .i32⟩
  | 9 => ⟨S16x5000x21, .i32⟩
  | 10 => ⟨S16x5000x21, .i32⟩
  | 11 => ⟨S16x5000x21, .i1⟩
  | 12 => ⟨S16x5000x21, .f32⟩
  | 13 => ⟨S16x5000x21x1, .f32⟩
  | 14 => ⟨S1x16x1x5000x1x21x1x1, .f32⟩
  | 15 => ⟨S1x16x1x5000x1x21x4x1, .f32⟩
  | 16 => ⟨S16x5000x21x4, .f32⟩
  | 17 => ⟨S16x5000x1x4, .f32⟩
  | 18 => ⟨S16x5000x21x4, .f32⟩
  | 19 => ⟨S16x5000x21x4, .f32⟩
  | _ => ⟨S16x5000x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S16x5000x4, .f32⟩

abbrev bufTy : (tb : Table) → Fin (tcTables nBuf tb) → BufTy
  | .hbm, ⟨i, _⟩ => hbmTy i
  | _, _ => ⟨S16x5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_0 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_2 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_call0_v0 : Ref sig .tc := ⟨.hbm, 55, rfl⟩
abbrev main_call0_cst : Ref sig .tc := ⟨.hbm, 56, rfl⟩
abbrev main_call0_c : Ref sig .tc := ⟨.hbm, 57, rfl⟩
abbrev main_call0_v1_0 : Ref sig .tc := ⟨.hbm, 58, rfl⟩
abbrev main_v48 : Ref sig .tc := ⟨.hbm, 59, rfl⟩
abbrev main_cst_3 : Ref sig .tc := ⟨.hbm, 60, rfl⟩
abbrev main_v49 : Ref sig .tc := ⟨.hbm, 61, rfl⟩
abbrev main_cst_4 : Ref sig .tc := ⟨.hbm, 62, rfl⟩
abbrev main_v50 : Ref sig .tc := ⟨.hbm, 63, rfl⟩
abbrev main_v51 : Ref sig .tc := ⟨.hbm, 64, rfl⟩
abbrev main_c : Ref sig .tc := ⟨.hbm, 65, rfl⟩
abbrev main_c_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c_6 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_7 : Ref sig .tc := ⟨.hbm, 75, rfl⟩
abbrev main_c_8 : Ref sig .tc := ⟨.hbm, 76, rfl⟩
abbrev main_call1_c : Ref sig .tc := ⟨.hbm, 77, rfl⟩
abbrev main_call1_c_0 : Ref sig .tc := ⟨.hbm, 78, rfl⟩
abbrev main_call1_c_1 : Ref sig .tc := ⟨.hbm, 79, rfl⟩
abbrev main_call1_call0_v0 : Ref sig .tc := ⟨.hbm, 80, rfl⟩
abbrev main_call1_v0 : Ref sig .tc := ⟨.hbm, 81, rfl⟩
abbrev main_call1_v1 : Ref sig .tc := ⟨.hbm, 82, rfl⟩
abbrev main_call1_c_2 : Ref sig .tc := ⟨.hbm, 83, rfl⟩
abbrev main_call1_c_3 : Ref sig .tc := ⟨.hbm, 84, rfl⟩
abbrev main_call1_call1_v0 : Ref sig .tc := ⟨.hbm, 85, rfl⟩
abbrev main_call1_v2 : Ref sig .tc := ⟨.hbm, 86, rfl⟩
abbrev main_call1_v3 : Ref sig .tc := ⟨.hbm, 87, rfl⟩
abbrev main_call1_c_4 : Ref sig .tc := ⟨.hbm, 88, rfl⟩
abbrev main_call1_c_5 : Ref sig .tc := ⟨.hbm, 89, rfl⟩
abbrev main_call1_call2_v0 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_call3_v0 : Ref sig .tc := ⟨.hbm, 95, rfl⟩
abbrev main_call1_call3_v1 : Ref sig .tc := ⟨.hbm, 96, rfl⟩
abbrev main_call1_call3_v2 : Ref sig .tc := ⟨.hbm, 97, rfl⟩
abbrev main_call1_call3_v3 : Ref sig .tc := ⟨.hbm, 98, rfl⟩
abbrev main_call1_call3_v4 : Ref sig .tc := ⟨.hbm, 99, rfl⟩
abbrev main_call1_call3_c : Ref sig .tc := ⟨.hbm, 100, rfl⟩
abbrev main_call1_call3_v5 : Ref sig .tc := ⟨.hbm, 101, rfl⟩
abbrev main_call1_call3_v6 : Ref sig .tc := ⟨.hbm, 102, rfl⟩
abbrev main_call1_call3_c_0 : Ref sig .tc := ⟨.hbm, 103, rfl⟩
abbrev main_call1_call3_v7 : Ref sig .tc := ⟨.hbm, 104, rfl⟩
abbrev main_call1_call3_v8 : Ref sig .tc := ⟨.hbm, 105, rfl⟩
abbrev main_call1_call3_v9 : Ref sig .tc := ⟨.hbm, 106, rfl⟩
abbrev main_call1_call3_v10 : Ref sig .tc := ⟨.hbm, 107, rfl⟩
abbrev main_call1_call3_call0_v0 : Ref sig .tc := ⟨.hbm, 108, rfl⟩
abbrev main_call1_call3_call0_c : Ref sig .tc := ⟨.hbm, 109, rfl⟩
abbrev main_call1_call3_call0_v1 : Ref sig .tc := ⟨.hbm, 110, rfl⟩
abbrev main_call1_call3_call0_v2 : Ref sig .tc := ⟨.hbm, 111, rfl⟩
abbrev main_call1_call3_call0_v3 : Ref sig .tc := ⟨.hbm, 112, rfl⟩
abbrev main_call1_call3_call0_v4 : Ref sig .tc := ⟨.hbm, 113, rfl⟩
abbrev main_call1_call3_call0_v5 : Ref sig .tc := ⟨.hbm, 114, rfl⟩
abbrev main_call1_call3_call0_v6 : Ref sig .tc := ⟨.hbm, 115, rfl⟩
abbrev main_call1_call3_call0_c_0 : Ref sig .tc := ⟨.hbm, 116, rfl⟩
abbrev main_call1_call3_call0_v7 : Ref sig .tc := ⟨.hbm, 117, rfl⟩
abbrev main_call1_call3_call0_v8 : Ref sig .tc := ⟨.hbm, 118, rfl⟩
abbrev main_call1_call3_call0_c_1 : Ref sig .tc := ⟨.hbm, 119, rfl⟩
abbrev main_call1_call3_call0_v9 : Ref sig .tc := ⟨.hbm, 120, rfl⟩
abbrev main_call1_call3_call0_v10 : Ref sig .tc := ⟨.hbm, 121, rfl⟩
abbrev main_call1_call3_call0_v11 : Ref sig .tc := ⟨.hbm, 122, rfl⟩
abbrev main_call1_call3_call0_v12 : Ref sig .tc := ⟨.hbm, 123, rfl⟩
abbrev main_call1_call3_call0_v13 : Ref sig .tc := ⟨.hbm, 124, rfl⟩
abbrev main_call1_call3_call0_c_2 : Ref sig .tc := ⟨.hbm, 125, rfl⟩
abbrev main_call1_call3_call0_v14 : Ref sig .tc := ⟨.hbm, 126, rfl⟩
abbrev main_call1_call3_call0_v15 : Ref sig .tc := ⟨.hbm, 127, rfl⟩
abbrev main_call1_call3_call0_c_3 : Ref sig .tc := ⟨.hbm, 128, rfl⟩
abbrev main_call1_call3_call0_v16 : Ref sig .tc := ⟨.hbm, 129, rfl⟩
abbrev main_call1_call3_call0_v17 : Ref sig .tc := ⟨.hbm, 130, rfl⟩
abbrev main_call1_call3_call0_v18 : Ref sig .tc := ⟨.hbm, 131, rfl⟩
abbrev main_call1_call3_call0_v19 : Ref sig .tc := ⟨.hbm, 132, rfl⟩
abbrev main_call1_call3_call0_v20 : Ref sig .tc := ⟨.hbm, 133, rfl⟩
abbrev main_call1_call3_call0_c_4 : Ref sig .tc := ⟨.hbm, 134, rfl⟩
abbrev main_call1_call3_call0_v21 : Ref sig .tc := ⟨.hbm, 135, rfl⟩
abbrev main_call1_call3_call0_v22 : Ref sig .tc := ⟨.hbm, 136, rfl⟩
abbrev main_call1_call3_call0_c_5 : Ref sig .tc := ⟨.hbm, 137, rfl⟩
abbrev main_call1_call3_call0_v23 : Ref sig .tc := ⟨.hbm, 138, rfl⟩
abbrev main_call1_call3_call0_v24 : Ref sig .tc := ⟨.hbm, 139, rfl⟩
abbrev main_call1_call3_call0_v25 : Ref sig .tc := ⟨.hbm, 140, rfl⟩
abbrev main_call1_call3_call0_v26 : Ref sig .tc := ⟨.hbm, 141, rfl⟩
abbrev main_call1_call3_call0_v27 : Ref sig .tc := ⟨.hbm, 142, rfl⟩
abbrev main_call1_call3_call0_c_6 : Ref sig .tc := ⟨.hbm, 143, rfl⟩
abbrev main_call1_call3_call0_v28 : Ref sig .tc := ⟨.hbm, 144, rfl⟩
abbrev main_call1_call3_call0_v29 : Ref sig .tc := ⟨.hbm, 145, rfl⟩
abbrev main_call1_call3_call0_c_7 : Ref sig .tc := ⟨.hbm, 146, rfl⟩
abbrev main_call1_call3_call0_v30 : Ref sig .tc := ⟨.hbm, 147, rfl⟩
abbrev main_call1_call3_call0_v31 : Ref sig .tc := ⟨.hbm, 148, rfl⟩
abbrev main_call1_call3_call0_v32 : Ref sig .tc := ⟨.hbm, 149, rfl⟩
abbrev main_call1_call3_call0_v33 : Ref sig .tc := ⟨.hbm, 150, rfl⟩
abbrev main_call1_call3_call0_v34 : Ref sig .tc := ⟨.hbm, 151, rfl⟩
abbrev main_call1_call3_call0_v35 : Ref sig .tc := ⟨.hbm, 152, rfl⟩
abbrev main_call1_call3_call0_v36 : Ref sig .tc := ⟨.hbm, 153, rfl⟩
abbrev main_call1_call3_call0_v37 : Ref sig .tc := ⟨.hbm, 154, rfl⟩
abbrev main_call1_call3_call0_c_8 : Ref sig .tc := ⟨.hbm, 155, rfl⟩
abbrev main_call1_call3_call0_v38 : Ref sig .tc := ⟨.hbm, 156, rfl⟩
abbrev main_call1_call3_call0_v39 : Ref sig .tc := ⟨.hbm, 157, rfl⟩
abbrev main_call1_call3_call0_v40 : Ref sig .tc := ⟨.hbm, 158, rfl⟩
abbrev main_call1_call3_call0_c_9 : Ref sig .tc := ⟨.hbm, 159, rfl⟩
abbrev main_call1_call3_call0_v41 : Ref sig .tc := ⟨.hbm, 160, rfl⟩
abbrev main_call1_call3_call0_v42 : Ref sig .tc := ⟨.hbm, 161, rfl⟩
abbrev main_call1_call3_call0_c_10 : Ref sig .tc := ⟨.hbm, 162, rfl⟩
abbrev main_call1_call3_call0_v43 : Ref sig .tc := ⟨.hbm, 163, rfl⟩
abbrev main_call1_call3_call0_v44 : Ref sig .tc := ⟨.hbm, 164, rfl⟩
abbrev main_call1_call3_call0_v45 : Ref sig .tc := ⟨.hbm, 165, rfl⟩
abbrev main_call1_call3_call0_v46 : Ref sig .tc := ⟨.hbm, 166, rfl⟩
abbrev main_call1_call3_call0_v47 : Ref sig .tc := ⟨.hbm, 167, rfl⟩
abbrev main_call1_call3_call0_c_11 : Ref sig .tc := ⟨.hbm, 168, rfl⟩
abbrev main_call1_call3_call0_v48 : Ref sig .tc := ⟨.hbm, 169, rfl⟩
abbrev main_call1_call3_call0_v49 : Ref sig .tc := ⟨.hbm, 170, rfl⟩
abbrev main_call1_call3_call0_c_12 : Ref sig .tc := ⟨.hbm, 171, rfl⟩
abbrev main_call1_call3_call0_v50 : Ref sig .tc := ⟨.hbm, 172, rfl⟩
abbrev main_call1_call3_call0_v51 : Ref sig .tc := ⟨.hbm, 173, rfl⟩
abbrev main_call1_call3_call0_v52 : Ref sig .tc := ⟨.hbm, 174, rfl⟩
abbrev main_call1_call3_call0_v53 : Ref sig .tc := ⟨.hbm, 175, rfl⟩
abbrev main_call1_call3_call0_v54 : Ref sig .tc := ⟨.hbm, 176, rfl⟩
abbrev main_call1_call3_call0_c_13 : Ref sig .tc := ⟨.hbm, 177, rfl⟩
abbrev main_call1_call3_call0_v55 : Ref sig .tc := ⟨.hbm, 178, rfl⟩
abbrev main_call1_call3_call0_v56 : Ref sig .tc := ⟨.hbm, 179, rfl⟩
abbrev main_call1_call3_call0_c_14 : Ref sig .tc := ⟨.hbm, 180, rfl⟩
abbrev main_call1_call3_call0_v57 : Ref sig .tc := ⟨.hbm, 181, rfl⟩
abbrev main_call1_call3_call0_v58 : Ref sig .tc := ⟨.hbm, 182, rfl⟩
abbrev main_call1_call3_call0_v59 : Ref sig .tc := ⟨.hbm, 183, rfl⟩
abbrev main_call1_call3_call0_v60 : Ref sig .tc := ⟨.hbm, 184, rfl⟩
abbrev main_call1_call3_call0_v61 : Ref sig .tc := ⟨.hbm, 185, rfl⟩
abbrev main_call1_call3_call0_c_15 : Ref sig .tc := ⟨.hbm, 186, rfl⟩
abbrev main_call1_call3_call0_v62 : Ref sig .tc := ⟨.hbm, 187, rfl⟩
abbrev main_call1_call3_call0_v63 : Ref sig .tc := ⟨.hbm, 188, rfl⟩
abbrev main_call1_call3_call0_c_16 : Ref sig .tc := ⟨.hbm, 189, rfl⟩
abbrev main_call1_call3_call0_v64 : Ref sig .tc := ⟨.hbm, 190, rfl⟩
abbrev main_call1_call3_call0_v65 : Ref sig .tc := ⟨.hbm, 191, rfl⟩
abbrev main_call1_call3_call0_v66 : Ref sig .tc := ⟨.hbm, 192, rfl⟩
abbrev main_call1_call3_call0_v67 : Ref sig .tc := ⟨.hbm, 193, rfl⟩
abbrev main_call1_call3_call0_v68 : Ref sig .tc := ⟨.hbm, 194, rfl⟩
abbrev main_call1_call3_call0_v69 : Ref sig .tc := ⟨.hbm, 195, rfl⟩
abbrev main_call1_call3_call0_v70 : Ref sig .tc := ⟨.hbm, 196, rfl⟩
abbrev main_call1_call3_call0_v71 : Ref sig .tc := ⟨.hbm, 197, rfl⟩
abbrev main_call1_call3_call0_c_17 : Ref sig .tc := ⟨.hbm, 198, rfl⟩
abbrev main_call1_call3_call0_v72 : Ref sig .tc := ⟨.hbm, 199, rfl⟩
abbrev main_call1_call3_call0_v73 : Ref sig .tc := ⟨.hbm, 200, rfl⟩
abbrev main_call1_call3_call0_v74 : Ref sig .tc := ⟨.hbm, 201, rfl⟩
abbrev main_call1_call3_call0_c_18 : Ref sig .tc := ⟨.hbm, 202, rfl⟩
abbrev main_call1_call3_call0_v75 : Ref sig .tc := ⟨.hbm, 203, rfl⟩
abbrev main_call1_call3_call0_v76 : Ref sig .tc := ⟨.hbm, 204, rfl⟩
abbrev main_call1_call3_call0_c_19 : Ref sig .tc := ⟨.hbm, 205, rfl⟩
abbrev main_call1_call3_call0_v77 : Ref sig .tc := ⟨.hbm, 206, rfl⟩
abbrev main_call1_call3_call0_v78 : Ref sig .tc := ⟨.hbm, 207, rfl⟩
abbrev main_call1_call3_call0_v79 : Ref sig .tc := ⟨.hbm, 208, rfl⟩
abbrev main_call1_call3_call0_v80 : Ref sig .tc := ⟨.hbm, 209, rfl⟩
abbrev main_call1_call3_call0_v81 : Ref sig .tc := ⟨.hbm, 210, rfl⟩
abbrev main_call1_call3_call0_c_20 : Ref sig .tc := ⟨.hbm, 211, rfl⟩
abbrev main_call1_call3_call0_v82 : Ref sig .tc := ⟨.hbm, 212, rfl⟩
abbrev main_call1_call3_call0_v83 : Ref sig .tc := ⟨.hbm, 213, rfl⟩
abbrev main_call1_call3_call0_c_21 : Ref sig .tc := ⟨.hbm, 214, rfl⟩
abbrev main_call1_call3_call0_v84 : Ref sig .tc := ⟨.hbm, 215, rfl⟩
abbrev main_call1_call3_call0_v85 : Ref sig .tc := ⟨.hbm, 216, rfl⟩
abbrev main_call1_call3_call0_v86 : Ref sig .tc := ⟨.hbm, 217, rfl⟩
abbrev main_call1_call3_call0_v87 : Ref sig .tc := ⟨.hbm, 218, rfl⟩
abbrev main_call1_call3_call0_v88 : Ref sig .tc := ⟨.hbm, 219, rfl⟩
abbrev main_call1_call3_call0_c_22 : Ref sig .tc := ⟨.hbm, 220, rfl⟩
abbrev main_call1_call3_call0_v89 : Ref sig .tc := ⟨.hbm, 221, rfl⟩
abbrev main_call1_call3_call0_v90 : Ref sig .tc := ⟨.hbm, 222, rfl⟩
abbrev main_call1_call3_call0_c_23 : Ref sig .tc := ⟨.hbm, 223, rfl⟩
abbrev main_call1_call3_call0_v91 : Ref sig .tc := ⟨.hbm, 224, rfl⟩
abbrev main_call1_call3_call0_v92 : Ref sig .tc := ⟨.hbm, 225, rfl⟩
abbrev main_call1_call3_call0_v93 : Ref sig .tc := ⟨.hbm, 226, rfl⟩
abbrev main_call1_call3_call0_v94 : Ref sig .tc := ⟨.hbm, 227, rfl⟩
abbrev main_call1_call3_call0_v95 : Ref sig .tc := ⟨.hbm, 228, rfl⟩
abbrev main_call1_call3_call0_c_24 : Ref sig .tc := ⟨.hbm, 229, rfl⟩
abbrev main_call1_call3_call0_v96 : Ref sig .tc := ⟨.hbm, 230, rfl⟩
abbrev main_call1_call3_call0_v97 : Ref sig .tc := ⟨.hbm, 231, rfl⟩
abbrev main_call1_call3_call0_c_25 : Ref sig .tc := ⟨.hbm, 232, rfl⟩
abbrev main_call1_call3_call0_v98 : Ref sig .tc := ⟨.hbm, 233, rfl⟩
abbrev main_call1_call3_call0_v99 : Ref sig .tc := ⟨.hbm, 234, rfl⟩
abbrev main_call1_call3_call0_v100 : Ref sig .tc := ⟨.hbm, 235, rfl⟩
abbrev main_call1_call3_call0_v101 : Ref sig .tc := ⟨.hbm, 236, rfl⟩
abbrev main_call1_call3_call0_v102 : Ref sig .tc := ⟨.hbm, 237, rfl⟩
abbrev main_call1_call3_call0_v103 : Ref sig .tc := ⟨.hbm, 238, rfl⟩
abbrev main_call1_call3_call0_v104 : Ref sig .tc := ⟨.hbm, 239, rfl⟩
abbrev main_call1_call3_call0_v105 : Ref sig .tc := ⟨.hbm, 240, rfl⟩
abbrev main_call1_call3_call0_c_26 : Ref sig .tc := ⟨.hbm, 241, rfl⟩
abbrev main_call1_call3_call0_v106 : Ref sig .tc := ⟨.hbm, 242, rfl⟩
abbrev main_call1_call3_call0_v107 : Ref sig .tc := ⟨.hbm, 243, rfl⟩
abbrev main_call1_call3_call0_v108 : Ref sig .tc := ⟨.hbm, 244, rfl⟩
abbrev main_call1_call3_call0_c_27 : Ref sig .tc := ⟨.hbm, 245, rfl⟩
abbrev main_call1_call3_call0_v109 : Ref sig .tc := ⟨.hbm, 246, rfl⟩
abbrev main_call1_call3_call0_v110 : Ref sig .tc := ⟨.hbm, 247, rfl⟩
abbrev main_call1_call3_call0_c_28 : Ref sig .tc := ⟨.hbm, 248, rfl⟩
abbrev main_call1_call3_call0_v111 : Ref sig .tc := ⟨.hbm, 249, rfl⟩
abbrev main_call1_call3_call0_v112 : Ref sig .tc := ⟨.hbm, 250, rfl⟩
abbrev main_call1_call3_call0_v113 : Ref sig .tc := ⟨.hbm, 251, rfl⟩
abbrev main_call1_call3_call0_v114 : Ref sig .tc := ⟨.hbm, 252, rfl⟩
abbrev main_call1_call3_call0_v115 : Ref sig .tc := ⟨.hbm, 253, rfl⟩
abbrev main_call1_call3_call0_c_29 : Ref sig .tc := ⟨.hbm, 254, rfl⟩
abbrev main_call1_call3_call0_v116 : Ref sig .tc := ⟨.hbm, 255, rfl⟩
abbrev main_call1_call3_call0_v117 : Ref sig .tc := ⟨.hbm, 256, rfl⟩
abbrev main_call1_call3_call0_c_30 : Ref sig .tc := ⟨.hbm, 257, rfl⟩
abbrev main_call1_call3_call0_v118 : Ref sig .tc := ⟨.hbm, 258, rfl⟩
abbrev main_call1_call3_call0_v119 : Ref sig .tc := ⟨.hbm, 259, rfl⟩
abbrev main_call1_call3_call0_v120 : Ref sig .tc := ⟨.hbm, 260, rfl⟩
abbrev main_call1_call3_call0_v121 : Ref sig .tc := ⟨.hbm, 261, rfl⟩
abbrev main_call1_call3_call0_v122 : Ref sig .tc := ⟨.hbm, 262, rfl⟩
abbrev main_call1_call3_call0_c_31 : Ref sig .tc := ⟨.hbm, 263, rfl⟩
abbrev main_call1_call3_call0_v123 : Ref sig .tc := ⟨.hbm, 264, rfl⟩
abbrev main_call1_call3_call0_v124 : Ref sig .tc := ⟨.hbm, 265, rfl⟩
abbrev main_call1_call3_call0_c_32 : Ref sig .tc := ⟨.hbm, 266, rfl⟩
abbrev main_call1_call3_call0_v125 : Ref sig .tc := ⟨.hbm, 267, rfl⟩
abbrev main_call1_call3_call0_v126 : Ref sig .tc := ⟨.hbm, 268, rfl⟩
abbrev main_call1_call3_call0_v127 : Ref sig .tc := ⟨.hbm, 269, rfl⟩
abbrev main_call1_call3_call0_v128 : Ref sig .tc := ⟨.hbm, 270, rfl⟩
abbrev main_call1_call3_call0_v129 : Ref sig .tc := ⟨.hbm, 271, rfl⟩
abbrev main_call1_call3_call0_c_33 : Ref sig .tc := ⟨.hbm, 272, rfl⟩
abbrev main_call1_call3_call0_v130 : Ref sig .tc := ⟨.hbm, 273, rfl⟩
abbrev main_call1_call3_call0_v131 : Ref sig .tc := ⟨.hbm, 274, rfl⟩
abbrev main_call1_call3_call0_c_34 : Ref sig .tc := ⟨.hbm, 275, rfl⟩
abbrev main_call1_call3_call0_v132 : Ref sig .tc := ⟨.hbm, 276, rfl⟩
abbrev main_call1_call3_call0_v133 : Ref sig .tc := ⟨.hbm, 277, rfl⟩
abbrev main_call1_call3_call0_v134 : Ref sig .tc := ⟨.hbm, 278, rfl⟩
abbrev main_call1_call3_call0_v135 : Ref sig .tc := ⟨.hbm, 279, rfl⟩
abbrev main_call1_call3_call0_v136 : Ref sig .tc := ⟨.hbm, 280, rfl⟩
abbrev main_call1_call3_call0_v137 : Ref sig .tc := ⟨.hbm, 281, rfl⟩
abbrev main_call1_call3_call0_v138 : Ref sig .tc := ⟨.hbm, 282, rfl⟩
abbrev main_call1_call3_call0_v139 : Ref sig .tc := ⟨.hbm, 283, rfl⟩
abbrev main_call1_call3_call0_c_35 : Ref sig .tc := ⟨.hbm, 284, rfl⟩
abbrev main_call1_call3_call0_v140 : Ref sig .tc := ⟨.hbm, 285, rfl⟩
abbrev main_call1_call3_call0_v141 : Ref sig .tc := ⟨.hbm, 286, rfl⟩
abbrev main_call1_call3_call0_v142 : Ref sig .tc := ⟨.hbm, 287, rfl⟩
abbrev main_call1_call3_call0_c_36 : Ref sig .tc := ⟨.hbm, 288, rfl⟩
abbrev main_call1_call3_call0_v143 : Ref sig .tc := ⟨.hbm, 289, rfl⟩
abbrev main_call1_call3_call0_v144 : Ref sig .tc := ⟨.hbm, 290, rfl⟩
abbrev main_call1_call3_call0_c_37 : Ref sig .tc := ⟨.hbm, 291, rfl⟩
abbrev main_call1_call3_call0_v145 : Ref sig .tc := ⟨.hbm, 292, rfl⟩
abbrev main_call1_call3_call0_v146 : Ref sig .tc := ⟨.hbm, 293, rfl⟩
abbrev main_call1_call3_call0_v147 : Ref sig .tc := ⟨.hbm, 294, rfl⟩
abbrev main_call1_call3_call0_v148 : Ref sig .tc := ⟨.hbm, 295, rfl⟩
abbrev main_call1_call3_call0_v149 : Ref sig .tc := ⟨.hbm, 296, rfl⟩
abbrev main_call1_call3_call0_c_38 : Ref sig .tc := ⟨.hbm, 297, rfl⟩
abbrev main_call1_call3_call0_v150 : Ref sig .tc := ⟨.hbm, 298, rfl⟩
abbrev main_call1_call3_call0_v151 : Ref sig .tc := ⟨.hbm, 299, rfl⟩
abbrev main_call1_call3_call0_c_39 : Ref sig .tc := ⟨.hbm, 300, rfl⟩
abbrev main_call1_call3_call0_v152 : Ref sig .tc := ⟨.hbm, 301, rfl⟩
abbrev main_call1_call3_call0_v153 : Ref sig .tc := ⟨.hbm, 302, rfl⟩
abbrev main_call1_call3_call0_v154 : Ref sig .tc := ⟨.hbm, 303, rfl⟩
abbrev main_call1_call3_call0_v155 : Ref sig .tc := ⟨.hbm, 304, rfl⟩
abbrev main_call1_call3_call0_v156 : Ref sig .tc := ⟨.hbm, 305, rfl⟩
abbrev main_call1_call3_call0_c_40 : Ref sig .tc := ⟨.hbm, 306, rfl⟩
abbrev main_call1_call3_call0_v157 : Ref sig .tc := ⟨.hbm, 307, rfl⟩
abbrev main_call1_call3_call0_v158 : Ref sig .tc := ⟨.hbm, 308, rfl⟩
abbrev main_call1_call3_call0_c_41 : Ref sig .tc := ⟨.hbm, 309, rfl⟩
abbrev main_call1_call3_call0_v159 : Ref sig .tc := ⟨.hbm, 310, rfl⟩
abbrev main_call1_call3_call0_v160 : Ref sig .tc := ⟨.hbm, 311, rfl⟩
abbrev main_call1_call3_call0_v161 : Ref sig .tc := ⟨.hbm, 312, rfl⟩
abbrev main_call1_call3_call0_v162 : Ref sig .tc := ⟨.hbm, 313, rfl⟩
abbrev main_call1_call3_call0_v163 : Ref sig .tc := ⟨.hbm, 314, rfl⟩
abbrev main_call1_call3_call0_c_42 : Ref sig .tc := ⟨.hbm, 315, rfl⟩
abbrev main_call1_call3_call0_v164 : Ref sig .tc := ⟨.hbm, 316, rfl⟩
abbrev main_call1_call3_call0_v165 : Ref sig .tc := ⟨.hbm, 317, rfl⟩
abbrev main_call1_call3_call0_c_43 : Ref sig .tc := ⟨.hbm, 318, rfl⟩
abbrev main_call1_call3_call0_v166 : Ref sig .tc := ⟨.hbm, 319, rfl⟩
abbrev main_call1_call3_call0_v167 : Ref sig .tc := ⟨.hbm, 320, rfl⟩
abbrev main_call1_call3_call0_v168 : Ref sig .tc := ⟨.hbm, 321, rfl⟩
abbrev main_call1_call3_call0_v169 : Ref sig .tc := ⟨.hbm, 322, rfl⟩
abbrev main_call1_call3_call0_v170 : Ref sig .tc := ⟨.hbm, 323, rfl⟩
abbrev main_call1_call3_v11_0 : Ref sig .tc := ⟨.hbm, 324, rfl⟩
abbrev main_call1_call3_call0_v172 : Ref sig .tc := ⟨.hbm, 325, rfl⟩
abbrev main_call1_call3_call0_v173 : Ref sig .tc := ⟨.hbm, 326, rfl⟩
abbrev main_call1_call3_call0_c_44 : Ref sig .tc := ⟨.hbm, 327, rfl⟩
abbrev main_call1_call3_call0_v174 : Ref sig .tc := ⟨.hbm, 328, rfl⟩
abbrev main_call1_call3_v11_1 : Ref sig .tc := ⟨.hbm, 329, rfl⟩
abbrev main_call1_call3_v12 : Ref sig .tc := ⟨.hbm, 330, rfl⟩
abbrev main_call1_call3_v13 : Ref sig .tc := ⟨.hbm, 331, rfl⟩
abbrev main_call1_v8 : Ref sig .tc := ⟨.hbm, 332, rfl⟩
abbrev main_call1_v9 : Ref sig .tc := ⟨.hbm, 333, rfl⟩
abbrev main_call1_v10 : Ref sig .tc := ⟨.hbm, 334, rfl⟩
abbrev main_call1_v11 : Ref sig .tc := ⟨.hbm, 335, rfl⟩
abbrev main_call1_v12 : Ref sig .tc := ⟨.hbm, 336, rfl⟩
abbrev main_call1_v13 : Ref sig .tc := ⟨.hbm, 337, rfl⟩
abbrev main_call1_v14 : Ref sig .tc := ⟨.hbm, 338, rfl⟩
abbrev main_call1_v15 : Ref sig .tc := ⟨.hbm, 339, rfl⟩
abbrev main_call1_v16 : Ref sig .tc := ⟨.hbm, 340, rfl⟩
abbrev main_call1_v17 : Ref sig .tc := ⟨.hbm, 341, rfl⟩
abbrev main_call1_v18 : Ref sig .tc := ⟨.hbm, 342, rfl⟩
abbrev main_call1_c_6 : Ref sig .tc := ⟨.hbm, 343, rfl⟩
abbrev main_call1_v19 : Ref sig .tc := ⟨.hbm, 344, rfl⟩
abbrev main_call1_v20 : Ref sig .tc := ⟨.hbm, 345, rfl⟩
abbrev main_call1_c_7 : Ref sig .tc := ⟨.hbm, 346, rfl⟩
abbrev main_call1_v21 : Ref sig .tc := ⟨.hbm, 347, rfl⟩
abbrev main_call1_v22 : Ref sig .tc := ⟨.hbm, 348, rfl⟩
abbrev main_call1_v23 : Ref sig .tc := ⟨.hbm, 349, rfl⟩
abbrev main_call1_c_8 : Ref sig .tc := ⟨.hbm, 350, rfl⟩
abbrev main_call1_v24 : Ref sig .tc := ⟨.hbm, 351, rfl⟩
abbrev main_call1_v25 : Ref sig .tc := ⟨.hbm, 352, rfl⟩
abbrev main_call1_v26 : Ref sig .tc := ⟨.hbm, 353, rfl⟩
abbrev main_call1_v27 : Ref sig .tc := ⟨.hbm, 354, rfl⟩
abbrev main_call1_call4_v0 : Ref sig .tc := ⟨.hbm, 355, rfl⟩
abbrev main_call1_call4_c : Ref sig .tc := ⟨.hbm, 356, rfl⟩
abbrev main_call1_call4_v1 : Ref sig .tc := ⟨.hbm, 357, rfl⟩
abbrev main_call1_call4_v2 : Ref sig .tc := ⟨.hbm, 358, rfl⟩
abbrev main_call1_call4_v3 : Ref sig .tc := ⟨.hbm, 359, rfl⟩
abbrev main_call1_call4_v4 : Ref sig .tc := ⟨.hbm, 360, rfl⟩
abbrev main_call1_call4_v5 : Ref sig .tc := ⟨.hbm, 361, rfl⟩
abbrev main_call1_call4_v6 : Ref sig .tc := ⟨.hbm, 362, rfl⟩
abbrev main_call1_call4_c_0 : Ref sig .tc := ⟨.hbm, 363, rfl⟩
abbrev main_call1_call4_v7 : Ref sig .tc := ⟨.hbm, 364, rfl⟩
abbrev main_call1_call4_v8 : Ref sig .tc := ⟨.hbm, 365, rfl⟩
abbrev main_call1_call4_c_1 : Ref sig .tc := ⟨.hbm, 366, rfl⟩
abbrev main_call1_call4_v9 : Ref sig .tc := ⟨.hbm, 367, rfl⟩
abbrev main_call1_call4_v10 : Ref sig .tc := ⟨.hbm, 368, rfl⟩
abbrev main_call1_call4_v11 : Ref sig .tc := ⟨.hbm, 369, rfl⟩
abbrev main_call1_call4_v12 : Ref sig .tc := ⟨.hbm, 370, rfl⟩
abbrev main_call1_call4_v13 : Ref sig .tc := ⟨.hbm, 371, rfl⟩
abbrev main_call1_call4_c_2 : Ref sig .tc := ⟨.hbm, 372, rfl⟩
abbrev main_call1_call4_v14 : Ref sig .tc := ⟨.hbm, 373, rfl⟩
abbrev main_call1_call4_v15 : Ref sig .tc := ⟨.hbm, 374, rfl⟩
abbrev main_call1_call4_c_3 : Ref sig .tc := ⟨.hbm, 375, rfl⟩
abbrev main_call1_call4_v16 : Ref sig .tc := ⟨.hbm, 376, rfl⟩
abbrev main_call1_call4_v17 : Ref sig .tc := ⟨.hbm, 377, rfl⟩
abbrev main_call1_call4_v18 : Ref sig .tc := ⟨.hbm, 378, rfl⟩
abbrev main_call1_call4_v19 : Ref sig .tc := ⟨.hbm, 379, rfl⟩
abbrev main_call1_call4_v20 : Ref sig .tc := ⟨.hbm, 380, rfl⟩
abbrev main_call1_call4_c_4 : Ref sig .tc := ⟨.hbm, 381, rfl⟩
abbrev main_call1_call4_v21 : Ref sig .tc := ⟨.hbm, 382, rfl⟩
abbrev main_call1_call4_v22 : Ref sig .tc := ⟨.hbm, 383, rfl⟩
abbrev main_call1_call4_c_5 : Ref sig .tc := ⟨.hbm, 384, rfl⟩
abbrev main_call1_call4_v23 : Ref sig .tc := ⟨.hbm, 385, rfl⟩
abbrev main_call1_call4_v24 : Ref sig .tc := ⟨.hbm, 386, rfl⟩
abbrev main_call1_call4_v25 : Ref sig .tc := ⟨.hbm, 387, rfl⟩
abbrev main_call1_call4_v26 : Ref sig .tc := ⟨.hbm, 388, rfl⟩
abbrev main_call1_call4_v27 : Ref sig .tc := ⟨.hbm, 389, rfl⟩
abbrev main_call1_call4_c_6 : Ref sig .tc := ⟨.hbm, 390, rfl⟩
abbrev main_call1_call4_v28 : Ref sig .tc := ⟨.hbm, 391, rfl⟩
abbrev main_call1_call4_v29 : Ref sig .tc := ⟨.hbm, 392, rfl⟩
abbrev main_call1_call4_c_7 : Ref sig .tc := ⟨.hbm, 393, rfl⟩
abbrev main_call1_call4_v30 : Ref sig .tc := ⟨.hbm, 394, rfl⟩
abbrev main_call1_call4_v31 : Ref sig .tc := ⟨.hbm, 395, rfl⟩
abbrev main_call1_call4_v32 : Ref sig .tc := ⟨.hbm, 396, rfl⟩
abbrev main_call1_call4_v33 : Ref sig .tc := ⟨.hbm, 397, rfl⟩
abbrev main_call1_call4_v34 : Ref sig .tc := ⟨.hbm, 398, rfl⟩
abbrev main_call1_call4_v35 : Ref sig .tc := ⟨.hbm, 399, rfl⟩
abbrev main_call1_call4_v36 : Ref sig .tc := ⟨.hbm, 400, rfl⟩
abbrev main_call1_call4_v37 : Ref sig .tc := ⟨.hbm, 401, rfl⟩
abbrev main_call1_call4_c_8 : Ref sig .tc := ⟨.hbm, 402, rfl⟩
abbrev main_call1_call4_v38 : Ref sig .tc := ⟨.hbm, 403, rfl⟩
abbrev main_call1_call4_v39 : Ref sig .tc := ⟨.hbm, 404, rfl⟩
abbrev main_call1_call4_v40 : Ref sig .tc := ⟨.hbm, 405, rfl⟩
abbrev main_call1_call4_c_9 : Ref sig .tc := ⟨.hbm, 406, rfl⟩
abbrev main_call1_call4_v41 : Ref sig .tc := ⟨.hbm, 407, rfl⟩
abbrev main_call1_call4_v42 : Ref sig .tc := ⟨.hbm, 408, rfl⟩
abbrev main_call1_call4_c_10 : Ref sig .tc := ⟨.hbm, 409, rfl⟩
abbrev main_call1_call4_v43 : Ref sig .tc := ⟨.hbm, 410, rfl⟩
abbrev main_call1_call4_v44 : Ref sig .tc := ⟨.hbm, 411, rfl⟩
abbrev main_call1_call4_v45 : Ref sig .tc := ⟨.hbm, 412, rfl⟩
abbrev main_call1_call4_v46 : Ref sig .tc := ⟨.hbm, 413, rfl⟩
abbrev main_call1_call4_v47 : Ref sig .tc := ⟨.hbm, 414, rfl⟩
abbrev main_call1_call4_c_11 : Ref sig .tc := ⟨.hbm, 415, rfl⟩
abbrev main_call1_call4_v48 : Ref sig .tc := ⟨.hbm, 416, rfl⟩
abbrev main_call1_call4_v49 : Ref sig .tc := ⟨.hbm, 417, rfl⟩
abbrev main_call1_call4_c_12 : Ref sig .tc := ⟨.hbm, 418, rfl⟩
abbrev main_call1_call4_v50 : Ref sig .tc := ⟨.hbm, 419, rfl⟩
abbrev main_call1_call4_v51 : Ref sig .tc := ⟨.hbm, 420, rfl⟩
abbrev main_call1_call4_v52 : Ref sig .tc := ⟨.hbm, 421, rfl⟩
abbrev main_call1_call4_v53 : Ref sig .tc := ⟨.hbm, 422, rfl⟩
abbrev main_call1_call4_v54 : Ref sig .tc := ⟨.hbm, 423, rfl⟩
abbrev main_call1_call4_c_13 : Ref sig .tc := ⟨.hbm, 424, rfl⟩
abbrev main_call1_call4_v55 : Ref sig .tc := ⟨.hbm, 425, rfl⟩
abbrev main_call1_call4_v56 : Ref sig .tc := ⟨.hbm, 426, rfl⟩
abbrev main_call1_call4_c_14 : Ref sig .tc := ⟨.hbm, 427, rfl⟩
abbrev main_call1_call4_v57 : Ref sig .tc := ⟨.hbm, 428, rfl⟩
abbrev main_call1_call4_v58 : Ref sig .tc := ⟨.hbm, 429, rfl⟩
abbrev main_call1_call4_v59 : Ref sig .tc := ⟨.hbm, 430, rfl⟩
abbrev main_call1_call4_v60 : Ref sig .tc := ⟨.hbm, 431, rfl⟩
abbrev main_call1_call4_v61 : Ref sig .tc := ⟨.hbm, 432, rfl⟩
abbrev main_call1_call4_c_15 : Ref sig .tc := ⟨.hbm, 433, rfl⟩
abbrev main_call1_call4_v62 : Ref sig .tc := ⟨.hbm, 434, rfl⟩
abbrev main_call1_call4_v63 : Ref sig .tc := ⟨.hbm, 435, rfl⟩
abbrev main_call1_call4_c_16 : Ref sig .tc := ⟨.hbm, 436, rfl⟩
abbrev main_call1_call4_v64 : Ref sig .tc := ⟨.hbm, 437, rfl⟩
abbrev main_call1_call4_v65 : Ref sig .tc := ⟨.hbm, 438, rfl⟩
abbrev main_call1_call4_v66 : Ref sig .tc := ⟨.hbm, 439, rfl⟩
abbrev main_call1_call4_v67 : Ref sig .tc := ⟨.hbm, 440, rfl⟩
abbrev main_call1_call4_v68 : Ref sig .tc := ⟨.hbm, 441, rfl⟩
abbrev main_call1_call4_v69 : Ref sig .tc := ⟨.hbm, 442, rfl⟩
abbrev main_call1_call4_v70 : Ref sig .tc := ⟨.hbm, 443, rfl⟩
abbrev main_call1_call4_v71 : Ref sig .tc := ⟨.hbm, 444, rfl⟩
abbrev main_call1_call4_c_17 : Ref sig .tc := ⟨.hbm, 445, rfl⟩
abbrev main_call1_call4_v72 : Ref sig .tc := ⟨.hbm, 446, rfl⟩
abbrev main_call1_call4_v73 : Ref sig .tc := ⟨.hbm, 447, rfl⟩
abbrev main_call1_call4_v74 : Ref sig .tc := ⟨.hbm, 448, rfl⟩
abbrev main_call1_call4_c_18 : Ref sig .tc := ⟨.hbm, 449, rfl⟩
abbrev main_call1_call4_v75 : Ref sig .tc := ⟨.hbm, 450, rfl⟩
abbrev main_call1_call4_v76 : Ref sig .tc := ⟨.hbm, 451, rfl⟩
abbrev main_call1_call4_c_19 : Ref sig .tc := ⟨.hbm, 452, rfl⟩
abbrev main_call1_call4_v77 : Ref sig .tc := ⟨.hbm, 453, rfl⟩
abbrev main_call1_call4_v78 : Ref sig .tc := ⟨.hbm, 454, rfl⟩
abbrev main_call1_call4_v79 : Ref sig .tc := ⟨.hbm, 455, rfl⟩
abbrev main_call1_call4_v80 : Ref sig .tc := ⟨.hbm, 456, rfl⟩
abbrev main_call1_call4_v81 : Ref sig .tc := ⟨.hbm, 457, rfl⟩
abbrev main_call1_call4_c_20 : Ref sig .tc := ⟨.hbm, 458, rfl⟩
abbrev main_call1_call4_v82 : Ref sig .tc := ⟨.hbm, 459, rfl⟩
abbrev main_call1_call4_v83 : Ref sig .tc := ⟨.hbm, 460, rfl⟩
abbrev main_call1_call4_c_21 : Ref sig .tc := ⟨.hbm, 461, rfl⟩
abbrev main_call1_call4_v84 : Ref sig .tc := ⟨.hbm, 462, rfl⟩
abbrev main_call1_call4_v85 : Ref sig .tc := ⟨.hbm, 463, rfl⟩
abbrev main_call1_call4_v86 : Ref sig .tc := ⟨.hbm, 464, rfl⟩
abbrev main_call1_call4_v87 : Ref sig .tc := ⟨.hbm, 465, rfl⟩
abbrev main_call1_call4_v88 : Ref sig .tc := ⟨.hbm, 466, rfl⟩
abbrev main_call1_call4_c_22 : Ref sig .tc := ⟨.hbm, 467, rfl⟩
abbrev main_call1_call4_v89 : Ref sig .tc := ⟨.hbm, 468, rfl⟩
abbrev main_call1_call4_v90 : Ref sig .tc := ⟨.hbm, 469, rfl⟩
abbrev main_call1_call4_c_23 : Ref sig .tc := ⟨.hbm, 470, rfl⟩
abbrev main_call1_call4_v91 : Ref sig .tc := ⟨.hbm, 471, rfl⟩
abbrev main_call1_call4_v92 : Ref sig .tc := ⟨.hbm, 472, rfl⟩
abbrev main_call1_call4_v93 : Ref sig .tc := ⟨.hbm, 473, rfl⟩
abbrev main_call1_call4_v94 : Ref sig .tc := ⟨.hbm, 474, rfl⟩
abbrev main_call1_call4_v95 : Ref sig .tc := ⟨.hbm, 475, rfl⟩
abbrev main_call1_call4_c_24 : Ref sig .tc := ⟨.hbm, 476, rfl⟩
abbrev main_call1_call4_v96 : Ref sig .tc := ⟨.hbm, 477, rfl⟩
abbrev main_call1_call4_v97 : Ref sig .tc := ⟨.hbm, 478, rfl⟩
abbrev main_call1_call4_c_25 : Ref sig .tc := ⟨.hbm, 479, rfl⟩
abbrev main_call1_call4_v98 : Ref sig .tc := ⟨.hbm, 480, rfl⟩
abbrev main_call1_call4_v99 : Ref sig .tc := ⟨.hbm, 481, rfl⟩
abbrev main_call1_call4_v100 : Ref sig .tc := ⟨.hbm, 482, rfl⟩
abbrev main_call1_call4_v101 : Ref sig .tc := ⟨.hbm, 483, rfl⟩
abbrev main_call1_call4_v102 : Ref sig .tc := ⟨.hbm, 484, rfl⟩
abbrev main_call1_call4_v103 : Ref sig .tc := ⟨.hbm, 485, rfl⟩
abbrev main_call1_call4_v104 : Ref sig .tc := ⟨.hbm, 486, rfl⟩
abbrev main_call1_call4_v105 : Ref sig .tc := ⟨.hbm, 487, rfl⟩
abbrev main_call1_call4_c_26 : Ref sig .tc := ⟨.hbm, 488, rfl⟩
abbrev main_call1_call4_v106 : Ref sig .tc := ⟨.hbm, 489, rfl⟩
abbrev main_call1_call4_v107 : Ref sig .tc := ⟨.hbm, 490, rfl⟩
abbrev main_call1_call4_v108 : Ref sig .tc := ⟨.hbm, 491, rfl⟩
abbrev main_call1_call4_c_27 : Ref sig .tc := ⟨.hbm, 492, rfl⟩
abbrev main_call1_call4_v109 : Ref sig .tc := ⟨.hbm, 493, rfl⟩
abbrev main_call1_call4_v110 : Ref sig .tc := ⟨.hbm, 494, rfl⟩
abbrev main_call1_call4_c_28 : Ref sig .tc := ⟨.hbm, 495, rfl⟩
abbrev main_call1_call4_v111 : Ref sig .tc := ⟨.hbm, 496, rfl⟩
abbrev main_call1_call4_v112 : Ref sig .tc := ⟨.hbm, 497, rfl⟩
abbrev main_call1_call4_v113 : Ref sig .tc := ⟨.hbm, 498, rfl⟩
abbrev main_call1_call4_v114 : Ref sig .tc := ⟨.hbm, 499, rfl⟩
abbrev main_call1_call4_v115 : Ref sig .tc := ⟨.hbm, 500, rfl⟩
abbrev main_call1_call4_c_29 : Ref sig .tc := ⟨.hbm, 501, rfl⟩
abbrev main_call1_call4_v116 : Ref sig .tc := ⟨.hbm, 502, rfl⟩
abbrev main_call1_call4_v117 : Ref sig .tc := ⟨.hbm, 503, rfl⟩
abbrev main_call1_call4_c_30 : Ref sig .tc := ⟨.hbm, 504, rfl⟩
abbrev main_call1_call4_v118 : Ref sig .tc := ⟨.hbm, 505, rfl⟩
abbrev main_call1_call4_v119 : Ref sig .tc := ⟨.hbm, 506, rfl⟩
abbrev main_call1_call4_v120 : Ref sig .tc := ⟨.hbm, 507, rfl⟩
abbrev main_call1_call4_v121 : Ref sig .tc := ⟨.hbm, 508, rfl⟩
abbrev main_call1_call4_v122 : Ref sig .tc := ⟨.hbm, 509, rfl⟩
abbrev main_call1_call4_c_31 : Ref sig .tc := ⟨.hbm, 510, rfl⟩
abbrev main_call1_call4_v123 : Ref sig .tc := ⟨.hbm, 511, rfl⟩
abbrev main_call1_call4_v124 : Ref sig .tc := ⟨.hbm, 512, rfl⟩
abbrev main_call1_call4_c_32 : Ref sig .tc := ⟨.hbm, 513, rfl⟩
abbrev main_call1_call4_v125 : Ref sig .tc := ⟨.hbm, 514, rfl⟩
abbrev main_call1_call4_v126 : Ref sig .tc := ⟨.hbm, 515, rfl⟩
abbrev main_call1_call4_v127 : Ref sig .tc := ⟨.hbm, 516, rfl⟩
abbrev main_call1_call4_v128 : Ref sig .tc := ⟨.hbm, 517, rfl⟩
abbrev main_call1_call4_v129 : Ref sig .tc := ⟨.hbm, 518, rfl⟩
abbrev main_call1_call4_c_33 : Ref sig .tc := ⟨.hbm, 519, rfl⟩
abbrev main_call1_call4_v130 : Ref sig .tc := ⟨.hbm, 520, rfl⟩
abbrev main_call1_call4_v131 : Ref sig .tc := ⟨.hbm, 521, rfl⟩
abbrev main_call1_call4_c_34 : Ref sig .tc := ⟨.hbm, 522, rfl⟩
abbrev main_call1_call4_v132 : Ref sig .tc := ⟨.hbm, 523, rfl⟩
abbrev main_call1_call4_v133 : Ref sig .tc := ⟨.hbm, 524, rfl⟩
abbrev main_call1_call4_v134 : Ref sig .tc := ⟨.hbm, 525, rfl⟩
abbrev main_call1_call4_v135 : Ref sig .tc := ⟨.hbm, 526, rfl⟩
abbrev main_call1_call4_v136 : Ref sig .tc := ⟨.hbm, 527, rfl⟩
abbrev main_call1_call4_v137 : Ref sig .tc := ⟨.hbm, 528, rfl⟩
abbrev main_call1_call4_v138 : Ref sig .tc := ⟨.hbm, 529, rfl⟩
abbrev main_call1_call4_v139 : Ref sig .tc := ⟨.hbm, 530, rfl⟩
abbrev main_call1_call4_c_35 : Ref sig .tc := ⟨.hbm, 531, rfl⟩
abbrev main_call1_call4_v140 : Ref sig .tc := ⟨.hbm, 532, rfl⟩
abbrev main_call1_call4_v141 : Ref sig .tc := ⟨.hbm, 533, rfl⟩
abbrev main_call1_call4_v142 : Ref sig .tc := ⟨.hbm, 534, rfl⟩
abbrev main_call1_call4_c_36 : Ref sig .tc := ⟨.hbm, 535, rfl⟩
abbrev main_call1_call4_v143 : Ref sig .tc := ⟨.hbm, 536, rfl⟩
abbrev main_call1_call4_v144 : Ref sig .tc := ⟨.hbm, 537, rfl⟩
abbrev main_call1_call4_c_37 : Ref sig .tc := ⟨.hbm, 538, rfl⟩
abbrev main_call1_call4_v145 : Ref sig .tc := ⟨.hbm, 539, rfl⟩
abbrev main_call1_call4_v146 : Ref sig .tc := ⟨.hbm, 540, rfl⟩
abbrev main_call1_call4_v147 : Ref sig .tc := ⟨.hbm, 541, rfl⟩
abbrev main_call1_call4_v148 : Ref sig .tc := ⟨.hbm, 542, rfl⟩
abbrev main_call1_call4_v149 : Ref sig .tc := ⟨.hbm, 543, rfl⟩
abbrev main_call1_call4_c_38 : Ref sig .tc := ⟨.hbm, 544, rfl⟩
abbrev main_call1_call4_v150 : Ref sig .tc := ⟨.hbm, 545, rfl⟩
abbrev main_call1_call4_v151 : Ref sig .tc := ⟨.hbm, 546, rfl⟩
abbrev main_call1_call4_c_39 : Ref sig .tc := ⟨.hbm, 547, rfl⟩
abbrev main_call1_call4_v152 : Ref sig .tc := ⟨.hbm, 548, rfl⟩
abbrev main_call1_call4_v153 : Ref sig .tc := ⟨.hbm, 549, rfl⟩
abbrev main_call1_call4_v154 : Ref sig .tc := ⟨.hbm, 550, rfl⟩
abbrev main_call1_call4_v155 : Ref sig .tc := ⟨.hbm, 551, rfl⟩
abbrev main_call1_call4_v156 : Ref sig .tc := ⟨.hbm, 552, rfl⟩
abbrev main_call1_call4_c_40 : Ref sig .tc := ⟨.hbm, 553, rfl⟩
abbrev main_call1_call4_v157 : Ref sig .tc := ⟨.hbm, 554, rfl⟩
abbrev main_call1_call4_v158 : Ref sig .tc := ⟨.hbm, 555, rfl⟩
abbrev main_call1_call4_c_41 : Ref sig .tc := ⟨.hbm, 556, rfl⟩
abbrev main_call1_call4_v159 : Ref sig .tc := ⟨.hbm, 557, rfl⟩
abbrev main_call1_call4_v160 : Ref sig .tc := ⟨.hbm, 558, rfl⟩
abbrev main_call1_call4_v161 : Ref sig .tc := ⟨.hbm, 559, rfl⟩
abbrev main_call1_call4_v162 : Ref sig .tc := ⟨.hbm, 560, rfl⟩
abbrev main_call1_call4_v163 : Ref sig .tc := ⟨.hbm, 561, rfl⟩
abbrev main_call1_call4_c_42 : Ref sig .tc := ⟨.hbm, 562, rfl⟩
abbrev main_call1_call4_v164 : Ref sig .tc := ⟨.hbm, 563, rfl⟩
abbrev main_call1_call4_v165 : Ref sig .tc := ⟨.hbm, 564, rfl⟩
abbrev main_call1_call4_c_43 : Ref sig .tc := ⟨.hbm, 565, rfl⟩
abbrev main_call1_call4_v166 : Ref sig .tc := ⟨.hbm, 566, rfl⟩
abbrev main_call1_call4_v167 : Ref sig .tc := ⟨.hbm, 567, rfl⟩
abbrev main_call1_call4_v168 : Ref sig .tc := ⟨.hbm, 568, rfl⟩
abbrev main_call1_call4_v169 : Ref sig .tc := ⟨.hbm, 569, rfl⟩
abbrev main_call1_call4_v170 : Ref sig .tc := ⟨.hbm, 570, rfl⟩
abbrev main_call1_v28_0 : Ref sig .tc := ⟨.hbm, 571, rfl⟩
abbrev main_call1_call4_v172 : Ref sig .tc := ⟨.hbm, 572, rfl⟩
abbrev main_call1_call4_v173 : Ref sig .tc := ⟨.hbm, 573, rfl⟩
abbrev main_call1_call4_c_44 : Ref sig .tc := ⟨.hbm, 574, rfl⟩
abbrev main_call1_call4_v174 : Ref sig .tc := ⟨.hbm, 575, rfl⟩
abbrev main_call1_v28_1 : Ref sig .tc := ⟨.hbm, 576, rfl⟩
abbrev main_call1_v29 : Ref sig .tc := ⟨.hbm, 577, rfl⟩
abbrev main_call1_v30 : Ref sig .tc := ⟨.hbm, 578, rfl⟩
abbrev main_call1_v31 : Ref sig .tc := ⟨.hbm, 579, rfl⟩
abbrev main_call1_v32 : Ref sig .tc := ⟨.hbm, 580, rfl⟩
abbrev main_call1_v33 : Ref sig .tc := ⟨.hbm, 581, rfl⟩
abbrev main_call1_v34 : Ref sig .tc := ⟨.hbm, 582, rfl⟩
abbrev main_call1_v35 : Ref sig .tc := ⟨.hbm, 583, rfl⟩
abbrev main_call1_c_9 : Ref sig .tc := ⟨.hbm, 584, rfl⟩
abbrev main_call1_v36 : Ref sig .tc := ⟨.hbm, 585, rfl⟩
abbrev main_call1_v37 : Ref sig .tc := ⟨.hbm, 586, rfl⟩
abbrev main_call1_c_10 : Ref sig .tc := ⟨.hbm, 587, rfl⟩
abbrev main_call1_v38 : Ref sig .tc := ⟨.hbm, 588, rfl⟩
abbrev main_call1_v39 : Ref sig .tc := ⟨.hbm, 589, rfl⟩
abbrev main_call1_v40 : Ref sig .tc := ⟨.hbm, 590, rfl⟩
abbrev main_call1_c_11 : Ref sig .tc := ⟨.hbm, 591, rfl⟩
abbrev main_call1_v41 : Ref sig .tc := ⟨.hbm, 592, rfl⟩
abbrev main_call1_v42 : Ref sig .tc := ⟨.hbm, 593, rfl⟩
abbrev main_call1_v43 : Ref sig .tc := ⟨.hbm, 594, rfl⟩
abbrev main_call1_v44 : Ref sig .tc := ⟨.hbm, 595, rfl⟩
abbrev main_call1_call5_v0 : Ref sig .tc := ⟨.hbm, 596, rfl⟩
abbrev main_call1_call5_c : Ref sig .tc := ⟨.hbm, 597, rfl⟩
abbrev main_call1_call5_v1 : Ref sig .tc := ⟨.hbm, 598, rfl⟩
abbrev main_call1_call5_v2 : Ref sig .tc := ⟨.hbm, 599, rfl⟩
abbrev main_call1_call5_v3 : Ref sig .tc := ⟨.hbm, 600, rfl⟩
abbrev main_call1_call5_v4 : Ref sig .tc := ⟨.hbm, 601, rfl⟩
abbrev main_call1_call5_v5 : Ref sig .tc := ⟨.hbm, 602, rfl⟩
abbrev main_call1_call5_v6 : Ref sig .tc := ⟨.hbm, 603, rfl⟩
abbrev main_call1_call5_c_0 : Ref sig .tc := ⟨.hbm, 604, rfl⟩
abbrev main_call1_call5_v7 : Ref sig .tc := ⟨.hbm, 605, rfl⟩
abbrev main_call1_call5_v8 : Ref sig .tc := ⟨.hbm, 606, rfl⟩
abbrev main_call1_call5_c_1 : Ref sig .tc := ⟨.hbm, 607, rfl⟩
abbrev main_call1_call5_v9 : Ref sig .tc := ⟨.hbm, 608, rfl⟩
abbrev main_call1_call5_v10 : Ref sig .tc := ⟨.hbm, 609, rfl⟩
abbrev main_call1_call5_v11 : Ref sig .tc := ⟨.hbm, 610, rfl⟩
abbrev main_call1_call5_v12 : Ref sig .tc := ⟨.hbm, 611, rfl⟩
abbrev main_call1_call5_v13 : Ref sig .tc := ⟨.hbm, 612, rfl⟩
abbrev main_call1_call5_c_2 : Ref sig .tc := ⟨.hbm, 613, rfl⟩
abbrev main_call1_call5_v14 : Ref sig .tc := ⟨.hbm, 614, rfl⟩
abbrev main_call1_call5_v15 : Ref sig .tc := ⟨.hbm, 615, rfl⟩
abbrev main_call1_call5_c_3 : Ref sig .tc := ⟨.hbm, 616, rfl⟩
abbrev main_call1_call5_v16 : Ref sig .tc := ⟨.hbm, 617, rfl⟩
abbrev main_call1_call5_v17 : Ref sig .tc := ⟨.hbm, 618, rfl⟩
abbrev main_call1_call5_v18 : Ref sig .tc := ⟨.hbm, 619, rfl⟩
abbrev main_call1_call5_v19 : Ref sig .tc := ⟨.hbm, 620, rfl⟩
abbrev main_call1_call5_v20 : Ref sig .tc := ⟨.hbm, 621, rfl⟩
abbrev main_call1_call5_c_4 : Ref sig .tc := ⟨.hbm, 622, rfl⟩
abbrev main_call1_call5_v21 : Ref sig .tc := ⟨.hbm, 623, rfl⟩
abbrev main_call1_call5_v22 : Ref sig .tc := ⟨.hbm, 624, rfl⟩
abbrev main_call1_call5_c_5 : Ref sig .tc := ⟨.hbm, 625, rfl⟩
abbrev main_call1_call5_v23 : Ref sig .tc := ⟨.hbm, 626, rfl⟩
abbrev main_call1_call5_v24 : Ref sig .tc := ⟨.hbm, 627, rfl⟩
abbrev main_call1_call5_v25 : Ref sig .tc := ⟨.hbm, 628, rfl⟩
abbrev main_call1_call5_v26 : Ref sig .tc := ⟨.hbm, 629, rfl⟩
abbrev main_call1_call5_v27 : Ref sig .tc := ⟨.hbm, 630, rfl⟩
abbrev main_call1_call5_c_6 : Ref sig .tc := ⟨.hbm, 631, rfl⟩
abbrev main_call1_call5_v28 : Ref sig .tc := ⟨.hbm, 632, rfl⟩
abbrev main_call1_call5_v29 : Ref sig .tc := ⟨.hbm, 633, rfl⟩
abbrev main_call1_call5_c_7 : Ref sig .tc := ⟨.hbm, 634, rfl⟩
abbrev main_call1_call5_v30 : Ref sig .tc := ⟨.hbm, 635, rfl⟩
abbrev main_call1_call5_v31 : Ref sig .tc := ⟨.hbm, 636, rfl⟩
abbrev main_call1_call5_v32 : Ref sig .tc := ⟨.hbm, 637, rfl⟩
abbrev main_call1_call5_v33 : Ref sig .tc := ⟨.hbm, 638, rfl⟩
abbrev main_call1_call5_v34 : Ref sig .tc := ⟨.hbm, 639, rfl⟩
abbrev main_call1_call5_v35 : Ref sig .tc := ⟨.hbm, 640, rfl⟩
abbrev main_call1_call5_v36 : Ref sig .tc := ⟨.hbm, 641, rfl⟩
abbrev main_call1_call5_v37 : Ref sig .tc := ⟨.hbm, 642, rfl⟩
abbrev main_call1_call5_c_8 : Ref sig .tc := ⟨.hbm, 643, rfl⟩
abbrev main_call1_call5_v38 : Ref sig .tc := ⟨.hbm, 644, rfl⟩
abbrev main_call1_call5_v39 : Ref sig .tc := ⟨.hbm, 645, rfl⟩
abbrev main_call1_call5_v40 : Ref sig .tc := ⟨.hbm, 646, rfl⟩
abbrev main_call1_call5_c_9 : Ref sig .tc := ⟨.hbm, 647, rfl⟩
abbrev main_call1_call5_v41 : Ref sig .tc := ⟨.hbm, 648, rfl⟩
abbrev main_call1_call5_v42 : Ref sig .tc := ⟨.hbm, 649, rfl⟩
abbrev main_call1_call5_c_10 : Ref sig .tc := ⟨.hbm, 650, rfl⟩
abbrev main_call1_call5_v43 : Ref sig .tc := ⟨.hbm, 651, rfl⟩
abbrev main_call1_call5_v44 : Ref sig .tc := ⟨.hbm, 652, rfl⟩
abbrev main_call1_call5_v45 : Ref sig .tc := ⟨.hbm, 653, rfl⟩
abbrev main_call1_call5_v46 : Ref sig .tc := ⟨.hbm, 654, rfl⟩
abbrev main_call1_call5_v47 : Ref sig .tc := ⟨.hbm, 655, rfl⟩
abbrev main_call1_call5_c_11 : Ref sig .tc := ⟨.hbm, 656, rfl⟩
abbrev main_call1_call5_v48 : Ref sig .tc := ⟨.hbm, 657, rfl⟩
abbrev main_call1_call5_v49 : Ref sig .tc := ⟨.hbm, 658, rfl⟩
abbrev main_call1_call5_c_12 : Ref sig .tc := ⟨.hbm, 659, rfl⟩
abbrev main_call1_call5_v50 : Ref sig .tc := ⟨.hbm, 660, rfl⟩
abbrev main_call1_call5_v51 : Ref sig .tc := ⟨.hbm, 661, rfl⟩
abbrev main_call1_call5_v52 : Ref sig .tc := ⟨.hbm, 662, rfl⟩
abbrev main_call1_call5_v53 : Ref sig .tc := ⟨.hbm, 663, rfl⟩
abbrev main_call1_call5_v54 : Ref sig .tc := ⟨.hbm, 664, rfl⟩
abbrev main_call1_call5_c_13 : Ref sig .tc := ⟨.hbm, 665, rfl⟩
abbrev main_call1_call5_v55 : Ref sig .tc := ⟨.hbm, 666, rfl⟩
abbrev main_call1_call5_v56 : Ref sig .tc := ⟨.hbm, 667, rfl⟩
abbrev main_call1_call5_c_14 : Ref sig .tc := ⟨.hbm, 668, rfl⟩
abbrev main_call1_call5_v57 : Ref sig .tc := ⟨.hbm, 669, rfl⟩
abbrev main_call1_call5_v58 : Ref sig .tc := ⟨.hbm, 670, rfl⟩
abbrev main_call1_call5_v59 : Ref sig .tc := ⟨.hbm, 671, rfl⟩
abbrev main_call1_call5_v60 : Ref sig .tc := ⟨.hbm, 672, rfl⟩
abbrev main_call1_call5_v61 : Ref sig .tc := ⟨.hbm, 673, rfl⟩
abbrev main_call1_call5_c_15 : Ref sig .tc := ⟨.hbm, 674, rfl⟩
abbrev main_call1_call5_v62 : Ref sig .tc := ⟨.hbm, 675, rfl⟩
abbrev main_call1_call5_v63 : Ref sig .tc := ⟨.hbm, 676, rfl⟩
abbrev main_call1_call5_c_16 : Ref sig .tc := ⟨.hbm, 677, rfl⟩
abbrev main_call1_call5_v64 : Ref sig .tc := ⟨.hbm, 678, rfl⟩
abbrev main_call1_call5_v65 : Ref sig .tc := ⟨.hbm, 679, rfl⟩
abbrev main_call1_call5_v66 : Ref sig .tc := ⟨.hbm, 680, rfl⟩
abbrev main_call1_call5_v67 : Ref sig .tc := ⟨.hbm, 681, rfl⟩
abbrev main_call1_call5_v68 : Ref sig .tc := ⟨.hbm, 682, rfl⟩
abbrev main_call1_call5_v69 : Ref sig .tc := ⟨.hbm, 683, rfl⟩
abbrev main_call1_call5_v70 : Ref sig .tc := ⟨.hbm, 684, rfl⟩
abbrev main_call1_call5_v71 : Ref sig .tc := ⟨.hbm, 685, rfl⟩
abbrev main_call1_call5_c_17 : Ref sig .tc := ⟨.hbm, 686, rfl⟩
abbrev main_call1_call5_v72 : Ref sig .tc := ⟨.hbm, 687, rfl⟩
abbrev main_call1_call5_v73 : Ref sig .tc := ⟨.hbm, 688, rfl⟩
abbrev main_call1_call5_v74 : Ref sig .tc := ⟨.hbm, 689, rfl⟩
abbrev main_call1_call5_c_18 : Ref sig .tc := ⟨.hbm, 690, rfl⟩
abbrev main_call1_call5_v75 : Ref sig .tc := ⟨.hbm, 691, rfl⟩
abbrev main_call1_call5_v76 : Ref sig .tc := ⟨.hbm, 692, rfl⟩
abbrev main_call1_call5_c_19 : Ref sig .tc := ⟨.hbm, 693, rfl⟩
abbrev main_call1_call5_v77 : Ref sig .tc := ⟨.hbm, 694, rfl⟩
abbrev main_call1_call5_v78 : Ref sig .tc := ⟨.hbm, 695, rfl⟩
abbrev main_call1_call5_v79 : Ref sig .tc := ⟨.hbm, 696, rfl⟩
abbrev main_call1_call5_v80 : Ref sig .tc := ⟨.hbm, 697, rfl⟩
abbrev main_call1_call5_v81 : Ref sig .tc := ⟨.hbm, 698, rfl⟩
abbrev main_call1_call5_c_20 : Ref sig .tc := ⟨.hbm, 699, rfl⟩
abbrev main_call1_call5_v82 : Ref sig .tc := ⟨.hbm, 700, rfl⟩
abbrev main_call1_call5_v83 : Ref sig .tc := ⟨.hbm, 701, rfl⟩
abbrev main_call1_call5_c_21 : Ref sig .tc := ⟨.hbm, 702, rfl⟩
abbrev main_call1_call5_v84 : Ref sig .tc := ⟨.hbm, 703, rfl⟩
abbrev main_call1_call5_v85 : Ref sig .tc := ⟨.hbm, 704, rfl⟩
abbrev main_call1_call5_v86 : Ref sig .tc := ⟨.hbm, 705, rfl⟩
abbrev main_call1_call5_v87 : Ref sig .tc := ⟨.hbm, 706, rfl⟩
abbrev main_call1_call5_v88 : Ref sig .tc := ⟨.hbm, 707, rfl⟩
abbrev main_call1_call5_c_22 : Ref sig .tc := ⟨.hbm, 708, rfl⟩
abbrev main_call1_call5_v89 : Ref sig .tc := ⟨.hbm, 709, rfl⟩
abbrev main_call1_call5_v90 : Ref sig .tc := ⟨.hbm, 710, rfl⟩
abbrev main_call1_call5_c_23 : Ref sig .tc := ⟨.hbm, 711, rfl⟩
abbrev main_call1_call5_v91 : Ref sig .tc := ⟨.hbm, 712, rfl⟩
abbrev main_call1_call5_v92 : Ref sig .tc := ⟨.hbm, 713, rfl⟩
abbrev main_call1_call5_v93 : Ref sig .tc := ⟨.hbm, 714, rfl⟩
abbrev main_call1_call5_v94 : Ref sig .tc := ⟨.hbm, 715, rfl⟩
abbrev main_call1_call5_v95 : Ref sig .tc := ⟨.hbm, 716, rfl⟩
abbrev main_call1_call5_c_24 : Ref sig .tc := ⟨.hbm, 717, rfl⟩
abbrev main_call1_call5_v96 : Ref sig .tc := ⟨.hbm, 718, rfl⟩
abbrev main_call1_call5_v97 : Ref sig .tc := ⟨.hbm, 719, rfl⟩
abbrev main_call1_call5_c_25 : Ref sig .tc := ⟨.hbm, 720, rfl⟩
abbrev main_call1_call5_v98 : Ref sig .tc := ⟨.hbm, 721, rfl⟩
abbrev main_call1_call5_v99 : Ref sig .tc := ⟨.hbm, 722, rfl⟩
abbrev main_call1_call5_v100 : Ref sig .tc := ⟨.hbm, 723, rfl⟩
abbrev main_call1_call5_v101 : Ref sig .tc := ⟨.hbm, 724, rfl⟩
abbrev main_call1_call5_v102 : Ref sig .tc := ⟨.hbm, 725, rfl⟩
abbrev main_call1_call5_v103 : Ref sig .tc := ⟨.hbm, 726, rfl⟩
abbrev main_call1_call5_v104 : Ref sig .tc := ⟨.hbm, 727, rfl⟩
abbrev main_call1_call5_v105 : Ref sig .tc := ⟨.hbm, 728, rfl⟩
abbrev main_call1_call5_c_26 : Ref sig .tc := ⟨.hbm, 729, rfl⟩
abbrev main_call1_call5_v106 : Ref sig .tc := ⟨.hbm, 730, rfl⟩
abbrev main_call1_call5_v107 : Ref sig .tc := ⟨.hbm, 731, rfl⟩
abbrev main_call1_call5_v108 : Ref sig .tc := ⟨.hbm, 732, rfl⟩
abbrev main_call1_call5_c_27 : Ref sig .tc := ⟨.hbm, 733, rfl⟩
abbrev main_call1_call5_v109 : Ref sig .tc := ⟨.hbm, 734, rfl⟩
abbrev main_call1_call5_v110 : Ref sig .tc := ⟨.hbm, 735, rfl⟩
abbrev main_call1_call5_c_28 : Ref sig .tc := ⟨.hbm, 736, rfl⟩
abbrev main_call1_call5_v111 : Ref sig .tc := ⟨.hbm, 737, rfl⟩
abbrev main_call1_call5_v112 : Ref sig .tc := ⟨.hbm, 738, rfl⟩
abbrev main_call1_call5_v113 : Ref sig .tc := ⟨.hbm, 739, rfl⟩
abbrev main_call1_call5_v114 : Ref sig .tc := ⟨.hbm, 740, rfl⟩
abbrev main_call1_call5_v115 : Ref sig .tc := ⟨.hbm, 741, rfl⟩
abbrev main_call1_call5_c_29 : Ref sig .tc := ⟨.hbm, 742, rfl⟩
abbrev main_call1_call5_v116 : Ref sig .tc := ⟨.hbm, 743, rfl⟩
abbrev main_call1_call5_v117 : Ref sig .tc := ⟨.hbm, 744, rfl⟩
abbrev main_call1_call5_c_30 : Ref sig .tc := ⟨.hbm, 745, rfl⟩
abbrev main_call1_call5_v118 : Ref sig .tc := ⟨.hbm, 746, rfl⟩
abbrev main_call1_call5_v119 : Ref sig .tc := ⟨.hbm, 747, rfl⟩
abbrev main_call1_call5_v120 : Ref sig .tc := ⟨.hbm, 748, rfl⟩
abbrev main_call1_call5_v121 : Ref sig .tc := ⟨.hbm, 749, rfl⟩
abbrev main_call1_call5_v122 : Ref sig .tc := ⟨.hbm, 750, rfl⟩
abbrev main_call1_call5_c_31 : Ref sig .tc := ⟨.hbm, 751, rfl⟩
abbrev main_call1_call5_v123 : Ref sig .tc := ⟨.hbm, 752, rfl⟩
abbrev main_call1_call5_v124 : Ref sig .tc := ⟨.hbm, 753, rfl⟩
abbrev main_call1_call5_c_32 : Ref sig .tc := ⟨.hbm, 754, rfl⟩
abbrev main_call1_call5_v125 : Ref sig .tc := ⟨.hbm, 755, rfl⟩
abbrev main_call1_call5_v126 : Ref sig .tc := ⟨.hbm, 756, rfl⟩
abbrev main_call1_call5_v127 : Ref sig .tc := ⟨.hbm, 757, rfl⟩
abbrev main_call1_call5_v128 : Ref sig .tc := ⟨.hbm, 758, rfl⟩
abbrev main_call1_call5_v129 : Ref sig .tc := ⟨.hbm, 759, rfl⟩
abbrev main_call1_call5_c_33 : Ref sig .tc := ⟨.hbm, 760, rfl⟩
abbrev main_call1_call5_v130 : Ref sig .tc := ⟨.hbm, 761, rfl⟩
abbrev main_call1_call5_v131 : Ref sig .tc := ⟨.hbm, 762, rfl⟩
abbrev main_call1_call5_c_34 : Ref sig .tc := ⟨.hbm, 763, rfl⟩
abbrev main_call1_call5_v132 : Ref sig .tc := ⟨.hbm, 764, rfl⟩
abbrev main_call1_call5_v133 : Ref sig .tc := ⟨.hbm, 765, rfl⟩
abbrev main_call1_call5_v134 : Ref sig .tc := ⟨.hbm, 766, rfl⟩
abbrev main_call1_call5_v135 : Ref sig .tc := ⟨.hbm, 767, rfl⟩
abbrev main_call1_call5_v136 : Ref sig .tc := ⟨.hbm, 768, rfl⟩
abbrev main_call1_call5_v137 : Ref sig .tc := ⟨.hbm, 769, rfl⟩
abbrev main_call1_call5_v138 : Ref sig .tc := ⟨.hbm, 770, rfl⟩
abbrev main_call1_call5_v139 : Ref sig .tc := ⟨.hbm, 771, rfl⟩
abbrev main_call1_call5_c_35 : Ref sig .tc := ⟨.hbm, 772, rfl⟩
abbrev main_call1_call5_v140 : Ref sig .tc := ⟨.hbm, 773, rfl⟩
abbrev main_call1_call5_v141 : Ref sig .tc := ⟨.hbm, 774, rfl⟩
abbrev main_call1_call5_v142 : Ref sig .tc := ⟨.hbm, 775, rfl⟩
abbrev main_call1_call5_c_36 : Ref sig .tc := ⟨.hbm, 776, rfl⟩
abbrev main_call1_call5_v143 : Ref sig .tc := ⟨.hbm, 777, rfl⟩
abbrev main_call1_call5_v144 : Ref sig .tc := ⟨.hbm, 778, rfl⟩
abbrev main_call1_call5_c_37 : Ref sig .tc := ⟨.hbm, 779, rfl⟩
abbrev main_call1_call5_v145 : Ref sig .tc := ⟨.hbm, 780, rfl⟩
abbrev main_call1_call5_v146 : Ref sig .tc := ⟨.hbm, 781, rfl⟩
abbrev main_call1_call5_v147 : Ref sig .tc := ⟨.hbm, 782, rfl⟩
abbrev main_call1_call5_v148 : Ref sig .tc := ⟨.hbm, 783, rfl⟩
abbrev main_call1_call5_v149 : Ref sig .tc := ⟨.hbm, 784, rfl⟩
abbrev main_call1_call5_c_38 : Ref sig .tc := ⟨.hbm, 785, rfl⟩
abbrev main_call1_call5_v150 : Ref sig .tc := ⟨.hbm, 786, rfl⟩
abbrev main_call1_call5_v151 : Ref sig .tc := ⟨.hbm, 787, rfl⟩
abbrev main_call1_call5_c_39 : Ref sig .tc := ⟨.hbm, 788, rfl⟩
abbrev main_call1_call5_v152 : Ref sig .tc := ⟨.hbm, 789, rfl⟩
abbrev main_call1_call5_v153 : Ref sig .tc := ⟨.hbm, 790, rfl⟩
abbrev main_call1_call5_v154 : Ref sig .tc := ⟨.hbm, 791, rfl⟩
abbrev main_call1_call5_v155 : Ref sig .tc := ⟨.hbm, 792, rfl⟩
abbrev main_call1_call5_v156 : Ref sig .tc := ⟨.hbm, 793, rfl⟩
abbrev main_call1_call5_c_40 : Ref sig .tc := ⟨.hbm, 794, rfl⟩
abbrev main_call1_call5_v157 : Ref sig .tc := ⟨.hbm, 795, rfl⟩
abbrev main_call1_call5_v158 : Ref sig .tc := ⟨.hbm, 796, rfl⟩
abbrev main_call1_call5_c_41 : Ref sig .tc := ⟨.hbm, 797, rfl⟩
abbrev main_call1_call5_v159 : Ref sig .tc := ⟨.hbm, 798, rfl⟩
abbrev main_call1_call5_v160 : Ref sig .tc := ⟨.hbm, 799, rfl⟩
abbrev main_call1_call5_v161 : Ref sig .tc := ⟨.hbm, 800, rfl⟩
abbrev main_call1_call5_v162 : Ref sig .tc := ⟨.hbm, 801, rfl⟩
abbrev main_call1_call5_v163 : Ref sig .tc := ⟨.hbm, 802, rfl⟩
abbrev main_call1_call5_c_42 : Ref sig .tc := ⟨.hbm, 803, rfl⟩
abbrev main_call1_call5_v164 : Ref sig .tc := ⟨.hbm, 804, rfl⟩
abbrev main_call1_call5_v165 : Ref sig .tc := ⟨.hbm, 805, rfl⟩
abbrev main_call1_call5_c_43 : Ref sig .tc := ⟨.hbm, 806, rfl⟩
abbrev main_call1_call5_v166 : Ref sig .tc := ⟨.hbm, 807, rfl⟩
abbrev main_call1_call5_v167 : Ref sig .tc := ⟨.hbm, 808, rfl⟩
abbrev main_call1_call5_v168 : Ref sig .tc := ⟨.hbm, 809, rfl⟩
abbrev main_call1_call5_v169 : Ref sig .tc := ⟨.hbm, 810, rfl⟩
abbrev main_call1_call5_v170 : Ref sig .tc := ⟨.hbm, 811, rfl⟩
abbrev main_call1_v45_0 : Ref sig .tc := ⟨.hbm, 812, rfl⟩
abbrev main_call1_call5_v172 : Ref sig .tc := ⟨.hbm, 813, rfl⟩
abbrev main_call1_call5_v173 : Ref sig .tc := ⟨.hbm, 814, rfl⟩
abbrev main_call1_call5_c_44 : Ref sig .tc := ⟨.hbm, 815, rfl⟩
abbrev main_call1_call5_v174 : Ref sig .tc := ⟨.hbm, 816, rfl⟩
abbrev main_call1_v45_1 : Ref sig .tc := ⟨.hbm, 817, rfl⟩
abbrev main_call1_v46 : Ref sig .tc := ⟨.hbm, 818, rfl⟩
abbrev main_call1_v47 : Ref sig .tc := ⟨.hbm, 819, rfl⟩
abbrev main_call1_v48 : Ref sig .tc := ⟨.hbm, 820, rfl⟩
abbrev main_call1_v49 : Ref sig .tc := ⟨.hbm, 821, rfl⟩
abbrev main_call1_c_12 : Ref sig .tc := ⟨.hbm, 822, rfl⟩
abbrev main_call1_v50 : Ref sig .tc := ⟨.hbm, 823, rfl⟩
abbrev main_call1_v51 : Ref sig .tc := ⟨.hbm, 824, rfl⟩
abbrev main_call1_v52 : Ref sig .tc := ⟨.hbm, 825, rfl⟩
abbrev main_call1_v53 : Ref sig .tc := ⟨.hbm, 826, rfl⟩
abbrev main_call1_v54 : Ref sig .tc := ⟨.hbm, 827, rfl⟩
abbrev main_call1_c_13 : Ref sig .tc := ⟨.hbm, 828, rfl⟩
abbrev main_call1_v55 : Ref sig .tc := ⟨.hbm, 829, rfl⟩
abbrev main_call1_v56 : Ref sig .tc := ⟨.hbm, 830, rfl⟩
abbrev main_call1_v57 : Ref sig .tc := ⟨.hbm, 831, rfl⟩
abbrev main_call1_c_14 : Ref sig .tc := ⟨.hbm, 832, rfl⟩
abbrev main_call1_v58 : Ref sig .tc := ⟨.hbm, 833, rfl⟩
abbrev main_call1_v59 : Ref sig .tc := ⟨.hbm, 834, rfl⟩
abbrev main_call1_v60 : Ref sig .tc := ⟨.hbm, 835, rfl⟩
abbrev main_call1_v61 : Ref sig .tc := ⟨.hbm, 836, rfl⟩
abbrev main_call1_v62 : Ref sig .tc := ⟨.hbm, 837, rfl⟩
abbrev main_call1_v63 : Ref sig .tc := ⟨.hbm, 838, rfl⟩
abbrev main_call1_v64 : Ref sig .tc := ⟨.hbm, 839, rfl⟩
abbrev main_call1_v65 : Ref sig .tc := ⟨.hbm, 840, rfl⟩
abbrev main_call1_v66 : Ref sig .tc := ⟨.hbm, 841, rfl⟩
abbrev main_call1_v67 : Ref sig .tc := ⟨.hbm, 842, rfl⟩
abbrev main_call1_v68 : Ref sig .tc := ⟨.hbm, 843, rfl⟩
abbrev main_call1_v69 : Ref sig .tc := ⟨.hbm, 844, rfl⟩
abbrev main_call1_v70 : Ref sig .tc := ⟨.hbm, 845, rfl⟩
abbrev main_call1_v71 : Ref sig .tc := ⟨.hbm, 846, rfl⟩
abbrev main_call1_v72 : Ref sig .tc := ⟨.hbm, 847, rfl⟩
abbrev main_v59 : Ref sig .tc := ⟨.hbm, 848, rfl⟩
abbrev main_v60 : Ref sig .tc := ⟨.hbm, 849, rfl⟩
abbrev main_v61 : Ref sig .tc := ⟨.hbm, 850, rfl⟩
abbrev main_v62 : Ref sig .tc := ⟨.hbm, 851, rfl⟩
abbrev main_call2_v0 : Ref sig .tc := ⟨.hbm, 852, rfl⟩
abbrev main_call2_v1_0 : Ref sig .tc := ⟨.hbm, 853, rfl⟩
abbrev main_v63 : Ref sig .tc := ⟨.hbm, 854, rfl⟩
abbrev main_call3_v0 : Ref sig .tc := ⟨.hbm, 855, rfl⟩
abbrev main_call3_v1_0 : Ref sig .tc := ⟨.hbm, 856, rfl⟩
abbrev main_v64 : Ref sig .tc := ⟨.hbm, 857, rfl⟩
abbrev main_c_9 : Ref sig .tc := ⟨.hbm, 858, rfl⟩
abbrev main_v65 : Ref sig .tc := ⟨.hbm, 859, rfl⟩
abbrev main_v66 : Ref sig .tc := ⟨.hbm, 860, rfl⟩
abbrev main_v67 : Ref sig .tc := ⟨.hbm, 861, rfl⟩
abbrev main_v68 : Ref sig .tc := ⟨.hbm, 862, rfl⟩
abbrev main_call4_c : Ref sig .tc := ⟨.hbm, 863, rfl⟩
abbrev main_call4_v0 : Ref sig .tc := ⟨.hbm, 864, rfl⟩
abbrev main_call4_v1 : Ref sig .tc := ⟨.hbm, 865, rfl⟩
abbrev main_call4_c_0 : Ref sig .tc := ⟨.hbm, 866, rfl⟩
abbrev main_call4_v2 : Ref sig .tc := ⟨.hbm, 867, rfl⟩
abbrev main_call4_v3 : Ref sig .tc := ⟨.hbm, 868, rfl⟩
abbrev main_call4_v4 : Ref sig .tc := ⟨.hbm, 869, rfl⟩
abbrev main_call4_c_1 : Ref sig .tc := ⟨.hbm, 870, rfl⟩
abbrev main_call4_c_2 : Ref sig .tc := ⟨.hbm, 871, rfl⟩
abbrev main_call4_v5 : Ref sig .tc := ⟨.hbm, 872, rfl⟩
abbrev main_call4_v6 : Ref sig .tc := ⟨.hbm, 873, rfl⟩
abbrev main_call4_v7 : Ref sig .tc := ⟨.hbm, 874, rfl⟩
abbrev main_call4_v8 : Ref sig .tc := ⟨.hbm, 875, rfl⟩
abbrev main_call4_v9 : Ref sig .tc := ⟨.hbm, 876, rfl⟩
abbrev main_call4_v10 : Ref sig .tc := ⟨.hbm, 877, rfl⟩
abbrev main_call4_c_3 : Ref sig .tc := ⟨.hbm, 878, rfl⟩
abbrev main_call4_v11 : Ref sig .tc := ⟨.hbm, 879, rfl⟩
abbrev main_call4_v12 : Ref sig .tc := ⟨.hbm, 880, rfl⟩
abbrev main_call4_v13 : Ref sig .tc := ⟨.hbm, 881, rfl⟩
abbrev main_call4_cst : Ref sig .tc := ⟨.hbm, 882, rfl⟩
abbrev main_call4_v14 : Ref sig .tc := ⟨.hbm, 883, rfl⟩
abbrev main_v69 : Ref sig .tc := ⟨.hbm, 884, rfl⟩
abbrev main_v70 : Ref sig .tc := ⟨.hbm, 885, rfl⟩
abbrev main_cst_10 : Ref sig .tc := ⟨.hbm, 886, rfl⟩
abbrev main_v71 : Ref sig .tc := ⟨.hbm, 887, rfl⟩
abbrev main_call5_v0 : Ref sig .tc := ⟨.hbm, 888, rfl⟩
abbrev main_v72 : Ref sig .tc := ⟨.hbm, 889, rfl⟩
abbrev main_call6_c : Ref sig .tc := ⟨.hbm, 890, rfl⟩
abbrev main_call6_v0 : Ref sig .tc := ⟨.hbm, 891, rfl⟩
abbrev main_call6_v1 : Ref sig .tc := ⟨.hbm, 892, rfl⟩
abbrev main_call6_c_0 : Ref sig .tc := ⟨.hbm, 893, rfl⟩
abbrev main_call6_v2 : Ref sig .tc := ⟨.hbm, 894, rfl⟩
abbrev main_call6_v3 : Ref sig .tc := ⟨.hbm, 895, rfl⟩
abbrev main_call6_v4 : Ref sig .tc := ⟨.hbm, 896, rfl⟩
abbrev main_call6_v5 : Ref sig .tc := ⟨.hbm, 897, rfl⟩
abbrev main_call6_c_1 : Ref sig .tc := ⟨.hbm, 898, rfl⟩
abbrev main_call6_c_2 : Ref sig .tc := ⟨.hbm, 899, rfl⟩
abbrev main_call6_v6 : Ref sig .tc := ⟨.hbm, 900, rfl⟩
abbrev main_call6_v7 : Ref sig .tc := ⟨.hbm, 901, rfl⟩
abbrev main_call6_v8 : Ref sig .tc := ⟨.hbm, 902, rfl⟩
abbrev main_call6_v9 : Ref sig .tc := ⟨.hbm, 903, rfl⟩
abbrev main_call6_v10 : Ref sig .tc := ⟨.hbm, 904, rfl⟩
abbrev main_call6_v11 : Ref sig .tc := ⟨.hbm, 905, rfl⟩
abbrev main_call6_c_3 : Ref sig .tc := ⟨.hbm, 906, rfl⟩
abbrev main_call6_v12 : Ref sig .tc := ⟨.hbm, 907, rfl⟩
abbrev main_call6_v13 : Ref sig .tc := ⟨.hbm, 908, rfl⟩
abbrev main_call6_c_4 : Ref sig .tc := ⟨.hbm, 909, rfl⟩
abbrev main_call6_v14 : Ref sig .tc := ⟨.hbm, 910, rfl⟩
abbrev main_v73 : Ref sig .tc := ⟨.hbm, 911, rfl⟩
abbrev main_c_11 : Ref sig .tc := ⟨.hbm, 912, rfl⟩
abbrev main_call7_v0 : Ref sig .tc := ⟨.hbm, 913, rfl⟩
abbrev main_v74 : Ref sig .tc := ⟨.hbm, 914, rfl⟩
abbrev main_v75 : Ref sig .tc := ⟨.hbm, 915, rfl⟩
abbrev main_v76 : Ref sig .tc := ⟨.hbm, 916, rfl⟩
abbrev main_v77 : Ref sig .tc := ⟨.hbm, 917, rfl⟩
abbrev main_v78 : Ref sig .tc := ⟨.hbm, 918, rfl⟩
abbrev main_v79 : Ref sig .tc := ⟨.hbm, 919, rfl⟩
abbrev main_v80 : Ref sig .tc := ⟨.hbm, 920, rfl⟩
abbrev main_v81 : Ref sig .tc := ⟨.hbm, 921, rfl⟩
abbrev main_v82 : Ref sig .tc := ⟨.hbm, 922, rfl⟩
abbrev main_v83 : Ref sig .tc := ⟨.hbm, 923, rfl⟩
abbrev main_v84 : Ref sig .tc := ⟨.hbm, 924, rfl⟩
abbrev main_v85 : Ref sig .tc := ⟨.hbm, 925, rfl⟩
abbrev main_v86 : Ref sig .tc := ⟨.hbm, 926, rfl⟩
abbrev main_cst_12 : Ref sig .tc := ⟨.hbm, 927, rfl⟩
abbrev main_v87 : Ref sig .tc := ⟨.hbm, 928, rfl⟩
abbrev main_v88 : Ref sig .tc := ⟨.hbm, 929, rfl⟩
abbrev main_v89 : Ref sig .tc := ⟨.hbm, 930, rfl⟩
abbrev main_v90 : Ref sig .tc := ⟨.hbm, 931, rfl⟩
abbrev main_v91 : Ref sig .tc := ⟨.hbm, 932, rfl⟩
abbrev main_cst_13 : Ref sig .tc := ⟨.hbm, 933, rfl⟩
abbrev main_v92 : Ref sig .tc := ⟨.hbm, 934, rfl⟩
abbrev main_v93 : Ref sig .tc := ⟨.hbm, 935, rfl⟩
abbrev main_v94 : Ref sig .tc := ⟨.hbm, 936, rfl⟩
abbrev main_v95 : Ref sig .tc := ⟨.hbm, 937, rfl⟩
abbrev main_v96 : Ref sig .tc := ⟨.hbm, 938, rfl⟩
abbrev main_v97 : Ref sig .tc := ⟨.hbm, 939, rfl⟩
abbrev main_v98 : Ref sig .tc := ⟨.hbm, 940, rfl⟩
abbrev main_v99 : Ref sig .tc := ⟨.hbm, 941, rfl⟩
abbrev main_v100 : Ref sig .tc := ⟨.hbm, 942, rfl⟩
abbrev main_v101 : Ref sig .tc := ⟨.hbm, 943, rfl⟩
abbrev main_v102 : Ref sig .tc := ⟨.hbm, 944, rfl⟩
abbrev main_v103 : Ref sig .tc := ⟨.hbm, 945, rfl⟩
abbrev main_v104 : Ref sig .tc := ⟨.hbm, 946, rfl⟩
abbrev main_v105 : Ref sig .tc := ⟨.hbm, 947, rfl⟩
abbrev main_v106 : Ref sig .tc := ⟨.hbm, 948, rfl⟩
abbrev main_cst_14 : Ref sig .tc := ⟨.hbm, 949, rfl⟩
abbrev main_v107 : Ref sig .tc := ⟨.hbm, 950, rfl⟩
abbrev main_v108 : Ref sig .tc := ⟨.hbm, 951, rfl⟩
abbrev main_v109 : Ref sig .tc := ⟨.hbm, 952, rfl⟩
abbrev main_v110 : Ref sig .tc := ⟨.hbm, 953, rfl⟩
abbrev main_v111 : Ref sig .tc := ⟨.hbm, 954, rfl⟩
abbrev main_cst_15 : Ref sig .tc := ⟨.hbm, 955, rfl⟩
abbrev main_v112 : Ref sig .tc := ⟨.hbm, 956, rfl⟩
abbrev main_v113 : Ref sig .tc := ⟨.hbm, 957, rfl⟩
abbrev main_v114 : Ref sig .tc := ⟨.hbm, 958, rfl⟩
abbrev main_cst_16 : Ref sig .tc := ⟨.hbm, 959, rfl⟩
abbrev main_v115 : Ref sig .tc := ⟨.hbm, 960, rfl⟩
abbrev main_v116 : Ref sig .tc := ⟨.hbm, 961, rfl⟩
abbrev main_cst_17 : Ref sig .tc := ⟨.hbm, 962, rfl⟩
abbrev main_call8_v0 : Ref sig .tc := ⟨.hbm, 963, rfl⟩
abbrev main_call8_v1 : Ref sig .tc := ⟨.hbm, 964, rfl⟩
abbrev main_v117 : Ref sig .tc := ⟨.hbm, 965, rfl⟩
abbrev main_cst_18 : Ref sig .tc := ⟨.hbm, 966, rfl⟩
abbrev main_v118 : Ref sig .tc := ⟨.hbm, 967, rfl⟩
abbrev main_v119 : Ref sig .tc := ⟨.hbm, 968, rfl⟩
abbrev main_cst_19 : Ref sig .tc := ⟨.hbm, 969, rfl⟩
abbrev main_call9_v0 : Ref sig .tc := ⟨.hbm, 970, rfl⟩
abbrev main_call9_v1 : Ref sig .tc := ⟨.hbm, 971, rfl⟩
abbrev main_v120 : Ref sig .tc := ⟨.hbm, 972, rfl⟩
abbrev main_cst_20 : Ref sig .tc := ⟨.hbm, 973, rfl⟩
abbrev main_v121 : Ref sig .tc := ⟨.hbm, 974, rfl⟩
abbrev main_v122 : Ref sig .tc := ⟨.hbm, 975, rfl⟩
abbrev main_v123 : Ref sig .tc := ⟨.hbm, 976, rfl⟩
abbrev main_v124 : Ref sig .tc := ⟨.hbm, 977, rfl⟩
abbrev main_cst_21 : Ref sig .tc := ⟨.hbm, 978, rfl⟩
abbrev main_call10_v0 : Ref sig .tc := ⟨.hbm, 979, rfl⟩
abbrev main_call10_v1 : Ref sig .tc := ⟨.hbm, 980, rfl⟩
abbrev main_v125 : Ref sig .tc := ⟨.hbm, 981, rfl⟩
abbrev main_cst_22 : Ref sig .tc := ⟨.hbm, 982, rfl⟩
abbrev main_v126 : Ref sig .tc := ⟨.hbm, 983, rfl⟩
abbrev main_v127 : Ref sig .tc := ⟨.hbm, 984, rfl⟩
abbrev main_v128 : Ref sig .tc := ⟨.hbm, 985, rfl⟩
abbrev main_v129 : Ref sig .tc := ⟨.hbm, 986, rfl⟩
abbrev main_cst_23 : Ref sig .tc := ⟨.hbm, 987, rfl⟩
abbrev main_call11_v0 : Ref sig .tc := ⟨.hbm, 988, rfl⟩
abbrev main_call11_v1 : Ref sig .tc := ⟨.hbm, 989, rfl⟩
abbrev main_v130 : Ref sig .tc := ⟨.hbm, 990, rfl⟩
abbrev main_cst_24 : Ref sig .tc := ⟨.hbm, 991, rfl⟩
abbrev main_v131 : Ref sig .tc := ⟨.hbm, 992, rfl⟩
abbrev main_v132 : Ref sig .tc := ⟨.hbm, 993, rfl⟩
abbrev main_cst_25 : Ref sig .tc := ⟨.hbm, 994, rfl⟩
abbrev main_call12_v0 : Ref sig .tc := ⟨.hbm, 995, rfl⟩
abbrev main_call12_v1 : Ref sig .tc := ⟨.hbm, 996, rfl⟩
abbrev main_v133 : Ref sig .tc := ⟨.hbm, 997, rfl⟩
abbrev main_cst_26 : Ref sig .tc := ⟨.hbm, 998, rfl⟩
abbrev main_v134 : Ref sig .tc := ⟨.hbm, 999, rfl⟩
abbrev main_v135 : Ref sig .tc := ⟨.hbm, 1000, rfl⟩
abbrev main_cst_27 : Ref sig .tc := ⟨.hbm, 1001, rfl⟩
abbrev main_call13_v0 : Ref sig .tc := ⟨.hbm, 1002, rfl⟩
abbrev main_call13_v1 : Ref sig .tc := ⟨.hbm, 1003, rfl⟩
abbrev main_v136 : Ref sig .tc := ⟨.hbm, 1004, rfl⟩
abbrev main_cst_28 : Ref sig .tc := ⟨.hbm, 1005, rfl⟩
abbrev main_v137 : Ref sig .tc := ⟨.hbm, 1006, rfl⟩
abbrev main_v138 : Ref sig .tc := ⟨.hbm, 1007, rfl⟩
abbrev main_v139 : Ref sig .tc := ⟨.hbm, 1008, rfl⟩
abbrev main_v140 : Ref sig .tc := ⟨.hbm, 1009, rfl⟩
abbrev main_cst_29 : Ref sig .tc := ⟨.hbm, 1010, rfl⟩
abbrev main_call14_v0 : Ref sig .tc := ⟨.hbm, 1011, rfl⟩
abbrev main_call14_v1 : Ref sig .tc := ⟨.hbm, 1012, rfl⟩
abbrev main_v141 : Ref sig .tc := ⟨.hbm, 1013, rfl⟩
abbrev main_cst_30 : Ref sig .tc := ⟨.hbm, 1014, rfl⟩
abbrev main_v142 : Ref sig .tc := ⟨.hbm, 1015, rfl⟩
abbrev main_v143 : Ref sig .tc := ⟨.hbm, 1016, rfl⟩
abbrev main_v144 : Ref sig .tc := ⟨.hbm, 1017, rfl⟩
abbrev main_v145 : Ref sig .tc := ⟨.hbm, 1018, rfl⟩
abbrev main_cst_31 : Ref sig .tc := ⟨.hbm, 1019, rfl⟩
abbrev main_call15_v0 : Ref sig .tc := ⟨.hbm, 1020, rfl⟩
abbrev main_call15_v1 : Ref sig .tc := ⟨.hbm, 1021, rfl⟩
abbrev main_v146 : Ref sig .tc := ⟨.hbm, 1022, rfl⟩
abbrev main_v147 : Ref sig .tc := ⟨.hbm, 1023, rfl⟩
abbrev main_v148 : Ref sig .tc := ⟨.hbm, 1024, rfl⟩
abbrev main_v149 : Ref sig .tc := ⟨.hbm, 1025, rfl⟩
abbrev main_v150 : Ref sig .tc := ⟨.hbm, 1026, rfl⟩
abbrev main_v151 : Ref sig .tc := ⟨.hbm, 1027, rfl⟩
abbrev main_v152 : Ref sig .tc := ⟨.hbm, 1028, rfl⟩
abbrev main_v153 : Ref sig .tc := ⟨.hbm, 1029, rfl⟩
abbrev main_v154 : Ref sig .tc := ⟨.hbm, 1030, rfl⟩
abbrev main_call16_v0 : Ref sig .tc := ⟨.hbm, 1031, rfl⟩
abbrev main_call16_v1 : Ref sig .tc := ⟨.hbm, 1032, rfl⟩
abbrev main_call16_v2 : Ref sig .tc := ⟨.hbm, 1033, rfl⟩
abbrev main_call16_v3 : Ref sig .tc := ⟨.hbm, 1034, rfl⟩
abbrev main_call16_v4 : Ref sig .tc := ⟨.hbm, 1035, rfl⟩
abbrev main_v155 : Ref sig .tc := ⟨.hbm, 1036, rfl⟩
abbrev main_v156 : Ref sig .tc := ⟨.hbm, 1037, rfl⟩
abbrev main_v157 : Ref sig .tc := ⟨.hbm, 1038, rfl⟩
abbrev main_v158 : Ref sig .tc := ⟨.hbm, 1039, rfl⟩
abbrev main_v159 : Ref sig .tc := ⟨.hbm, 1040, rfl⟩
abbrev main_v160 : Ref sig .tc := ⟨.hbm, 1041, rfl⟩
abbrev main_v161 : Ref sig .tc := ⟨.hbm, 1042, rfl⟩
abbrev main_v162 : Ref sig .tc := ⟨.hbm, 1043, rfl⟩

abbrev nD : Nat := 1
abbrev τ : Topo := Topo.v7x

variable {F : FTy → Type} [FloatOps F]
-- ==== Proof.Line.lean ====
module

public import Idealize.ShloMosaic.Lib.StableHlo.RunHlo

@[expose] public section

/-! A program of host operations and calls of module-local functions, as the list of its operations in order. -/

namespace Cert.Line

open Idealize.ShloMosaic Idealize.SL.Sem Idealize.ShloMosaic.StableHlo

variable {nD : Nat} {τ : Topo} {sig : RefSig} {Val : EltTy → Type} {Λ : Labels}

/-- An operation names only the TensorCore's buffers and determines all it writes. -/
class Tame (op : HloOp τ sig Val) : Prop where
  bufs : op.bufs ⊆ tcRefs τ sig
  fresh : op.fresh = ∅

/-- The program `p` followed by the operations `rest` is the operations `ops`, all tame when those of `rest` are. -/
def Runs (p : Prog (TpuEff nD τ sig Val Λ .tc) PUnit) (rest ops : List (HloOp τ sig Val)) : Prop :=
  (p >>= fun _ => seq rest) = seq ops ∧ ((∀ op ∈ rest, Tame op) → ∀ op ∈ ops, Tame op)

/-- Returning runs nothing. -/
theorem runs_nil (rest : List (HloOp τ sig Val)) :
    Runs (nD := nD) (Λ := Λ) (pure ⟨⟩ : Prog (TpuEff nD τ sig Val Λ .tc) PUnit) rest rest :=
  ⟨by rw [pure_bind], id⟩

/-- One operation and then the program `k`. -/
theorem runs_op {op : HloOp τ sig Val} {k : Prog (TpuEff nD τ sig Val Λ .tc) PUnit} {rest ops : List (HloOp τ sig Val)}
    [hop : Tame op] (h : Runs k rest ops) :
    Runs ((hlo rfl op fun _ => .ret (⟨⟩ : PUnit)) >>= fun _ => k) rest (op :: ops) :=
  ⟨by rw [bind_assoc, h.1]; rfl, fun hr o ho => by
    rcases List.mem_cons.mp ho with rfl | ho
    · exact hop
    · exact h.2 hr o ho⟩

/-- One operation, the last. -/
theorem runs_last {op : HloOp τ sig Val} (rest : List (HloOp τ sig Val)) [hop : Tame op] :
    Runs (nD := nD) (Λ := Λ) (hlo rfl op fun _ => .ret (⟨⟩ : PUnit)) rest (op :: rest) :=
  ⟨rfl, fun hr o ho => by
    rcases List.mem_cons.mp ho with rfl | ho
    · exact hop
    · exact hr o ho⟩

/-- A call `p` and then the program `k`. -/
theorem runs_call {p k : Prog (TpuEff nD τ sig Val Λ .tc) PUnit} {rest mid ops : List (HloOp τ sig Val)}
    (hp : Runs p mid ops) (hk : Runs k rest mid) : Runs (p >>= fun _ => k) rest ops :=
  ⟨by rw [bind_assoc, hk.1, hp.1], fun hr => hp.2 (hk.2 hr)⟩

/-- A program that is its operations and nothing else. -/
theorem Runs.eq_seq {p : Prog (TpuEff nD τ sig Val Λ .tc) PUnit} {ops : List (HloOp τ sig Val)} (h : Runs p [] ops) :
    p = seq ops := by
  have := h.1
  rwa [show (fun _ => seq (nD := nD) (Λ := Λ) ([] : List (HloOp τ sig Val))) = fun _ : PUnit => pure ⟨⟩ from rfl, bind_pure_unit] at this

/-! The tameness of an operation on no, one, two, three, four or many buffers, and of a reshape. -/

/-- A constant is tame. -/
instance tame_nullary {y : Ref sig .tc} (v : y.ty.Contents Val) (hy) : Tame (nullary (τ := τ) y v hy) :=
  ⟨nullary_bufs_sub .., rfl⟩
/-- So is an operation on one buffer. -/
instance tame_unary {x y : Ref sig .tc} (f : x.ty.Contents Val → y.ty.Contents Val) (hx hy) : Tame (unary (τ := τ) x y f hx hy) :=
  ⟨unary_bufs_sub .., rfl⟩
/-- On two. -/
instance tame_binary {a b y : Ref sig .tc} (f : a.ty.Contents Val → b.ty.Contents Val → y.ty.Contents Val) (ha hb hy) :
    Tame (binary (τ := τ) a b y f ha hb hy) := ⟨binary_bufs_sub .., rfl⟩
/-- On three. -/
instance tame_ternary {c a b y : Ref sig .tc} (f : c.ty.Contents Val → a.ty.Contents Val → b.ty.Contents Val → y.ty.Contents Val)
    (hc ha hb hy) : Tame (ternary (τ := τ) c a b y f hc ha hb hy) := ⟨ternary_bufs_sub .., rfl⟩
/-- A reshape. -/
instance tame_reshape {x y : Ref sig .tc} (he hn hx hy) : Tame (reshape (τ := τ) (Val := Val) x y he hn hx hy) :=
  ⟨reshape_bufs_sub .., rfl⟩
/-- On four. -/
instance tame_quaternary {a b c e y : Ref sig .tc} (f : a.ty.Contents Val → b.ty.Contents Val → c.ty.Contents Val → e.ty.Contents Val → y.ty.Contents Val)
    (ha hb hc he hy) : Tame (quaternary (τ := τ) a b c e y f ha hb hc he hy) := ⟨quaternary_bufs_sub .., rfl⟩
/-- On many. -/
instance tame_nary {n : ℕ} {xs : Fin n → Ref sig .tc} {y : Ref sig .tc} (f hx hy) : Tame (nary (τ := τ) (Val := Val) xs y f hx hy) := ⟨nary_bufs_sub .., rfl⟩

end Cert.Line
-- ==== Proof.RefLine.lean ====
module

public import proofs.«01_k».proof.Proof.Gen.ReferenceIdeal
public import proofs.«01_k».proof.Proof.Line
public import Idealize.ShloMosaic.PureOps.Ideal

@[expose] public section

set_option maxRecDepth 16384
set_option maxHeartbeats 4000000

/-! The operations of each function of the reference, in order: the lists are read off the functions. -/

noncomputable section

namespace Cert.ReferenceIdeal.Run

open Idealize.ShloMosaic Idealize.SL.Sem Idealize.ShloMosaic.StableHlo Cert.Line

/-- The operations of `fn_argmax`, before those of `rest`. -/
def fn_argmax_ops (arg0 : StableHlo.TRef sig ⟨S16x5000x100, .f32⟩) (φ : fn_argmax.Bufs) (rest : List (HloOp τ sig (Elt Ideal))) :
    {ops // Runs (fn_argmax.body (F := Ideal) arg0 φ) rest ops} := by
  apply Subtype.mk
  unfold fn_argmax.body
  iterate 5 apply runs_op
  exact runs_nil _

/-- The operations of `fn_clip`, before those of `rest`. -/
def fn_clip_ops (arg0 : StableHlo.TRef sig ⟨S_, .i32⟩) (arg1 : StableHlo.TRef sig ⟨S_, .i32⟩) (arg2 : StableHlo.TRef sig ⟨S_, .i32⟩) (φ : fn_clip.Bufs) (rest : List (HloOp τ sig (Elt Ideal))) :
    {ops // Runs (fn_clip.body (F := Ideal) arg0 arg1 arg2 φ) rest ops} := by
  apply Subtype.mk
  unfold fn_clip.body
  iterate 2 apply runs_op
  exact runs_nil _

/-- The operations of `fn_clip_0`, before those of `rest`. -/
def fn_clip_0_ops (arg0 : StableHlo.TRef sig ⟨S_, .i32⟩) (arg1 : StableHlo.TRef sig ⟨S_, .i32⟩) (arg2 : StableHlo.TRef sig ⟨S_, .i32⟩) (φ : fn_clip_0.Bufs) (rest : List (HloOp τ sig (Elt Ideal))) :
    {ops // Runs (fn_clip_0.body (F := Ideal) arg0 arg1 arg2 φ) rest ops} := by
  apply Subtype.mk
  unfold fn_clip_0.body
  iterate 2 apply runs_op
  exact runs_nil _

/-- The operations of `fn_threefry2x32` (part0), before those of `rest`. -/
def fn_threefry2x32_ops_part0 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) (rest : List (HloOp τ sig (Elt Ideal))) :
    {ops // Runs (fn_threefry2x32.body_part0 (F := Ideal) arg0 arg1 arg2 arg3 φ) rest ops} := by
  apply Subtype.mk
  unfold fn_threefry2x32.body_part0
  iterate 59 apply runs_op
  exact runs_last _

/-- The operations of `fn_threefry2x32` (part1), before those of `rest`. -/
def fn_threefry2x32_ops_part1 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) (rest : List (HloOp τ sig (Elt Ideal))) :
    {ops // Runs (fn_threefry2x32.body_part1 (F := Ideal) arg0 arg1 arg2 arg3 φ) rest ops} := by
  apply Subtype.mk
  unfold fn_threefry2x32.body_part1
  iterate 59 apply runs_op
  exact runs_last _

/-- The operations of `fn_threefry2x32` (part2), before those of `rest`. -/
def fn_threefry2x32_ops_part2 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) (rest : List (HloOp τ sig (Elt Ideal))) :
    {ops // Runs (fn_threefry2x32.body_part2 (F := Ideal) arg0 arg1 arg2 arg3 φ) rest ops} := by
  apply Subtype.mk
  unfold fn_threefry2x32.body_part2
  iterate 59 apply runs_op
  exact runs_last _

/-- The operations of `fn_threefry2x32` (part3), before those of `rest`. -/
def fn_threefry2x32_ops_part3 (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) (rest : List (HloOp τ sig (Elt Ideal))) :
    {ops // Runs (fn_threefry2x32.body_part3 (F := Ideal) arg0 arg1 arg2 arg3 φ) rest ops} := by
  apply Subtype.mk
  unfold fn_threefry2x32.body_part3
  iterate 42 apply runs_op
  exact runs_nil _

/-- The operations of `fn_threefry2x32`, before those of `rest`. -/
def fn_threefry2x32_ops (arg0 : StableHlo.TRef sig ⟨S_, .i32⟩) (arg1 : StableHlo.TRef sig ⟨S_, .i32⟩) (arg2 : StableHlo.TRef sig ⟨S2, .i32⟩) (arg3 : StableHlo.TRef sig ⟨S2, .i32⟩) (φ : fn_threefry2x32.Bufs) (rest : List (HloOp τ sig (Elt Ideal))) :
    {ops // Runs (fn_threefry2x32.body (F := Ideal) arg0 arg1 arg2 arg3 φ) rest ops} := by
  apply Subtype.mk
  unfold fn_threefry2x32.body
  apply runs_call (fn_threefry2x32_ops_part0 ..).2
  apply runs_call (fn_threefry2x32_ops_part1 ..).2
  apply runs_call (fn_threefry2x32_ops_part2 ..).2
  exact (fn_threefry2x32_ops_part3 ..).2

/-- The operations of `fn_threefry_split`, before those of `rest`. -/
def fn_threefry_split_ops (arg0 : StableHlo.TRef sig ⟨S2, .i32⟩) (φ : fn_threefry_split.Bufs) (rest : List (HloOp τ sig (Elt Ideal))) :
    {ops // Runs (fn_threefry_split.body (F := Ideal) arg0 φ) rest ops} := by
  apply Subtype.mk
  unfold fn_threefry_split.body
  iterate 13 apply runs_op
  apply runs_call (fn_threefry2x32_ops ..).2
  iterate 3 apply runs_op
  exact runs_nil _

/-- The operations of `fn_threefry2x32_1` (part0), before those of `rest`. -/
def fn_threefry2x32_1_ops_part0 (arg0 : StableHlo.TRef sig ⟨S_, .i32⟩) (arg1 : StableHlo.TRef sig ⟨S_, .i32⟩) (arg2 : StableHlo.TRef sig ⟨S16x5000, .i32⟩) (arg3 : StableHlo.TRef sig ⟨S16x5000, .i32⟩) (φ : fn_threefry2x32_1.Bufs) (rest : List (HloOp τ sig (Elt Ideal))) :
    {ops // Runs (fn_threefry2x32_1.body_part0 (F := Ideal) arg0 arg1 arg2 arg3 φ) rest ops} := by
  apply Subtype.mk
  unfold fn_threefry2x32_1.body_part0
  iterate 59 apply runs_op
  exact runs_last _

/-- The operations of `fn_threefry2x32_1` (part1), before those of `rest`. -/
def fn_threefry2x32_1_ops_part1 (arg0 : StableHlo.TRef sig ⟨S_, .i32⟩) (arg1 : StableHlo.TRef sig ⟨S_, .i32⟩) (arg2 : StableHlo.TRef sig ⟨S16x5000, .i32⟩) (arg3 : StableHlo.TRef sig ⟨S16x5000, .i32⟩) (φ : fn_threefry2x32_1.Bufs) (rest : List (HloOp τ sig (Elt Ideal))) :
    {ops // Runs (fn_threefry2x32_1.body_part1 (F := Ideal) arg0 arg1 arg2 arg3 φ) rest ops} := by
  apply Subtype.mk
  unfold fn_threefry2x32_1.body_part1
  iterate 59 apply runs_op
  exact runs_last _

/-- The operations of `fn_threefry2x32_1` (part2), before those of `rest`. -/
def fn_threefry2x32_1_ops_part2 (arg0 : StableHlo.TRef sig ⟨S_, .i32⟩) (arg1 : StableHlo.TRef sig ⟨S_, .i32⟩) (arg2 : StableHlo.TRef sig ⟨S16x5000, .i32⟩) (arg3 : StableHlo.TRef sig ⟨S16x5000, .i32⟩) (φ : fn_threefry2x32_1.Bufs) (rest : List (HloOp τ sig (Elt Ideal))) :
    {ops // Runs (fn_threefry2x32_1.body_part2 (F := Ideal) arg0 arg1 arg2 arg3 φ) rest ops} := by
  apply Subtype.mk
  unfold fn_threefry2x32_1.body_part2
  iterate 59 apply runs_op
  exact runs_last _

/-- The operations of `fn_threefry2x32_1` (part3), before those of `rest`. -/
def fn_threefry2x32_1_ops_part3 (arg0 : StableHlo.TRef sig ⟨S_, .i32⟩) (arg1 : StableHlo.TRef sig ⟨S_, .i32⟩) (arg2 : StableHlo.TRef sig ⟨S16x5000, .i32⟩) (arg3 : StableHlo.TRef sig ⟨S16x5000, .i32⟩) (φ : fn_threefry2x32_1.Bufs) (rest : List (HloOp τ sig (Elt Ideal))) :
    {ops // Runs (fn_threefry2x32_1.body_part3 (F := Ideal) arg0 arg1 arg2 arg3 φ) rest ops} := by
  apply Subtype.mk
  unfold fn_threefry2x32_1.body_part3
  iterate 42 apply runs_op
  exact runs_nil _

/-- The operations of `fn_threefry2x32_1`, before those of `rest`. -/
def fn_threefry2x32_1_ops (arg0 : StableHlo.TRef sig ⟨S_, .i32⟩) (arg1 : StableHlo.TRef sig ⟨S_, .i32⟩) (arg2 : StableHlo.TRef sig ⟨S16x5000, .i32⟩) (arg3 : StableHlo.TRef sig ⟨S16x5000, .i32⟩) (φ : fn_threefry2x32_1.Bufs) (rest : List (HloOp τ sig (Elt Ideal))) :
    {ops // Runs (fn_threefry2x32_1.body (F := Ideal) arg0 arg1 arg2 arg3 φ) rest ops} := by
  apply Subtype.mk
  unfold fn_threefry2x32_1.body
  apply runs_call (fn_threefry2x32_1_ops_part0 ..).2
  apply runs_call (fn_threefry2x32_1_ops_part1 ..).2
  apply runs_call (fn_threefry2x32_1_ops_part2 ..).2
  exact (fn_threefry2x32_1_ops_part3 ..).2

/-- The operations of `fn_randint` (part0), before those of `rest`. -/
def fn_randint_ops_part0 (arg0 : StableHlo.TRef sig ⟨S2, .i32⟩) (arg1 : StableHlo.TRef sig ⟨S_, .i32⟩) (arg2 : StableHlo.TRef sig ⟨S_, .i32⟩) (φ : fn_randint.Bufs) (rest : List (HloOp τ sig (Elt Ideal))) :
    {ops // Runs (fn_randint.body_part0 (F := Ideal) arg0 arg1 arg2 φ) rest ops} := by
  apply Subtype.mk
  unfold fn_randint.body_part0
  iterate 3 apply runs_op
  apply runs_call (fn_clip_ops ..).2
  iterate 3 apply runs_op
  apply runs_call (fn_clip_0_ops ..).2
  iterate 3 apply runs_op
  apply runs_call (fn_clip_0_ops ..).2
  iterate 3 apply runs_op
  apply runs_call (fn_threefry_split_ops ..).2
  iterate 22 apply runs_op
  apply runs_call (fn_threefry2x32_1_ops ..).2
  iterate 19 apply runs_op
  apply runs_call (fn_threefry2x32_1_ops ..).2
  exact runs_last _

/-- The operations of `fn_randint` (part1), before those of `rest`. -/
def fn_randint_ops_part1 (arg0 : StableHlo.TRef sig ⟨S2, .i32⟩) (arg1 : StableHlo.TRef sig ⟨S_, .i32⟩) (arg2 : StableHlo.TRef sig ⟨S_, .i32⟩) (φ : fn_randint.Bufs) (rest : List (HloOp τ sig (Elt Ideal))) :
    {ops // Runs (fn_randint.body_part1 (F := Ideal) arg0 arg1 arg2 φ) rest ops} := by
  apply Subtype.mk
  unfold fn_randint.body_part1
  iterate 30 apply runs_op
  exact runs_nil _

/-- The operations of `fn_randint`, before those of `rest`. -/
def fn_randint_ops (arg0 : StableHlo.TRef sig ⟨S2, .i32⟩) (arg1 : StableHlo.TRef sig ⟨S_, .i32⟩) (arg2 : StableHlo.TRef sig ⟨S_, .i32⟩) (φ : fn_randint.Bufs) (rest : List (HloOp τ sig (Elt Ideal))) :
    {ops // Runs (fn_randint.body (F := Ideal) arg0 arg1 arg2 φ) rest ops} := by
  apply Subtype.mk
  unfold fn_randint.body
  apply runs_call (fn_randint_ops_part0 ..).2
  exact (fn_randint_ops_part1 ..).2

/-- The operations of `fn_argsort`, before those of `rest`. -/
def fn_argsort_ops (arg0 : StableHlo.TRef sig ⟨S16x5000, .i32⟩) (φ : fn_argsort.Bufs) (rest : List (HloOp τ sig (Elt Ideal))) :
    {ops // Runs (fn_argsort.body (F := Ideal) arg0 φ) rest ops} := by
  apply Subtype.mk
  unfold fn_argsort.body
  iterate 3 apply runs_op
  exact runs_nil _

/-- The operations of `fn_argsort_2`, before those of `rest`. -/
def fn_argsort_2_ops (arg0 : StableHlo.TRef sig ⟨S16x5000, .i32⟩) (φ : fn_argsort_2.Bufs) (rest : List (HloOp τ sig (Elt Ideal))) :
    {ops // Runs (fn_argsort_2.body (F := Ideal) arg0 φ) rest ops} := by
  apply Subtype.mk
  unfold fn_argsort_2.body
  iterate 3 apply runs_op
  exact runs_nil _

/-- The operations of `fn_take_along_axis`, before those of `rest`. -/
def fn_take_along_axis_ops (arg0 : StableHlo.TRef sig ⟨S16x100x4, .f32⟩) (arg1 : StableHlo.TRef sig ⟨S16x5000x1, .i32⟩) (φ : fn_take_along_axis.Bufs) (rest : List (HloOp τ sig (Elt Ideal))) :
    {ops // Runs (fn_take_along_axis.body (F := Ideal) arg0 arg1 φ) rest ops} := by
  apply Subtype.mk
  unfold fn_take_along_axis.body
  iterate 22 apply runs_op
  exact runs_nil _

/-- The operations of `fn_where`, before those of `rest`. -/
def fn_where_ops (arg0 : StableHlo.TRef sig ⟨S16x5000x1, .i1⟩) (arg1 : StableHlo.TRef sig ⟨S16x5000x4, .f32⟩) (arg2 : StableHlo.TRef sig ⟨S16x5000x4, .f32⟩) (φ : fn_where.Bufs) (rest : List (HloOp τ sig (Elt Ideal))) :
    {ops // Runs (fn_where.body (F := Ideal) arg0 arg1 arg2 φ) rest ops} := by
  apply Subtype.mk
  unfold fn_where.body
  iterate 2 apply runs_op
  exact runs_nil _

/-- The operations of `fn_take_along_axis_3`, before those of `rest`. -/
def fn_take_along_axis_3_ops (arg0 : StableHlo.TRef sig ⟨S16x100, .i32⟩) (arg1 : StableHlo.TRef sig ⟨S16x5000, .i32⟩) (φ : fn_take_along_axis_3.Bufs) (rest : List (HloOp τ sig (Elt Ideal))) :
    {ops // Runs (fn_take_along_axis_3.body (F := Ideal) arg0 arg1 φ) rest ops} := by
  apply Subtype.mk
  unfold fn_take_along_axis_3.body
  iterate 22 apply runs_op
  exact runs_nil _

/-- The operations of `fn_where_4`, before those of `rest`. -/
def fn_where_4_ops (arg0 : StableHlo.TRef sig ⟨S16x5000, .i1⟩) (arg1 : StableHlo.TRef sig ⟨S16x5000, .i32⟩) (arg2 : StableHlo.TRef sig ⟨S_, .i32⟩) (φ : fn_where_4.Bufs) (rest : List (HloOp τ sig (Elt Ideal))) :
    {ops // Runs (fn_where_4.body (F := Ideal) arg0 arg1 arg2 φ) rest ops} := by
  apply Subtype.mk
  unfold fn_where_4.body
  iterate 2 apply runs_op
  exact runs_nil _

/-- The operations of `fn_where_5`, before those of `rest`. -/
def fn_where_5_ops (arg0 : StableHlo.TRef sig ⟨S16x5000, .i1⟩) (arg1 : StableHlo.TRef sig ⟨S_, .f32⟩) (arg2 : StableHlo.TRef sig ⟨S16x5000, .f32⟩) (φ : fn_where_5.Bufs) (rest : List (HloOp τ sig (Elt Ideal))) :
    {ops // Runs (fn_where_5.body (F := Ideal) arg0 arg1 arg2 φ) rest ops} := by
  apply Subtype.mk
  unfold fn_where_5.body
  iterate 3 apply runs_op
  exact runs_nil _

/-- The operations of `fn_one_hot`, before those of `rest`. -/
def fn_one_hot_ops (arg0 : StableHlo.TRef sig ⟨S16x5000, .i32⟩) (φ : fn_one_hot.Bufs) (rest : List (HloOp τ sig (Elt Ideal))) :
    {ops // Runs (fn_one_hot.body (F := Ideal) arg0 φ) rest ops} := by
  apply Subtype.mk
  unfold fn_one_hot.body
  iterate 6 apply runs_op
  exact runs_nil _

/-- The operations of `main_part0`, before those of `rest`. -/
def main_part0_ops (d : Dev nD) (rest : List (HloOp τ sig (Elt Ideal))) :
    {ops // Runs (main_part0 (F := Ideal) d) rest ops} := by
  apply Subtype.mk
  unfold main_part0
  iterate 52 apply runs_op
  apply runs_call (fn_argmax_ops ..).2
  iterate 6 apply runs_op
  exact runs_last _

/-- The operations of `main_part1`, before those of `rest`. -/
def main_part1_ops (d : Dev nD) (rest : List (HloOp τ sig (Elt Ideal))) :
    {ops // Runs (main_part1 (F := Ideal) d) rest ops} := by
  apply Subtype.mk
  unfold main_part1
  iterate 10 apply runs_op
  apply runs_call (fn_randint_ops ..).2
  iterate 3 apply runs_op
  apply runs_call (fn_argsort_ops ..).2
  apply runs_call (fn_argsort_2_ops ..).2
  iterate 5 apply runs_op
  apply runs_call (fn_take_along_axis_ops ..).2
  iterate 3 apply runs_op
  apply runs_call (fn_where_ops ..).2
  apply runs_call (fn_take_along_axis_3_ops ..).2
  apply runs_op
  apply runs_call (fn_where_4_ops ..).2
  iterate 30 apply runs_op
  exact runs_last _

/-- The operations of `main_part2`, before those of `rest`. -/
def main_part2_ops (d : Dev nD) (rest : List (HloOp τ sig (Elt Ideal))) :
    {ops // Runs (main_part2 (F := Ideal) d) rest ops} := by
  apply Subtype.mk
  unfold main_part2
  iterate 17 apply runs_op
  apply runs_call (fn_where_5_ops ..).2
  iterate 4 apply runs_op
  apply runs_call (fn_where_5_ops ..).2
  iterate 6 apply runs_op
  apply runs_call (fn_where_5_ops ..).2
  iterate 6 apply runs_op
  apply runs_call (fn_where_5_ops ..).2
  iterate 4 apply runs_op
  apply runs_call (fn_where_5_ops ..).2
  iterate 4 apply runs_op
  apply runs_call (fn_where_5_ops ..).2
  iterate 6 apply runs_op
  apply runs_call (fn_where_5_ops ..).2
  iterate 5 apply runs_op
  exact runs_last _

/-- The operations of `main_part3`, before those of `rest`. -/
def main_part3_ops (d : Dev nD) (rest : List (HloOp τ sig (Elt Ideal))) :
    {ops // Runs (main_part3 (F := Ideal) d) rest ops} := by
  apply Subtype.mk
  unfold main_part3
  apply runs_call (fn_where_5_ops ..).2
  iterate 8 apply runs_op
  apply runs_call (fn_one_hot_ops ..).2
  iterate 7 apply runs_op
  exact runs_nil _

/-- The operations of `main`, before those of `rest`. -/
def main_ops (d : Dev nD) (rest : List (HloOp τ sig (Elt Ideal))) :
    {ops // Runs (main (F := Ideal) d) rest ops} := by
  apply Subtype.mk
  unfold main
  apply runs_call (main_part0_ops ..).2
  apply runs_call (main_part1_ops ..).2
  apply runs_call (main_part2_ops ..).2
  exact (main_part3_ops ..).2

end Cert.ReferenceIdeal.Run

end
-- ==== Proof.RefRun.lean ====
module

public import proofs.«01_k».proof.Proof.RefLine
public import proofs.«01_k».proof.Defs
public import Idealize.ShloMosaic.Lib.Quiescent
public import Idealize.ShloMosaic.Lib.StableHlo.RunRead

@[expose] public section

set_option maxRecDepth 65536
set_option maxHeartbeats 4000000

/-! The run of the reference: it ends, with every buffer holding what its operations leave in it. -/

noncomputable section

namespace Cert.ReferenceIdeal.Run

open Idealize.ShloMosaic Idealize.SL.Sem Idealize.ShloMosaic.StableHlo Idealize.ShloMosaic.TcCoe Cert.Line

/-- The operations of the reference, in order. -/
abbrev line (d : Dev nD) : List (HloOp τ sig (Elt Ideal)) := (main_ops d []).1

/-- What the buffers hold after the reference on device `d`, from the launch's memory. -/
abbrev out (m : (ℓ : Loc nD τ sig) → Buf (Elt Ideal) ℓ) (d : Dev nD) : Valuation τ sig (Elt Ideal) :=
  after (line d) (launchContents m d)

/-- Every run of the reference ends with each buffer holding what its operations leave in it. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = out m d (Proc.devRef .tc b) :=
  run_seq (by decide) (by decide) defs main line (fun d => (main_ops d []).2.eq_seq)
    (fun d => List.forall_iff_forall_mem.mpr fun op h => ((main_ops d []).2.2 (by simp) op h).1) m ρ
    (fun d op h => ((main_ops d []).2.2 (by simp) op h).2)

/-- The buffers the reference's operations write, in order: every buffer but the three arguments. -/
def written : List (Ref sig .tc) :=
  List.ofFn fun i : Fin 1041 => ⟨.hbm, ⟨i.1 + 3, by have := i.2; exact (by omega : i.1 + 3 < 1044)⟩, rfl⟩

/-- Each operation of the reference writes one buffer, and these are the buffers. -/
theorem line_writes (d : Dev nD) : (line d).Forall fun op => op.writes ⊆ (written.map (Proc.devRef (τ := τ) .tc)).toFinset :=
  forall_writes_sub_of_map rfl

/-- The reference writes none of its arguments. -/
theorem args_not_written : main_arg0 ∉ written ∧ main_arg1 ∉ written ∧ main_arg2 ∉ written := by decide +kernel

/-- The arguments hold after the reference what the launch put there. -/
theorem out_args (m : (ℓ : Loc nD τ sig) → Buf (Elt Ideal) ℓ) (d : Dev nD) :
    out m d (Proc.devRef .tc main_arg0) = m ((d.tc : Thread nD τ).loc main_arg0)
    ∧ out m d (Proc.devRef .tc main_arg1) = m ((d.tc : Thread nD τ).loc main_arg1)
    ∧ out m d (Proc.devRef .tc main_arg2) = m ((d.tc : Thread nD τ).loc main_arg2) :=
  ⟨after_of_writes_sub _ _ (line_writes d) args_not_written.1, after_of_writes_sub _ _ (line_writes d) args_not_written.2.1,
    after_of_writes_sub _ _ (line_writes d) args_not_written.2.2⟩

/-- The reference runs to the end from every memory and leaves its arguments as they were, all counters at zero. -/
theorem frame : Cert.quiescent_ReferenceIdeal := by
  unfold Cert.quiescent_ReferenceIdeal
  intro m ρ _
  exact θ_run_mono (run m ρ) fun r h => ⟨fun c => by
    obtain ⟨h0, h1, h2⟩ := out_args m c
    exact ⟨(h c main_arg0).trans h0, (h c main_arg1).trans h1, (h c main_arg2).trans h2⟩, sem_eq_zero_of_no_sems (by decide) _⟩

end Cert.ReferenceIdeal.Run

end
-- ==== Proof.Block.lean ====
/- What one block of a kernel call leaves in its two output buffers, as a function of the four
   input blocks. The four calls run the same body, so the one function serves them all. -/
module

public import proofs.«01_k».proof.Proof.Gen.KernelIdeal.Frame
public import Idealize.ShloMosaic.Lib.Pipeline.ValueKit

@[expose] public section

set_option maxRecDepth 65536

noncomputable section

namespace Cert.Block

open Idealize.ShloMosaic Idealize.ShloMosaic.TcCoe Cert.KernelIdeal Cert.KernelIdeal.Gen
open Idealize.ShloMosaic.Pipeline

/-- The boxes a block reads. -/
abbrev Boxes := Vec Ideal S1x4x40x128 .f32
/-- The ground-truth boxes a block reads. -/
abbrev Truths := Vec Ideal S1x4x100x1 .f32
/-- The labels a block reads. -/
abbrev Labels := Vec Ideal S1x100x1 .i32
/-- The draws a block reads. -/
abbrev Draws := Vec Ideal S1x40x128 .i32

variable (x0 : Boxes) (x1 : Truths) (x2 : Labels) (x3 : Draws)

/-- The boxes' top, one number a box. -/
def by1 : FVec Ideal S40x128 .f32 := k0_pay2 (View.ld x0 (Rect.unit ![0, 0, 0, 0] ![1, 1, 40, 128] inb_S1x4x40x128_S1x1x40x128_0_0_0_0))
/-- Their left. -/
def bx1 : FVec Ideal S40x128 .f32 := k0_pay3 (View.ld x0 (Rect.unit ![0, 1, 0, 0] ![1, 1, 40, 128] inb_S1x4x40x128_S1x1x40x128_0_1_0_0))
/-- Their bottom. -/
def by2 : FVec Ideal S40x128 .f32 := k0_pay4 (View.ld x0 (Rect.unit ![0, 2, 0, 0] ![1, 1, 40, 128] inb_S1x4x40x128_S1x1x40x128_0_2_0_0))
/-- Their right. -/
def bx2 : FVec Ideal S40x128 .f32 := k0_pay5 (View.ld x0 (Rect.unit ![0, 3, 0, 0] ![1, 1, 40, 128] inb_S1x4x40x128_S1x1x40x128_0_3_0_0))

/-- The ground-truth boxes' top, one number a box. -/
def gy1 : FVec Ideal S100x1x1 .f32 := k0_pay6 (View.ld x1 (Rect.unit ![0, 0, 0, 0] ![1, 1, 100, 1] inb_S1x4x100x1_S1x1x100x1_0_0_0_0))
/-- Their left. -/
def gx1 : FVec Ideal S100x1x1 .f32 := k0_pay7 (View.ld x1 (Rect.unit ![0, 1, 0, 0] ![1, 1, 100, 1] inb_S1x4x100x1_S1x1x100x1_0_1_0_0))
/-- Their bottom. -/
def gy2 : FVec Ideal S100x1x1 .f32 := k0_pay8 (View.ld x1 (Rect.unit ![0, 2, 0, 0] ![1, 1, 100, 1] inb_S1x4x100x1_S1x1x100x1_0_2_0_0))
/-- Their right. -/
def gx2 : FVec Ideal S100x1x1 .f32 := k0_pay9 (View.ld x1 (Rect.unit ![0, 3, 0, 0] ![1, 1, 100, 1] inb_S1x4x100x1_S1x1x100x1_0_3_0_0))
/-- Their heights. -/
def gh : FVec Ideal S100x1x1 .f32 := k0_pay11
  (View.ld x1 (Rect.unit ![0, 0, 0, 0] ![1, 1, 100, 1] inb_S1x4x100x1_S1x1x100x1_0_0_0_0))
  (View.ld x1 (Rect.unit ![0, 2, 0, 0] ![1, 1, 100, 1] inb_S1x4x100x1_S1x1x100x1_0_2_0_0))
/-- Their labels. -/
def gl : IVec S100x1x1 32 := k0_pay10 (F := Ideal) x2

/-- The overlap of each box with each ground-truth box. -/
def iou : FVec Ideal S100x40x128 .f32 :=
  k0_pay12 (by1 x0) (bx1 x0) (by2 x0) (bx2 x0) (gy1 x1) (gx1 x1) (gy2 x1) (gx2 x1) (gh x1)

/-- The largest overlap of each box. -/
def best : FVec Ideal S40x128 .f32 :=
  k0_pay13 (by1 x0) (bx1 x0) (by2 x0) (bx2 x0) (gy1 x1) (gx1 x1) (gy2 x1) (gx2 x1) (gh x1)

/-- Where a ground-truth box is the first one of the largest overlap. -/
def hit : IVec S100x40x128 1 :=
  k0_pay14 (by1 x0) (bx1 x0) (by2 x0) (bx2 x0) (gy1 x1) (gx1 x1) (gy2 x1) (gx2 x1) (gh x1)

/-- `hit` as numbers. -/
def hitF : FVec Ideal S100x40x128 .f32 :=
  k0_pay15 (by1 x0) (bx1 x0) (by2 x0) (bx2 x0) (gy1 x1) (gx1 x1) (gy2 x1) (gx2 x1) (gh x1)

/-- The bisection's bounds after its 24 steps. -/
def bounds (x3 : Draws) (b : FVec Ideal S40x128 .f32) : BitVec 32 × BitVec 32 :=
  Scf.fold (n := k0_t1_loop.trips)
    (fun _ a =>
      (Scalar.select (Scalar.cmpi .sge (extractAt ![0, 0, 0] (k0_pay21 b x3 a.1 a.2) inpos_S1x1x1_p0_0_0) 128#32)
        (Scalar.divsi (Scalar.addi (Scalar.addi a.1 a.2) 1#32) 2#32) a.1,
       Scalar.select (Scalar.cmpi .sge (extractAt ![0, 0, 0] (k0_pay21 b x3 a.1 a.2) inpos_S1x1x1_p0_0_0) 128#32)
        a.2 (Scalar.subi (Scalar.divsi (Scalar.addi (Scalar.addi a.1 a.2) 1#32) 2#32) 1#32)))
    (0#32, 10485759#32)

/-- Which boxes are picked. -/
def sel : IVec S40x128 1 := k0_pay22 (best x0 x1) x3 (bounds x3 (best x0 x1)).1

/-- The label of each box, −1 where it isn't picked. -/
def lab : IVec S40x128 32 := k0_pay27 (k0_pay19 (gl x2) (hit x0 x1)) (sel x0 x1 x3)

/-- The picked ground-truth box's coordinates, zero where the box isn't picked. -/
def ey1 : FVec Ideal S40x128 .f32 :=
  k0_pay23 (best x0 x1) (k0_pay16 (by1 x0) (bx1 x0) (by2 x0) (bx2 x0) (gy1 x1) (gx1 x1) (gy2 x1) (gx2 x1) (gh x1))
    x3 (bounds x3 (best x0 x1)).1
/-- Its left. -/
def ex1 : FVec Ideal S40x128 .f32 :=
  k0_pay24 (best x0 x1) (hitF x0 x1) (k0_pay17 (gx1 x1)) x3 (bounds x3 (best x0 x1)).1
/-- Its bottom. -/
def ey2 : FVec Ideal S40x128 .f32 :=
  k0_pay25 (gy2 x1) (best x0 x1) (hitF x0 x1) x3 (bounds x3 (best x0 x1)).1
/-- Its right, picked or not. -/
def gx2h : FVec Ideal S40x128 .f32 := k0_pay18 (gx2 x1) (hitF x0 x1)

/-- The first output's block: the four deltas, at the picked label. -/
def B4 : Vec Ideal S1x21x4x40x128 .f32 :=
  k0_pay39 (lab x0 x1 x2 x3)
    (k0_pay30 (gx2h x0 x1) (sel x0 x1 x3) (ex1 x0 x1 x3) k0_pay26)
    (k0_pay31 (ey1 x0 x1 x3) (ey2 x0 x1 x3))
    (k0_pay32 (bx1 x0) (bx2 x0)) (k0_pay33 (by1 x0) (by2 x0))
    (k0_pay34 (bx1 x0) (bx2 x0) (gx2h x0 x1) (sel x0 x1 x3) (ex1 x0 x1 x3) k0_pay26)
    (k0_pay35 (by1 x0) (by2 x0) (ey1 x0 x1 x3) (ey2 x0 x1 x3))
    (k0_pay36 (gx2h x0 x1) (sel x0 x1 x3) (ex1 x0 x1 x3) k0_pay26)
    (k0_pay37 (gx2h x0 x1) (sel x0 x1 x3) (ex1 x0 x1 x3) k0_pay26) k0_pay38

/-- The second output's block: the one-hot labels. -/
def B5 : Vec Ideal S1x21x40x128 .f32 := k0_pay1 (F := Ideal) (lab x0 x1 x2 x3) k0_pay40

variable (V : (c : Dev nD) → (b : Ref sig .tc) → Buf (Elt Ideal) ((c : Thread nD τ).loc b)) (c : Dev nD)

/-- Each call's point leaves the first output's block at `B4` of its input blocks. -/
theorem out4_0 (t : Fin cfg0.N) :
    (outsAt0 V c t).1 = B4 (iblk0 V c 0 t) (iblk0 V c 1 t) (iblk0 V c 2 t) (iblk0 V c 3 t) := by
  frame_out
  rfl

/-- Each call's point leaves the second output's block at `B5` of its input blocks. -/
theorem out5_0 (t : Fin cfg0.N) :
    (outsAt0 V c t).2 = B5 (iblk0 V c 0 t) (iblk0 V c 1 t) (iblk0 V c 2 t) (iblk0 V c 3 t) := by
  frame_out
  rfl

/-- The same of the second call. -/
theorem out4_1 (t : Fin cfg1.N) :
    (outsAt1 V c t).1 = B4 (iblk1 V c 0 t) (iblk1 V c 1 t) (iblk1 V c 2 t) (iblk1 V c 3 t) := by
  frame_out
  rfl

/-- And its second result. -/
theorem out5_1 (t : Fin cfg1.N) :
    (outsAt1 V c t).2 = B5 (iblk1 V c 0 t) (iblk1 V c 1 t) (iblk1 V c 2 t) (iblk1 V c 3 t) := by
  frame_out
  rfl

/-- The same of the third call. -/
theorem out4_2 (t : Fin cfg2.N) :
    (outsAt2 V c t).1 = B4 (iblk2 V c 0 t) (iblk2 V c 1 t) (iblk2 V c 2 t) (iblk2 V c 3 t) := by
  frame_out
  rfl

/-- And its second result. -/
theorem out5_2 (t : Fin cfg2.N) :
    (outsAt2 V c t).2 = B5 (iblk2 V c 0 t) (iblk2 V c 1 t) (iblk2 V c 2 t) (iblk2 V c 3 t) := by
  frame_out
  rfl

/-- The same of the fourth call. -/
theorem out4_3 (t : Fin cfg3.N) :
    (outsAt3 V c t).1 = B4 (iblk3 V c 0 t) (iblk3 V c 1 t) (iblk3 V c 2 t) (iblk3 V c 3 t) := by
  frame_out
  rfl

/-- And its second result. -/
theorem out5_3 (t : Fin cfg3.N) :
    (outsAt3 V c t).2 = B5 (iblk3 V c 0 t) (iblk3 V c 1 t) (iblk3 V c 2 t) (iblk3 V c 3 t) := by
  frame_out
  rfl

end Cert.Block

end
-- ==== Proof.Delta.lean ====
/- The numbers that both programs compute for a box and the ground-truth box taken for it: how far
   the centre is off, and how the size differs, along each axis. -/
module

public import Idealize.ShloMosaic.Lib.Pipeline.ValueKit

@[expose] public section

noncomputable section

namespace Cert.Delta

open Idealize.ShloMosaic

/-- An overlap: of the box `a`, from `a 0`, `a 1` to `a 2`, `a 3`, with the box `g`. -/
def overlap (a g : Fin 4 → EReal) : EReal :=
  Ideal.div
    (max (min (a 3) (g 3) - max (a 1) (g 1)) 0 * max (min (a 2) (g 2) - max (a 0) (g 0)) 0)
    ((a 2 - a 0) * (a 3 - a 1) + (g 2 - g 0) * (g 3 - g 1) -
        max (min (a 3) (g 3) - max (a 1) (g 1)) 0 * max (min (a 2) (g 2) - max (a 0) (g 0)) 0 +
      Ideal.ofBits FTy.f32 869711765#32)

/-- A box's extent to divide by: a thousandth where it is zero. -/
def extent (a b : EReal) : EReal := if b - a = 0 then Ideal.ofBits FTy.f32 981668463#32 else b - a

/-- How far the centre of the span from `g` to `h` is from that of the span from `a` to `b`; zero where `h` is `g`. -/
def shift (a b g h : EReal) : EReal :=
  if h - g = 0 then 0
  else Ideal.div (g + Ideal.ofBits FTy.f32 1056964608#32 * (h - g) - (a + Ideal.ofBits FTy.f32 1056964608#32 * (b - a)))
    (extent a b)

/-- The logarithm of the spans' quotient; zero where `h` is `g`. -/
def ratio (a b g h : EReal) : EReal :=
  if h - g = 0 then 0
  else Ideal.log (Ideal.div (if h - g = 0 then 1 else h - g) (extent a b))

/-- The four numbers of a box `a` and a ground-truth box `g`, each divided by its variance. -/
def delta (a g : Fin 4 → EReal) (k : Fin 4) : EReal :=
  match k with
  | 0 => Ideal.div (shift (a 0) (a 2) (g 0) (g 2)) (Ideal.ofBits FTy.f32 0x3DCCCCCD#32)
  | 1 => Ideal.div (shift (a 1) (a 3) (g 1) (g 3)) (Ideal.ofBits FTy.f32 0x3DCCCCCD#32)
  | 2 => Ideal.div (ratio (a 0) (a 2) (g 0) (g 2)) (Ideal.ofBits FTy.f32 0x3E4CCCCD#32)
  | 3 => Ideal.div (ratio (a 1) (a 3) (g 1) (g 3)) (Ideal.ofBits FTy.f32 0x3E4CCCCD#32)

end Cert.Delta

end
-- ==== Proof.First.lean ====
/- The first of the largest of a hundred numbers: what the kernel finds by a minimum of indices and
   the reference by one reduction of pairs. -/
module

public import proofs.«01_k».proof.ReferenceIdeal
public import Idealize.ShloMosaic.Lib.Pipeline.ValueKit

@[expose] public section

noncomputable section

namespace Cert.First

open Idealize.ShloMosaic Idealize.ShloMosaic.TcCoe

/-- `m` is the first index at which `f` is largest. -/
def IsFirst (f : Fin 100 → EReal) (m : Fin 100) : Prop := (∀ j, f j ≤ f m) ∧ ∀ j, j < m → f j < f m

/-- There is such an index. -/
theorem exists_first (f : Fin 100 → EReal) : ∃ m, IsFirst f m := by
  obtain ⟨t, -, ht⟩ := Finset.exists_max_image Finset.univ f ⟨0, Finset.mem_univ _⟩
  have hne : (Finset.univ.filter fun j => f j = f t).Nonempty := ⟨t, by simp⟩
  refine ⟨(Finset.univ.filter fun j => f j = f t).min' hne, ?_⟩
  have hm : f ((Finset.univ.filter fun j => f j = f t).min' hne) = f t := by
    have := Finset.min'_mem _ hne
    simpa using this
  refine ⟨fun j => by rw [hm]; exact ht j (Finset.mem_univ _), fun j hj => ?_⟩
  rw [hm]
  refine lt_of_le_of_ne (ht j (Finset.mem_univ _)) fun h => ?_
  exact absurd hj (not_lt.mpr (Finset.min'_le _ _ (by simpa using h)))

/-- The pattern of −∞ is the least number. -/
theorem bottom : Ideal.ofBits FTy.f32 4286578688#32 = ⊥ := by
  simp [Ideal.ofBits, Ideal.ieee]

/-- The largest number, by a fold of maxima. -/
theorem fold_max (f : Fin 100 → EReal) (m : Fin 100) (h : IsFirst f m) :
    Finset.fold max (Ideal.ofBits FTy.f32 4286578688#32) f Finset.univ = f m := by
  rw [bottom]
  refine le_antisymm ?_ ?_
  · rw [Finset.fold_max_le]
    exact ⟨bot_le, fun j _ => h.1 j⟩
  · rw [Finset.le_fold_max]
    exact Or.inr ⟨m, Finset.mem_univ _, le_refl _⟩

/-- A signed word's minimum is the minimum of the integers. -/
theorem toInt_minsi (x y : BitVec 32) : (IntOp.minsi x y).toInt = min x.toInt y.toInt := by
  unfold IntOp.minsi
  rw [BitVec.slt_eq_decide]
  by_cases h : x.toInt < y.toInt
  · rw [if_pos (by simpa using h), min_eq_left h.le]
  · rw [if_neg (by simpa using h), min_eq_right (not_lt.mp h)]

/-- A small number's word reads back as it. -/
theorem toInt_small (m : Fin 100) : (BitVec.ofNat 32 m.val).toInt = (m.val : ℤ) := by
  revert m; decide

/-- The first index, by a fold of minima over the indices at which the number is the largest. -/
theorem fold_min (f : Fin 100 → EReal) (m : Fin 100) (h : IsFirst f m) :
    Finset.fold IntOp.minsi (2147483647#32) (fun x : Fin 100 => if f x = f m then BitVec.ofNat 32 x.val else 100#32) Finset.univ
      = BitVec.ofNat 32 m.val := by
  have hh := Finset.fold_hom (op := IntOp.minsi (w := 32)) (op' := (min : ℤ → ℤ → ℤ)) (m := BitVec.toInt) toInt_minsi
    (s := Finset.univ) (f := fun x : Fin 100 => if f x = f m then BitVec.ofNat 32 x.val else 100#32) (b := 2147483647#32)
  refine BitVec.eq_of_toInt_eq (hh.symm.trans ?_)
  rw [toInt_small]
  refine le_antisymm ?_ ?_
  · rw [Finset.fold_min_le]
    exact Or.inr ⟨m, Finset.mem_univ _, by rw [if_pos rfl, toInt_small]⟩
  · rw [Finset.le_fold_min]
    refine ⟨?_, fun x _ => ?_⟩
    · have := m.isLt
      have e : (2147483647#32).toInt = 2147483647 := by decide
      rw [e]; omega
    · split
      · rename_i e
        rw [toInt_small]
        have : m ≤ x := not_lt.mp fun hx => (h.2 x hx).ne e
        exact_mod_cast this
      · have := m.isLt
        have e : (100#32).toInt = 100 := by decide
        rw [e]; omega

/-- One pair is at least as good as another: its number is larger, or as large with an index no larger. -/
def Beats (a b : EReal × BitVec 32) : Prop := b.1 < a.1 ∨ (a.1 = b.1 ∧ a.2.toInt ≤ b.2.toInt)

/-- A pair beats itself. -/
theorem Beats.refl (a : EReal × BitVec 32) : Beats a a := Or.inr ⟨rfl, le_refl _⟩

/-- What beats a beater beats what that one beats. -/
theorem Beats.trans {a b c : EReal × BitVec 32} (h : Beats a b) (h' : Beats b c) : Beats a c := by
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩

/-- Two pairs that beat each other are the same. -/
theorem Beats.antisymm {a b : EReal × BitVec 32} (h : Beats a b) (h' : Beats b a) : a = b := by
  rcases h with h | ⟨h, k⟩ <;> rcases h' with h' | ⟨h', k'⟩
  · exact absurd h (not_lt.mpr h'.le)
  · exact absurd h (by rw [h']; exact lt_irrefl _)
  · exact absurd h' (by rw [h]; exact lt_irrefl _)
  · exact Prod.ext h (BitVec.eq_of_toInt_eq (le_antisymm k k'))

/-- The reducer keeps one of its two pairs, one that beats both. -/
theorem reducer_spec (a b : EReal × BitVec 32) :
    (Cert.ReferenceIdeal.reducer_argmax_f32_i32 (F := Ideal) a b = a ∨ Cert.ReferenceIdeal.reducer_argmax_f32_i32 (F := Ideal) a b = b) ∧
      Beats (Cert.ReferenceIdeal.reducer_argmax_f32_i32 (F := Ideal) a b) a ∧
      Beats (Cert.ReferenceIdeal.reducer_argmax_f32_i32 (F := Ideal) a b) b := by
  have e : Cert.ReferenceIdeal.reducer_argmax_f32_i32 (F := Ideal) a b =
      (if b.1 < a.1 then a.1 else b.1, if b.1 < a.1 ∨ (a.1 = b.1 ∧ a.2.toInt < b.2.toInt) then a.2 else b.2) := by
    refine Prod.ext ?_ ?_
    · show (if (BitVec.ofBool (decide (b.1 < a.1)) ||| BitVec.ofBool (decide (¬ a.1 = a.1))) = 1#1 then a.1 else b.1) = _
      by_cases h : b.1 < a.1 <;> simp [h]
    · show (if ((BitVec.ofBool (decide (b.1 < a.1)) ||| BitVec.ofBool (decide (¬ a.1 = a.1))) |||
        (BitVec.ofBool (decide (a.1 = b.1)) &&& BitVec.ofBool (a.2.slt b.2))) = 1#1 then a.2 else b.2) = _
      rw [BitVec.slt_eq_decide]
      by_cases h : b.1 < a.1 <;> by_cases h' : a.1 = b.1 <;> by_cases h'' : a.2.toInt < b.2.toInt <;> simp [h, h', h'']
  rw [e]
  by_cases h : b.1 < a.1
  · rw [if_pos h, if_pos (Or.inl h)]
    exact ⟨Or.inl rfl, Beats.refl a, Or.inl h⟩
  · rw [if_neg h]
    by_cases h' : a.1 = b.1 ∧ a.2.toInt < b.2.toInt
    · rw [if_pos (Or.inr h'), ← h'.1]
      exact ⟨Or.inl rfl, Beats.refl a, Or.inr ⟨h'.1, h'.2.le⟩⟩
    · rw [if_neg (by rintro (k | k); exacts [h k, h' k])]
      refine ⟨Or.inr rfl, ?_, Beats.refl b⟩
      rcases lt_or_eq_of_le (not_lt.mp h) with k | k
      · exact Or.inl k
      · exact Or.inr ⟨k.symm, not_lt.mp fun q => h' ⟨k, q⟩⟩

/-- What the reducer leaves of a list of pairs: the start or a pair of the list, and it beats them all. -/
theorem foldl_spec (L : List (EReal × BitVec 32)) (a : EReal × BitVec 32) :
    (L.foldl (Cert.ReferenceIdeal.reducer_argmax_f32_i32 (F := Ideal)) a = a ∨ L.foldl (Cert.ReferenceIdeal.reducer_argmax_f32_i32 (F := Ideal)) a ∈ L) ∧
      Beats (L.foldl (Cert.ReferenceIdeal.reducer_argmax_f32_i32 (F := Ideal)) a) a ∧
      ∀ b ∈ L, Beats (L.foldl (Cert.ReferenceIdeal.reducer_argmax_f32_i32 (F := Ideal)) a) b := by
  induction L generalizing a with
  | nil => exact ⟨Or.inl rfl, Beats.refl a, fun b hb => absurd hb List.not_mem_nil⟩
  | cons b L ih =>
    obtain ⟨h1, h2, h3⟩ := ih (Cert.ReferenceIdeal.reducer_argmax_f32_i32 (F := Ideal) a b)
    obtain ⟨k1, k2, k3⟩ := reducer_spec a b
    rw [List.foldl_cons]
    refine ⟨?_, h2.trans k2, fun x hx => ?_⟩
    · rcases h1 with h1 | h1
      · rw [h1]
        rcases k1 with k1 | k1
        · exact Or.inl k1
        · exact Or.inr (by rw [k1]; exact List.mem_cons_self)
      · exact Or.inr (List.mem_cons_of_mem _ h1)
    · rcases List.mem_cons.mp hx with rfl | hx
      · exact h2.trans k3
      · exact h3 x hx

/-- The reference's reduction of pairs of a number and its index leaves the first index of the largest number. -/
theorem argmax_at (X : FVec Ideal Cert.ReferenceIdeal.S16x5000x100 .f32) (n : Fin 16) (p : Fin 5000) (m : Fin 100)
    (h : IsFirst (fun j => X (ix3 n p j)) m)
    (hr : Cert.ReferenceIdeal.S16x5000x100.ReducesTo [2] Cert.ReferenceIdeal.S16x5000) (hu : 0 < Cert.ReferenceIdeal.S_.numel) :
    (Host.argReduce Cert.ReferenceIdeal.reducer_argmax_f32_i32 X (iotaInDim Cert.ReferenceIdeal.S16x5000x100 32 2)
      (constant (F := Ideal) Cert.ReferenceIdeal.S_ .f32 0xFF800000#32) (constantI Cert.ReferenceIdeal.S_ 32 0#32) hr hu (ix2 n p)).2
      = BitVec.ofNat 32 m.val := by
  rw [Ideal.argReduce_eq_reduce2, Host.reduce2_eq_foldl_fiber]
  have hmem : ∀ q, q ∈ Host.argReduceFiber X (iotaInDim Cert.ReferenceIdeal.S16x5000x100 32 2) hr (ix2 n p) ↔
      ∃ j : Fin 100, q = (X (ix3 n p j), BitVec.ofNat 32 j.val) := by
    intro q
    unfold Host.argReduceFiber
    rw [List.mem_map]
    constructor
    · rintro ⟨i, hi, rfl⟩
      have hd := of_decide_eq_true (List.mem_filter.mp hi).2
      generalize Cert.ReferenceIdeal.S16x5000x100.rowMajor.symm i = w at hd
      have h0 : (w 0).val = n.val := (hr.drop_apply_val_of_eq w 0 0 (by decide) rfl).symm.trans (congrArg (fun z => (z 0).val) hd)
      have h1 : (w 1).val = p.val := (hr.drop_apply_val_of_eq w 1 1 (by decide) rfl).symm.trans (congrArg (fun z => (z 1).val) hd)
      have hw : w = ix3 n p (w 2) := by
        funext a
        match a with
        | ⟨0, _⟩ => exact Fin.ext h0
        | ⟨1, _⟩ => exact Fin.ext h1
        | ⟨2, _⟩ => rfl
      exact ⟨w 2, Prod.ext (congrArg X hw) rfl⟩
    · rintro ⟨j, rfl⟩
      refine ⟨Cert.ReferenceIdeal.S16x5000x100.rowMajor (ix3 n p j), List.mem_filter.mpr ⟨List.mem_finRange _, decide_eq_true ?_⟩, ?_⟩
      · rw [Equiv.symm_apply_apply]
        funext a
        match a with
        | ⟨0, _⟩ => exact Fin.ext (hr.drop_apply_val_of_eq _ 0 0 (by decide) rfl)
        | ⟨1, _⟩ => exact Fin.ext (hr.drop_apply_val_of_eq _ 1 1 (by decide) rfl)
      · rw [Equiv.symm_apply_apply]
        rfl
  have hin : (constant (F := Ideal) Cert.ReferenceIdeal.S_ .f32 0xFF800000#32 (Shape.Idx.first hu),
      constantI Cert.ReferenceIdeal.S_ 32 0#32 (Shape.Idx.first hu)) = ((⊥ : EReal), 0#32) := Prod.ext bottom rfl
  rw [hin]
  obtain ⟨h1, h2, h3⟩ := foldl_spec (Host.argReduceFiber X (iotaInDim Cert.ReferenceIdeal.S16x5000x100 32 2) hr (ix2 n p)) ((⊥ : EReal), 0#32)
  have best : ∀ j : Fin 100, Beats (X (ix3 n p m), BitVec.ofNat 32 m.val) (X (ix3 n p j), BitVec.ofNat 32 j.val) := by
    intro j
    by_cases hj : j < m
    · exact Or.inl (h.2 j hj)
    · rcases lt_or_eq_of_le (h.1 j) with k | k
      · exact Or.inl k
      · refine Or.inr ⟨k.symm, ?_⟩
        show (BitVec.ofNat 32 m.val).toInt ≤ (BitVec.ofNat 32 j.val).toInt
        rw [toInt_small, toInt_small]
        exact_mod_cast not_lt.mp hj
  have start : Beats (X (ix3 n p m), BitVec.ofNat 32 m.val) ((⊥ : EReal), 0#32) := by
    by_cases hb : X (ix3 n p m) = ⊥
    · have hm : m = 0 := by
        by_contra hm
        have := h.2 0 (Fin.pos_of_ne_zero hm)
        exact absurd (this.trans_eq hb) not_lt_bot
      exact Or.inr ⟨hb, by rw [hm]; exact le_refl _⟩
    · exact Or.inl (bot_lt_iff_ne_bot.mpr hb)
  have hk := h3 _ ((hmem _).mpr ⟨m, rfl⟩)
  have hk' : Beats (X (ix3 n p m), BitVec.ofNat 32 m.val) ((Host.argReduceFiber X (iotaInDim Cert.ReferenceIdeal.S16x5000x100 32 2) hr (ix2 n p)).foldl
      (Cert.ReferenceIdeal.reducer_argmax_f32_i32 (F := Ideal)) ((⊥ : EReal), 0#32)) := by
    rcases h1 with h1 | h1
    · rw [h1]; exact start
    · obtain ⟨j, hj⟩ := (hmem _).mp h1
      rw [hj]; exact best j
  exact congrArg Prod.snd (Beats.antisymm hk hk')

end Cert.First

end
-- ==== Proof.Bisect.lean ====
/- The bisection: twenty-four halvings of the interval of keys find a bound such that the keys from
   it on are those with fewer than 128 keys above them. -/
module

public import Idealize.ShloMosaic.Lib.Affine
public import Idealize.ShloMosaic.Lib.Pipeline.ValueKit

@[expose] public section

namespace Cert.Bisect

open Idealize.ShloMosaic

/-- One halving, on integers: the count of keys from the middle on decides which half is kept. -/
def step (cnt : ℤ → ℕ) (a : ℤ × ℤ) : ℤ × ℤ :=
  if 128 ≤ cnt ((a.1 + a.2 + 1) / 2) then ((a.1 + a.2 + 1) / 2, a.2) else (a.1, (a.1 + a.2 + 1) / 2 - 1)

/-- What holds of the bounds after any number of halvings, the interval no longer than `w`. -/
def Inv (cnt : ℤ → ℕ) (w : ℤ) (a : ℤ × ℤ) : Prop :=
  0 ≤ a.1 ∧ a.1 - 1 ≤ a.2 ∧ a.2 ≤ 10485759 ∧ a.2 - a.1 ≤ w ∧ (a.1 = 0 ∨ 128 ≤ cnt a.1) ∧ cnt (a.2 + 1) < 128

/-- A halving keeps this, the interval cut to half of it. -/
theorem step_inv (cnt : ℤ → ℕ) {w v : ℤ} (hv : 0 ≤ v) (hw : w ≤ 2 * v + 1) {a : ℤ × ℤ} (h : Inv cnt w a) : Inv cnt v (step cnt a) := by
  obtain ⟨h1, h2, h3, h4, h5, h6⟩ := h
  unfold step
  by_cases hc : 128 ≤ cnt ((a.1 + a.2 + 1) / 2)
  · rw [if_pos hc]
    have hne : a.1 - 1 ≠ a.2 := fun e => by
      rw [show (a.1 + a.2 + 1) / 2 = a.2 + 1 by omega] at hc
      omega
    refine ⟨?_, ?_, ?_, ?_, Or.inr hc, h6⟩ <;> simp only <;> omega
  · rw [if_neg hc]
    refine ⟨h1, ?_, ?_, ?_, h5, ?_⟩
    · simp only; omega
    · simp only; omega
    · simp only; omega
    · simp only [Int.sub_add_cancel]; omega

/-- One halving, on words. -/
def wstep (cw : BitVec 32 → BitVec 32) (a : BitVec 32 × BitVec 32) : BitVec 32 × BitVec 32 :=
  (Scalar.select (Scalar.cmpi .sge (cw (Scalar.divsi (Scalar.addi (Scalar.addi a.1 a.2) 1#32) 2#32)) 128#32)
      (Scalar.divsi (Scalar.addi (Scalar.addi a.1 a.2) 1#32) 2#32) a.1,
    Scalar.select (Scalar.cmpi .sge (cw (Scalar.divsi (Scalar.addi (Scalar.addi a.1 a.2) 1#32) 2#32)) 128#32)
      a.2 (Scalar.subi (Scalar.divsi (Scalar.addi (Scalar.addi a.1 a.2) 1#32) 2#32) 1#32))

/-- Whether a signed word is at least another, as a bit. -/
theorem sge_bit (x y : BitVec 32) : Scalar.cmpi .sge x y = BitVec.ofBool (decide (y.toInt ≤ x.toInt)) := by
  show BitVec.ofBool (y.sle x) = _
  rw [BitVec.sle_eq_decide]

/-- The integer a word is read as. -/
theorem toInt_of {x : BitVec 32} {e : ℤ} (h : Affine.IsInt x e) : x.toInt = e := by
  unfold Affine.IsInt at h
  exact h

/-- A word is read as its integer. -/
theorem is_toInt (x : BitVec 32) : Affine.IsInt x x.toInt := by
  unfold Affine.IsInt
  rfl

/-- The words' halving is the integers'. -/
theorem wstep_eq (cw : BitVec 32 → BitVec 32) (cnt : ℤ → ℕ) (hcw : ∀ x, (cw x).toInt = (cnt x.toInt : ℤ)) {w : ℤ}
    (a : BitVec 32 × BitVec 32) (h : Inv cnt w (a.1.toInt, a.2.toInt)) :
    ((wstep cw a).1.toInt, (wstep cw a).2.toInt) = step cnt (a.1.toInt, a.2.toInt) := by
  obtain ⟨h1, h2, h3, -, -, -⟩ := h
  simp only at h1 h2 h3
  have i1 : Affine.IsInt a.1 a.1.toInt := is_toInt _
  have i2 : Affine.IsInt a.2 a.2.toInt := is_toInt _
  have i3 : Affine.IsInt (Scalar.addi a.1 a.2) (a.1.toInt + a.2.toInt) := Affine.addi i1 i2 ⟨rfl, by omega, by omega⟩
  have i4 : Affine.IsInt (Scalar.addi (Scalar.addi a.1 a.2) 1#32) (a.1.toInt + a.2.toInt + 1) :=
    Affine.addi i3 (Affine.ofNat 1 ⟨rfl, by omega⟩) ⟨rfl, by omega, by omega⟩
  have i5 : Affine.IsInt (Scalar.divsi (Scalar.addi (Scalar.addi a.1 a.2) 1#32) 2#32) ((a.1.toInt + a.2.toInt + 1) / 2) :=
    Affine.divsi i4 (Affine.ofNat 2 ⟨rfl, by omega⟩) ⟨rfl, by omega, by omega⟩
  have i6 : Affine.IsInt (Scalar.subi (Scalar.divsi (Scalar.addi (Scalar.addi a.1 a.2) 1#32) 2#32) 1#32)
      ((a.1.toInt + a.2.toInt + 1) / 2 - 1) := Affine.subi i5 (Affine.ofNat 1 ⟨rfl, by omega⟩) ⟨rfl, by omega, by omega⟩
  unfold wstep step
  rw [sge_bit, hcw, toInt_of i5]
  by_cases hc : 128 ≤ cnt ((a.1.toInt + a.2.toInt + 1) / 2)
  · have e : decide ((128#32 : BitVec 32).toInt ≤ (cnt ((a.1.toInt + a.2.toInt + 1) / 2) : ℤ)) = true := by
      rw [decide_eq_true_eq, show (128#32 : BitVec 32).toInt = 128 by decide]; omega
    rw [e, if_pos hc]
    exact Prod.ext (toInt_of i5) rfl
  · have e : decide ((128#32 : BitVec 32).toInt ≤ (cnt ((a.1.toInt + a.2.toInt + 1) / 2) : ℤ)) = false := by
      rw [decide_eq_false_iff_not, show (128#32 : BitVec 32).toInt = 128 by decide]; omega
    rw [e, if_neg hc]
    exact Prod.ext rfl (toInt_of i6)

/-- As many halvings as halve the interval away. -/
theorem foldl_inv {ι : Type} (cw : BitVec 32 → BitVec 32) (cnt : ℤ → ℕ) (hcw : ∀ x, (cw x).toInt = (cnt x.toInt : ℤ)) (L : List ι)
    (a : BitVec 32 × BitVec 32) {w : ℤ} (hw : w ≤ 2 ^ L.length - 1) (h : Inv cnt w (a.1.toInt, a.2.toInt)) :
    Inv cnt 0 ((L.foldl (fun a _ => wstep cw a) a).1.toInt, (L.foldl (fun a _ => wstep cw a) a).2.toInt) := by
  induction L generalizing a w with
  | nil =>
    obtain ⟨h1, h2, h3, h4, h5, h6⟩ := h
    simp only [List.length_nil, pow_zero] at hw
    exact (⟨h1, h2, h3, by omega, h5, h6⟩ : Inv cnt 0 (a.1.toInt, a.2.toInt))
  | cons x L ih =>
    have hp : (0 : ℤ) < 2 ^ L.length := by positivity
    refine ih (wstep cw a) (le_refl (2 ^ L.length - 1)) ?_
    rw [wstep_eq cw cnt hcw a h]
    refine step_inv cnt (by omega) ?_ h
    rw [List.length_cons, pow_succ] at hw
    omega

/-- After twenty-four halvings, a nonnegative key is at least the lower bound when fewer than 128 keys are above it. -/
theorem bound_spec (cw : BitVec 32 → BitVec 32) (cnt : ℤ → ℕ) (hcw : ∀ x, (cw x).toInt = (cnt x.toInt : ℤ))
    (hmono : ∀ s t, s ≤ t → cnt t ≤ cnt s) (htop : cnt 10485760 < 128) (lo : BitVec 32)
    (hlo : lo = ((List.finRange 24).foldl (fun a _ => wstep cw a) (0#32, 10485759#32)).1) (k : ℤ) :
    0 ≤ lo.toInt ∧ (0 ≤ k → (lo.toInt ≤ k ↔ cnt (k + 1) < 128)) := by
  have h := foldl_inv cw cnt hcw (List.finRange 24) (0#32, 10485759#32) (w := 10485759) (by rw [List.length_finRange]; norm_num)
    ⟨by decide, by decide, by decide, by decide, Or.inl (by decide), by
      have e : (10485759#32 : BitVec 32).toInt = 10485759 := by decide
      simp only [e]; exact htop⟩
  rw [← hlo] at h
  obtain ⟨h1, h2, h3, h4, h5, h6⟩ := h
  simp only at h1 h2 h3 h4 h5 h6
  refine ⟨h1, fun hk => ⟨fun hle => ?_, fun hc => ?_⟩⟩
  · exact lt_of_le_of_lt (hmono _ _ (by omega)) h6
  · by_contra hlt
    rcases h5 with h5 | h5
    · omega
    · have := hmono (k + 1) lo.toInt (by omega)
      omega

variable {ι : Type} [Fintype ι]

/-- How many keys are at least `t`. -/
def count (key : ι → BitVec 32) (t : ℤ) : ℕ := (Finset.univ.filter fun x => t ≤ (key x).toInt).card

/-- The count of keys, by a sum of bits, as a word. -/
theorem count_word (key : ι → BitVec 32) (hι : Fintype.card ι < 2 ^ 31) (t : BitVec 32) :
    (Finset.fold IntOp.addi (0#32) (fun x => BitVec.setWidth 32 (IntOp.cmpi .sge (key x) t)) Finset.univ).toInt
      = (count key t.toInt : ℤ) := by
  have hs : ∀ s : Finset ι, Finset.fold IntOp.addi (0#32) (fun x => BitVec.setWidth 32 (IntOp.cmpi .sge (key x) t)) s =
      BitVec.ofNat 32 (s.filter fun x => t.toInt ≤ (key x).toInt).card := by
    classical
    intro s
    induction s using Finset.induction_on with
    | empty => rfl
    | insert a s ha ih =>
      rw [Finset.fold_insert ha, ih, Finset.filter_insert]
      have hb : IntOp.cmpi .sge (key a) t = BitVec.ofBool (decide (t.toInt ≤ (key a).toInt)) := sge_bit _ _
      rw [hb]
      by_cases h : t.toInt ≤ (key a).toInt
      · rw [if_pos h, Finset.card_insert_of_notMem (by simp [ha]), decide_eq_true h]
        show BitVec.setWidth 32 (BitVec.ofBool true) + BitVec.ofNat 32 _ = _
        apply BitVec.eq_of_toNat_eq
        simp [BitVec.toNat_add, Nat.add_comm]
      · rw [if_neg h, decide_eq_false h]
        show BitVec.setWidth 32 (BitVec.ofBool false) + BitVec.ofNat 32 _ = _
        simp
  rw [hs]
  have hle : (Finset.univ.filter fun x => t.toInt ≤ (key x).toInt).card < 2 ^ 31 :=
    lt_of_le_of_lt (Finset.card_le_univ _) hι
  exact toInt_of (Affine.ofNat _ ⟨rfl, hle⟩)

/-- Fewer keys are at least a larger number. -/
theorem count_mono (key : ι → BitVec 32) (s t : ℤ) (h : s ≤ t) : count key t ≤ count key s :=
  Finset.card_le_card fun x hx => by
    simp only [Finset.mem_filter, Finset.mem_univ, true_and] at hx ⊢
    omega

end Cert.Bisect
-- ==== Proof.BlockValue.lean ====
/- A block's outputs, point by point: what the payloads' arrays hold at one box. -/
module

public import proofs.«01_k».proof.Proof.Block
public import proofs.«01_k».proof.Proof.Delta
public import proofs.«01_k».proof.Proof.First
public import proofs.«01_k».proof.Proof.Bisect

@[expose] public section

set_option maxRecDepth 65536
set_option maxHeartbeats 4000000

noncomputable section

namespace Cert.Block

open Idealize.ShloMosaic Idealize.ShloMosaic.TcCoe Cert.KernelIdeal Cert.KernelIdeal.Gen
open Idealize.ShloMosaic.Pipeline

variable (x0 : Boxes) (x1 : Truths) (x2 : Labels) (x3 : Draws) (r : Fin 40) (l : Fin 128) (m : Fin 100) (c : Fin 21)

/-- A sum of words of which one alone isn't zero. -/
theorem fold_one (m : Fin 100) (f : Fin 100 → BitVec 32) (h : ∀ x, x ≠ m → f x = 0#32) :
    Finset.fold IntOp.addi (0#32) f Finset.univ = f m := by
  have hs : ∀ s : Finset (Fin 100), Finset.fold IntOp.addi (0#32) f s = if m ∈ s then f m else 0#32 := by
    intro s
    induction s using Finset.induction_on with
    | empty => rfl
    | insert a s ha ih =>
      rw [Finset.fold_insert ha, ih]
      show f a + _ = _
      by_cases e : a = m
      · subst e
        rw [if_neg ha, if_pos (Finset.mem_insert_self _ _)]
        exact BitVec.add_zero _
      · rw [h a e, BitVec.zero_add]
        simp [Finset.mem_insert, Ne.symm e]
  rw [hs, if_pos (Finset.mem_univ m)]

/-- The overlap of a box and a ground-truth box. -/
theorem iou_at (j : Fin 100) : iou x0 x1 (ix3 j r l) =
    Delta.overlap (fun q => x0 (ix4 0 q r l)) (fun q => x1 (ix4 0 q j 0)) := by
  pointwise [iou, by1, bx1, by2, bx2, gy1, gx1, gy2, gx2, gh, k0_pay12, k0_pay2, k0_pay3, k0_pay4, k0_pay5, k0_pay6, k0_pay7,
    k0_pay8, k0_pay9, k0_pay11]
  rfl

/-- The largest overlap of a box. -/
theorem best_at : best x0 x1 (ix2 r l) =
    Finset.fold max (Ideal.ofBits FTy.f32 4286578688#32) (fun j => iou x0 x1 (ix3 j r l)) Finset.univ := by
  pointwise [best, k0_pay13]
  rfl

/-- Where the first one of the largest overlap is. -/
theorem hit_at (j : Fin 100) : hit x0 x1 (ix3 j r l) =
    IntOp.cmpi .eq (Finset.fold IntOp.minsi (2147483647#32)
      (fun x => if iou x0 x1 (ix3 x r l) = best x0 x1 (ix2 r l) then BitVec.ofNat 32 x.val else 100#32) Finset.univ)
      (BitVec.ofNat 32 j.val) := by
  pointwise [hit, k0_pay14]
  rfl

/-- The same as numbers. -/
theorem hitF_at (j : Fin 100) : hitF x0 x1 (ix3 j r l) = FloatOps.sitofp FTy.f32 (BitVec.setWidth 32 (hit x0 x1 (ix3 j r l))) := by
  pointwise [hitF, k0_pay15]
  rfl

section

variable (B : FVec Ideal S40x128 .f32) (K : FVec Ideal S40x128 .f32) (H : FVec Ideal S100x40x128 .f32) (L : BitVec 32)

/-- The payloads that pick a coordinate, each at a point. -/
theorem pay23_at : k0_pay23 B K x3 L (ix2 r l) = (Scalar.select (k0_pay22 B x3 L (ix2 r l)) (K (ix2 r l)) 0 : EReal) := by
  pointwise [k0_pay23]

/-- The left, where the box is picked. -/
theorem pay24_at : k0_pay24 B H (k0_pay17 (gx1 x1)) x3 L (ix2 r l) =
    (Scalar.select (k0_pay22 B x3 L (ix2 r l)) (∑ x, H (ix3 x r l) * x1 (ix4 0 1 x 0)) 0 : EReal) := by
  pointwise [k0_pay24, k0_pay17, gx1, k0_pay7]

/-- The bottom, where the box is picked. -/
theorem pay25_at : k0_pay25 (gy2 x1) B H x3 L (ix2 r l) =
    (Scalar.select (k0_pay22 B x3 L (ix2 r l)) (∑ x, H (ix3 x r l) * x1 (ix4 0 2 x 0)) 0 : EReal) := by
  pointwise [k0_pay25, gy2, k0_pay8]

/-- The right, by a sum over the ground-truth boxes. -/
theorem pay18_at : k0_pay18 (gx2 x1) H (ix2 r l) = ∑ x, H (ix3 x r l) * x1 (ix4 0 3 x 0) := by
  pointwise [k0_pay18, gx2, k0_pay9]

/-- The top, by such a sum. -/
theorem pay18_top : k0_pay18 (gy1 x1) H (ix2 r l) = ∑ x, H (ix3 x r l) * x1 (ix4 0 0 x 0) := by
  pointwise [k0_pay18, gy1, k0_pay6]

/-- The label, where the box is picked. -/
theorem pay27_at (S : IVec S40x128 1) (H : IVec S100x40x128 1) : k0_pay27 (k0_pay19 (gl x2) H) S (ix2 r l) = Scalar.select (S (ix2 r l))
      (Finset.fold IntOp.addi (0#32) (fun x => IntOp.muli (BitVec.setWidth 32 (H (ix3 x r l))) (x2 (ix3 0 x 0)))
        Finset.univ) 4294967295#32 := by
  pointwise [k0_pay27, k0_pay19, gl, k0_pay10]

end

section

variable (hm : First.IsFirst (fun j => Delta.overlap (fun q => x0 (ix4 0 q r l)) (fun q => x1 (ix4 0 q j 0))) m)
include hm

/-- The largest overlap is the first largest one's. -/
theorem best_eq : best x0 x1 (ix2 r l) = Delta.overlap (fun q => x0 (ix4 0 q r l)) (fun q => x1 (ix4 0 q m 0)) := by
  rw [best_at]
  simp only [iou_at]
  exact First.fold_max _ m hm

/-- The first largest overlap is at `m` and nowhere else. -/
theorem hit_eq (j : Fin 100) : hit x0 x1 (ix3 j r l) = BitVec.ofBool (decide (j = m)) := by
  rw [hit_at, best_eq x0 x1 r l m hm]
  simp only [iou_at]
  rw [First.fold_min (fun j => Delta.overlap (fun q => x0 (ix4 0 q r l)) (fun q => x1 (ix4 0 q j 0))) m hm]
  show BitVec.ofBool (BitVec.ofNat 32 m.val == BitVec.ofNat 32 j.val) = _
  congr 1
  clear hm
  have e : (BitVec.ofNat 32 m.val = BitVec.ofNat 32 j.val) ↔ j = m := by
    rw [← BitVec.toNat_inj, BitVec.toNat_ofNat, BitVec.toNat_ofNat, Nat.mod_eq_of_lt (by omega), Nat.mod_eq_of_lt (by omega), Fin.ext_iff]
    exact eq_comm
  rw [beq_eq_decide]
  exact decide_eq_decide.mpr e

/-- As a number: one there and zero elsewhere. -/
theorem hitF_eq (j : Fin 100) : hitF x0 x1 (ix3 j r l) = if j = m then (1 : EReal) else 0 := by
  rw [hitF_at, hit_eq x0 x1 r l m hm]
  by_cases h : j = m
  · rw [if_pos h, decide_eq_true h]
    show (((BitVec.setWidth 32 (BitVec.ofBool true)).toInt : ℝ) : EReal) = 1
    rw [show (BitVec.setWidth 32 (BitVec.ofBool true)).toInt = 1 by decide]
    simp
  · rw [if_neg h, decide_eq_false h]
    show (((BitVec.setWidth 32 (BitVec.ofBool false)).toInt : ℝ) : EReal) = 0
    rw [show (BitVec.setWidth 32 (BitVec.ofBool false)).toInt = 0 by decide]
    simp

/-- A sum of numbers, one of them chosen. -/
theorem sum_eq (g : Fin 100 → EReal) : (∑ x, hitF x0 x1 (ix3 x r l) * g x) = g m := by
  rw [Finset.sum_eq_single m]
  · rw [hitF_eq x0 x1 r l m hm, if_pos rfl, one_mul]
  · intro b _ hb
    rw [hitF_eq x0 x1 r l m hm, if_neg hb, zero_mul]
  · intro h
    exact absurd (Finset.mem_univ m) h

/-- The picked ground-truth box's top. -/
theorem ey1_at : ey1 x0 x1 x3 (ix2 r l) = (Scalar.select (sel x0 x1 x3 (ix2 r l)) (x1 (ix4 0 0 m 0)) 0 : EReal) := by
  have h : k0_pay16 (by1 x0) (bx1 x0) (by2 x0) (bx2 x0) (gy1 x1) (gx1 x1) (gy2 x1) (gx2 x1) (gh x1) =
      k0_pay18 (gy1 x1) (hitF x0 x1) := rfl
  unfold ey1
  rw [pay23_at, h, pay18_top, sum_eq x0 x1 r l m hm (fun x => x1 (ix4 0 0 x 0))]
  rfl

/-- Its left. -/
theorem ex1_at : ex1 x0 x1 x3 (ix2 r l) = (Scalar.select (sel x0 x1 x3 (ix2 r l)) (x1 (ix4 0 1 m 0)) 0 : EReal) := by
  unfold ex1
  rw [pay24_at, sum_eq x0 x1 r l m hm (fun x => x1 (ix4 0 1 x 0))]
  rfl

/-- Its bottom. -/
theorem ey2_at : ey2 x0 x1 x3 (ix2 r l) = (Scalar.select (sel x0 x1 x3 (ix2 r l)) (x1 (ix4 0 2 m 0)) 0 : EReal) := by
  unfold ey2
  rw [pay25_at, sum_eq x0 x1 r l m hm (fun x => x1 (ix4 0 2 x 0))]
  rfl

/-- Its right, picked or not. -/
theorem gx2h_at : gx2h x0 x1 (ix2 r l) = x1 (ix4 0 3 m 0) := by
  unfold gx2h
  rw [pay18_at, sum_eq x0 x1 r l m hm (fun x => x1 (ix4 0 3 x 0))]

/-- The label, −1 where the box isn't picked. -/
theorem lab_at : lab x0 x1 x2 x3 (ix2 r l) = Scalar.select (sel x0 x1 x3 (ix2 r l)) (x2 (ix3 0 m 0)) 4294967295#32 := by
  unfold lab
  rw [pay27_at]
  refine congrArg (fun z => Scalar.select (sel x0 x1 x3 (ix2 r l)) z 4294967295#32) ?_
  rw [fold_one m (fun x => IntOp.muli (BitVec.setWidth 32 (hit x0 x1 (ix3 x r l))) (x2 (ix3 0 x 0))) fun x hx => ?_]
  · show IntOp.muli (BitVec.setWidth 32 (hit x0 x1 (ix3 m r l))) (x2 (ix3 0 m 0)) = _
    rw [hit_eq x0 x1 r l m hm, decide_eq_true rfl]
    exact BitVec.one_mul _
  · show IntOp.muli (BitVec.setWidth 32 (hit x0 x1 (ix3 x r l))) (x2 (ix3 0 x 0)) = _
    rw [hit_eq x0 x1 r l m hm, decide_eq_false hx]
    exact BitVec.zero_mul

end

/-- The first output's block at a point, of the picked box's coordinates. -/
theorem B4_of (k : Fin 4) : B4 x0 x1 x2 x3 (ix5 0 c k r l) =
    (Scalar.select (IntOp.cmpi .eq (lab x0 x1 x2 x3 (ix2 r l)) (BitVec.ofNat 32 c.val))
      (Delta.delta (fun q => x0 (ix4 0 q r l))
        ![ey1 x0 x1 x3 (ix2 r l), ex1 x0 x1 x3 (ix2 r l), ey2 x0 x1 x3 (ix2 r l),
          Scalar.select (sel x0 x1 x3 (ix2 r l)) (gx2h x0 x1 (ix2 r l)) 0] k) 0 : EReal) := by
  generalize hl : lab x0 x1 x2 x3 = L
  generalize hs : sel x0 x1 x3 = S
  generalize ha : ey1 x0 x1 x3 = E1
  generalize hb : ex1 x0 x1 x3 = E2
  generalize hc : ey2 x0 x1 x3 = E3
  generalize hd : gx2h x0 x1 = E4
  simp only [B4, hl, hs, ha, hb, hc, hd]
  fin_cases k
  all_goals
    pointwise [k0_pay39, k0_pay28, k0_pay29, k0_pay30, k0_pay31, k0_pay32, k0_pay33, k0_pay34, k0_pay35, k0_pay36, k0_pay37,
      k0_pay38, k0_pay26, by1, bx1, by2, bx2, k0_pay2, k0_pay3, k0_pay4, k0_pay5]
    rfl

/-- The second output's block at a point. -/
theorem B5_of : B5 x0 x1 x2 x3 (ix4 0 c r l) =
    FloatOps.sitofp (F := Ideal) FTy.f32 (BitVec.setWidth 32 (IntOp.cmpi .eq (lab x0 x1 x2 x3 (ix2 r l)) (BitVec.ofNat 32 c.val))) := by
  generalize hl : lab x0 x1 x2 x3 = L
  simp only [B5, hl]
  pointwise [k0_pay1, k0_pay40]

end Cert.Block

end
-- ==== Proof.Pick.lean ====
/- Which boxes a block keeps: the positive ones whose key has fewer than 128 keys above it. -/
module

public import proofs.«01_k».proof.Proof.BlockValue

@[expose] public section

set_option maxRecDepth 65536
set_option maxHeartbeats 4000000

noncomputable section

namespace Cert.Block

open Idealize.ShloMosaic Idealize.ShloMosaic.TcCoe Cert.KernelIdeal Cert.KernelIdeal.Gen
open Idealize.ShloMosaic.Pipeline

/-- A box's key as an integer: for a positive box the drawn number, then how early the box comes; −1 for any other. -/
def key (pos : Fin 40 × Fin 128 → Prop) [DecidablePred pos] (d : Fin 40 × Fin 128 → ℕ) (x : Fin 40 × Fin 128) : ℤ :=
  if pos x then (d x : ℤ) * 8192 + (8191 - ((x.1.val : ℤ) * 128 + x.2.val)) else -1

section

variable (B : FVec Ideal S40x128 .f32) (x3 : Draws) (L : BitVec 32)

/-- A box's key as a word. -/
theorem key_word (r : Fin 40) (l : Fin 128) : k0_pay20 B x3 (ix2 r l) =
    if Ideal.ofBits FTy.f32 1056964608#32 < B (ix2 r l) then
      IntOp.addi (IntOp.muli (x3 (ix3 0 r l)) 8192#32)
        (IntOp.subi (8191#32) (IntOp.addi (IntOp.muli (BitVec.ofNat 32 r.val) 128#32) (BitVec.ofNat 32 l.val)))
    else 4294967295#32 := by
  pointwise [k0_pay20]

/-- How many keys are at least the middle, as a word. -/
theorem count_at (u v : BitVec 32) : extractAt ![0, 0, 0] (k0_pay21 B x3 u v) inpos_S1x1x1_p0_0_0 =
    Finset.fold IntOp.addi (0#32) (fun x : Fin 40 × Fin 128 => BitVec.setWidth 32 (IntOp.cmpi .sge (k0_pay20 B x3 (ix2 x.1 x.2))
      (Scalar.divsi (Scalar.addi (Scalar.addi u v) 1#32) 2#32))) Finset.univ := by
  pointwise [k0_pay21]

/-- A box is kept when its key is at least the bound. -/
theorem keep_at (r : Fin 40) (l : Fin 128) : k0_pay22 B x3 L (ix2 r l) = IntOp.cmpi .sge (k0_pay20 B x3 (ix2 r l)) L := by
  pointwise [k0_pay22]

/-- The bounds are those of twenty-four halvings. -/
theorem bounds_eq : bounds x3 B = (List.finRange 24).foldl (fun a _ => Bisect.wstep (fun t =>
    Finset.fold IntOp.addi (0#32) (fun x : Fin 40 × Fin 128 => BitVec.setWidth 32 (IntOp.cmpi .sge (k0_pay20 B x3 (ix2 x.1 x.2)) t))
      Finset.univ) a) (0#32, 10485759#32) := by
  unfold bounds
  rw [Scf.fold_eq]
  refine congrArg (fun f => List.foldl f (0#32, 10485759#32) (List.finRange 24)) (funext fun a => funext fun _ => ?_)
  simp only [count_at]
  rfl

variable (pos : Fin 40 × Fin 128 → Prop) [DecidablePred pos] (d : Fin 40 × Fin 128 → ℕ)
  (hpos : ∀ r l, pos (r, l) ↔ Ideal.ofBits FTy.f32 1056964608#32 < B (ix2 r l))
  (hd : ∀ r l, x3 (ix3 0 r l) = BitVec.ofNat 32 (d (r, l))) (hr : ∀ x, d x ≤ 1279)

include hpos hd hr

/-- The key's word is read as its integer. -/
theorem key_int (r : Fin 40) (l : Fin 128) : (k0_pay20 B x3 (ix2 r l)).toInt = key pos d (r, l) := by
  have h3 := hr (r, l)
  rw [key_word, hd]
  unfold key
  by_cases h : pos (r, l)
  · rw [if_pos h, if_pos ((hpos r l).1 h)]
    have i1 : Affine.IsInt (BitVec.ofNat 32 (d (r, l))) (d (r, l)) := Affine.ofNat _ ⟨rfl, by omega⟩
    have i2 : Affine.IsInt (IntOp.muli (BitVec.ofNat 32 (d (r, l))) 8192#32) ((d (r, l) : ℤ) * 8192) :=
      Affine.muli i1 (Affine.ofNat 8192 ⟨rfl, by omega⟩) ⟨rfl, by omega, by omega⟩
    have i3 : Affine.IsInt (IntOp.muli (BitVec.ofNat 32 r.val) 128#32) ((r.val : ℤ) * 128) :=
      Affine.muli (Affine.ofNat r.val ⟨rfl, by omega⟩) (Affine.ofNat 128 ⟨rfl, by omega⟩) ⟨rfl, by omega, by omega⟩
    have i4 : Affine.IsInt (IntOp.addi (IntOp.muli (BitVec.ofNat 32 r.val) 128#32) (BitVec.ofNat 32 l.val)) ((r.val : ℤ) * 128 + l.val) :=
      Affine.addi i3 (Affine.ofNat l.val ⟨rfl, by omega⟩) ⟨rfl, by omega, by omega⟩
    have i5 : Affine.IsInt (IntOp.subi (8191#32) (IntOp.addi (IntOp.muli (BitVec.ofNat 32 r.val) 128#32) (BitVec.ofNat 32 l.val)))
        (8191 - ((r.val : ℤ) * 128 + l.val)) := Affine.subi (Affine.ofNat 8191 ⟨rfl, by omega⟩) i4 ⟨rfl, by omega, by omega⟩
    exact Bisect.toInt_of (Affine.addi i2 i5 ⟨rfl, by omega, by omega⟩)
  · rw [if_neg h, if_neg fun h' => h ((hpos r l).2 h')]
    decide

/-- A box is kept when it is positive and fewer than 128 keys are above its own. -/
theorem keep_bit (r : Fin 40) (l : Fin 128) : k0_pay22 B x3 (bounds x3 B).1 (ix2 r l) =
    BitVec.ofBool (decide (pos (r, l) ∧ (Finset.univ.filter fun x => key pos d (r, l) < key pos d x).card < 128)) := by
  have hk := key_int B x3 pos d hpos hd hr
  have hcount : ∀ t, Bisect.count (fun x : Fin 40 × Fin 128 => k0_pay20 B x3 (ix2 x.1 x.2)) t
      = (Finset.univ.filter fun x => t ≤ key pos d x).card := by
    intro t
    unfold Bisect.count
    refine congrArg Finset.card (Finset.filter_congr fun x _ => ?_)
    rw [hk]
  have hs := Bisect.bound_spec _ (Bisect.count fun x : Fin 40 × Fin 128 => k0_pay20 B x3 (ix2 x.1 x.2))
    (Bisect.count_word (fun x : Fin 40 × Fin 128 => k0_pay20 B x3 (ix2 x.1 x.2)) (by simp))
    (Bisect.count_mono _) (by
      rw [hcount, Finset.filter_false_of_mem]
      · simp
      · intro x _
        have := hr x
        unfold key
        split <;> omega) (bounds x3 B).1 (congrArg Prod.fst (bounds_eq B x3)) (key pos d (r, l))
  obtain ⟨h0, h1⟩ := hs
  rw [keep_at]
  refine (Bisect.sge_bit _ _).trans (congrArg BitVec.ofBool (decide_eq_decide.2 ?_))
  rw [hk]
  by_cases h : pos (r, l)
  · have hk0 : 0 ≤ key pos d (r, l) := by
      unfold key
      rw [if_pos h]
      simp only
      omega
    rw [h1 hk0, hcount]
    simp only [h, true_and, Int.add_one_le_iff]
  · have hk0 : key pos d (r, l) = -1 := if_neg h
    rw [hk0]
    simp only [h, false_and, iff_false]
    omega

end

end Cert.Block

end
-- ==== Proof.Count.lean ====
/- The boxes drawn before a given one: in the order of (drawn number, then position) among the boxes of a
   row, and by keys among the padded boxes. -/
module

public import proofs.«01_k».proof.Proof.Pick

@[expose] public section

noncomputable section

namespace Cert.Block

/-- The row and lane a box of the image has in the padded block. -/
def cell (p : Fin 5000) : Fin 40 × Fin 128 := (⟨p.val / 128, by omega⟩, ⟨p.val % 128, by omega⟩)

variable (posR : Fin 5000 → Prop) [DecidablePred posR] (dR : Fin 5000 → ℕ)

/-- A box's sorting key in the reference: minus its drawn number when it is positive, zero otherwise. -/
def sortKey (q : Fin 5000) : ℤ := -(if posR q then (dR q : ℤ) else 0)

/-- The boxes sorted before a positive box are as many as the padded boxes with a larger key. -/
theorem before_card (pos : Fin 40 × Fin 128 → Prop) [DecidablePred pos] (d : Fin 40 × Fin 128 → ℕ)
    (h0 : ∀ q, 1 ≤ dR q) (h1 : ∀ q, pos (cell q) ↔ posR q) (h2 : ∀ q, d (cell q) = dR q)
    (h3 : ∀ x : Fin 40 × Fin 128, 5000 ≤ x.1.val * 128 + x.2.val → d x = 0) (p : Fin 5000) (hp : posR p) :
    (Finset.univ.filter fun x => key pos d (cell p) < key pos d x).card =
      (Finset.univ.filter fun q => sortKey posR dR q < sortKey posR dR p ∨ (sortKey posR dR q = sortKey posR dR p ∧ q < p)).card := by
  have hinj : Function.Injective cell := fun a b h => by
    have e1 := congrArg (fun x => x.1.val) h
    have e2 := congrArg (fun x => x.2.val) h
    simp only [cell] at e1 e2
    exact Fin.ext (by omega)
  have hkey : ∀ q, key pos d (cell q) = if posR q then (dR q : ℤ) * 8192 + (8191 - q.val) else -1 := by
    intro q
    unfold key
    rw [h2]
    by_cases h : posR q
    · rw [if_pos h, if_pos ((h1 q).2 h)]
      simp only [cell]
      omega
    · rw [if_neg h, if_neg fun h' => h ((h1 q).1 h')]
  have hiff : ∀ q, key pos d (cell p) < key pos d (cell q) ↔
      sortKey posR dR q < sortKey posR dR p ∨ (sortKey posR dR q = sortKey posR dR p ∧ q < p) := by
    intro q
    have := h0 q
    have := h0 p
    rw [hkey, hkey, if_pos hp]
    unfold sortKey
    rw [if_pos hp]
    by_cases h : posR q
    · rw [if_pos h, if_pos h, Fin.lt_def]
      omega
    · rw [if_neg h, if_neg h, Fin.lt_def]
      omega
  rw [← Finset.card_image_of_injective _ hinj]
  refine congrArg Finset.card (Finset.ext fun x => ?_)
  simp only [Finset.mem_filter, Finset.mem_univ, true_and, Finset.mem_image]
  refine ⟨fun h => ?_, fun ⟨q, hq, e⟩ => e ▸ (hiff q).2 hq⟩
  have hx : x.1.val * 128 + x.2.val < 5000 := by
    by_contra hc
    have hz := h3 x (by omega)
    have := h0 p
    rw [hkey, if_pos hp] at h
    unfold key at h
    rw [hz] at h
    split at h <;> omega
  have e : cell ⟨x.1.val * 128 + x.2.val, hx⟩ = x := by
    refine Prod.ext (Fin.ext ?_) (Fin.ext ?_) <;> simp only [cell] <;> omega
  exact ⟨_, (hiff _).1 (e.symm ▸ h), e⟩

end Cert.Block

end
-- ==== Proof.Whole.lean ====
/- What a kernel call leaves in its two result arrays, as a function of the four arrays it reads. -/
module

public import proofs.«01_k».proof.Proof.Block

@[expose] public section

set_option maxRecDepth 65536
set_option maxHeartbeats 4000000

noncomputable section

namespace Cert.Block

open Idealize.ShloMosaic Idealize.ShloMosaic.TcCoe Cert.KernelIdeal Cert.KernelIdeal.Gen
open Idealize.ShloMosaic.Pipeline

/-- Image `n` of a call's boxes, of its ground-truth boxes, of its labels and of its draws. -/
def oneBoxes (X : Vec Ideal S4x4x40x128 .f32) (n : Fin 4) : Boxes := fun y => X (ix4 n (y 1) (y 2) (y 3))
/-- Of its ground-truth boxes. -/
def oneTruths (X : Vec Ideal S4x4x100x1 .f32) (n : Fin 4) : Truths := fun y => X (ix4 n (y 1) (y 2) (y 3))
/-- Of its labels. -/
def oneLabels (X : Vec Ideal S4x100x1 .i32) (n : Fin 4) : Labels := fun y => X (ix3 n (y 1) (y 2))
/-- Of its draws. -/
def oneDraws (X : Vec Ideal S4x40x128 .i32) (n : Fin 4) : Draws := fun y => X (ix3 n (y 1) (y 2))

variable (X0 : Vec Ideal S4x4x40x128 .f32) (X1 : Vec Ideal S4x4x100x1 .f32) (X2 : Vec Ideal S4x100x1 .i32) (X3 : Vec Ideal S4x40x128 .i32)

/-- A call's two results: image by image what one block leaves. -/
def all4 : Vec Ideal S4x21x4x40x128 .f32 := fun i =>
  B4 (oneBoxes X0 (i 0)) (oneTruths X1 (i 0)) (oneLabels X2 (i 0)) (oneDraws X3 (i 0)) (ix5 0 (i 1) (i 2) (i 3) (i 4))
/-- The second one. -/
def all5 : Vec Ideal S4x21x40x128 .f32 := fun i =>
  B5 (oneBoxes X0 (i 0)) (oneTruths X1 (i 0)) (oneLabels X2 (i 0)) (oneDraws X3 (i 0)) (ix4 0 (i 1) (i 2) (i 3))

/-- The first result at an index of image `n`. -/
theorem all4_at (i : S4x21x4x40x128.Idx) (n : Fin 4) (y : S1x21x4x40x128.Idx) (h : i = ix5 n (y 1) (y 2) (y 3) (y 4)) :
    all4 X0 X1 X2 X3 i = B4 (oneBoxes X0 n) (oneTruths X1 n) (oneLabels X2 n) (oneDraws X3 n) y := by
  subst h
  have e : ix5 0 (y 1) (y 2) (y 3) (y 4) = y := by
    funext q
    fin_cases q
    · exact Subsingleton.elim (α := Fin 1) _ _
    all_goals rfl
  exact congrArg (B4 (oneBoxes X0 n) (oneTruths X1 n) (oneLabels X2 n) (oneDraws X3 n)) e

/-- The second result at an index of image `n`. -/
theorem all5_at (i : S4x21x40x128.Idx) (n : Fin 4) (y : S1x21x40x128.Idx) (h : i = ix4 n (y 1) (y 2) (y 3)) :
    all5 X0 X1 X2 X3 i = B5 (oneBoxes X0 n) (oneTruths X1 n) (oneLabels X2 n) (oneDraws X3 n) y := by
  subst h
  have e : ix4 0 (y 1) (y 2) (y 3) = y := by
    funext q
    fin_cases q
    · exact Subsingleton.elim (α := Fin 1) _ _
    all_goals rfl
  exact congrArg (B5 (oneBoxes X0 n) (oneTruths X1 n) (oneLabels X2 n) (oneDraws X3 n)) e

end Cert.Block

end
-- ==== Proof.Layout.lean ====
/- How the kernel program lays out its operands before the calls and its results after them, at coordinates. -/
module

public import proofs.«01_k».proof.Proof.Count
public import proofs.«01_k».proof.Proof.Whole

@[expose] public section

set_option maxRecDepth 65536
set_option maxHeartbeats 400000

noncomputable section

namespace Cert.Layout

open Idealize.ShloMosaic Idealize.ShloMosaic.TcCoe Cert.KernelIdeal Cert.KernelIdeal.Gen Cert.Block

/-- The boxes with their coordinates in front, padded to 40 rows of 128. -/
def boxes (A : FVec Ideal S16x5000x4 .f32) (z : FVec Ideal S_ .f32) : FVec Ideal S16x4x40x128 .f32 :=
  shapeCast S16x4x40x128 (pad S16x4x5120 ![0, 0, 0] ![0, 0, 120] ![0, 0, 0]
    (transpose S16x4x5000 [0, 2, 1] A transposes_S16x5000x4_S16x4x5000_0_2_1) z pads_S16x4x5000_S16x4x5120_000_000_01200 h_S_)
    shapeCasts_S16x4x5120_S16x4x40x128

/-- The ground-truth boxes with their coordinates in front. -/
def truths (G : FVec Ideal S16x100x4 .f32) : FVec Ideal S16x4x100x1 .f32 :=
  broadcastInDim S16x4x100x1 ![0, 1, 2] bcast_S16x4x100_S16x4x100x1_0_1_2
    (transpose S16x4x100 [0, 2, 1] G transposes_S16x100x4_S16x4x100_0_2_1)

/-- The labels. -/
def labels (L : IVec S16x100 32) : IVec S16x100x1 32 := broadcastInDim S16x100x1 ![0, 1] bcast_S16x100_S16x100x1_0_1 L

/-- The drawn numbers padded to 40 rows of 128. -/
def draws (D : IVec S16x5000 32) (z : IVec S_ 32) : IVec S16x40x128 32 :=
  shapeCast S16x40x128 (pad S16x5120 ![0, 0] ![0, 120] ![0, 0] D z pads_S16x5000_S16x5120_000_01200 h_S_)
    shapeCasts_S16x5120_S16x40x128

/-- A padded box is the box of its position. -/
theorem boxes_at (A : FVec Ideal S16x5000x4 .f32) (z : FVec Ideal S_ .f32) (n : Fin 16) (q : Fin 4) (p : Fin 5000) :
    boxes A z (ix4 n q (cell p).1 (cell p).2) = A (ix3 n p q) := by
  have h : (cell p).1.val * 128 + (cell p).2.val = p.val := by simp only [cell]; omega
  pointwise [boxes]
  rw [dif_pos (by omega)]
  exact congrArg (fun i => A (ix3 n i q)) (Fin.ext h)

/-- A ground-truth box, coordinate first. -/
theorem truths_at (G : FVec Ideal S16x100x4 .f32) (n : Fin 16) (q : Fin 4) (j : Fin 100) :
    truths G (ix4 n q j 0) = G (ix3 n j q) := by
  pointwise [truths]

/-- A label. -/
theorem labels_at (L : IVec S16x100 32) (n : Fin 16) (j : Fin 100) : labels L (ix3 n j 0) = L (ix2 n j) := by
  pointwise [labels]

/-- A padded draw: zero beyond the boxes. -/
theorem draws_at (D : IVec S16x5000 32) (z : IVec S_ 32) (n : Fin 16) (r : Fin 40) (l : Fin 128) :
    draws D z (ix3 n r l) = if h : r.val * 128 + l.val < 5000 then D (ix2 n ⟨r.val * 128 + l.val, h⟩) else z ix0 := by
  pointwise [draws]
  split
  · rfl
  · exact congrArg z (funext fun a => a.elim0)

/-- A call's first result, boxes first. -/
def back4 (O : FVec Ideal S4x21x4x40x128 .f32) : FVec Ideal S4x5000x84 .f32 :=
  extractStridedSlice S4x5000x84 ![0, 0, 0] (transpose S4x5120x84 [0, 2, 1]
    (shapeCast S4x84x5120 O shapeCasts_S4x21x4x40x128_S4x84x5120) transposes_S4x84x5120_S4x5120x84_0_2_1) slices_S4x5120x84_S4x5000x84_0_0_0

/-- A call's second result, boxes first. -/
def back5 (O : FVec Ideal S4x21x40x128 .f32) : FVec Ideal S4x5000x21 .f32 :=
  extractStridedSlice S4x5000x21 ![0, 0, 0] (transpose S4x5120x21 [0, 2, 1]
    (shapeCast S4x21x5120 O shapeCasts_S4x21x40x128_S4x21x5120) transposes_S4x21x5120_S4x5120x21_0_2_1) slices_S4x5120x21_S4x5000x21_0_0_0

/-- Where a value of a first result comes from. -/
theorem back4_at (O : FVec Ideal S4x21x4x40x128 .f32) (n : Fin 4) (p : Fin 5000) (c : Fin 21) (k : Fin 4) :
    back4 O (ix3 n p ⟨c.val * 4 + k.val, by omega⟩) = O (ix5 n c k (cell p).1 (cell p).2) := by
  pointwise [back4]
  rfl

/-- Where a value of a second result comes from. -/
theorem back5_at (O : FVec Ideal S4x21x40x128 .f32) (n : Fin 4) (p : Fin 5000) (c : Fin 21) :
    back5 O (ix3 n p c) = O (ix4 n c (cell p).1 (cell p).2) := by
  pointwise [back5]
  rfl

/-- The four calls' first results, one after the other. -/
def join4 (P0 P1 P2 P3 : FVec Ideal S4x5000x84 .f32) : FVec Ideal S16x5000x21x4 .f32 :=
  shapeCast S16x5000x21x4 (concatenate S16x5000x84 0 [⟨S4x5000x84, P0⟩, ⟨S4x5000x84, P1⟩, ⟨S4x5000x84, P2⟩, ⟨S4x5000x84, P3⟩]
    concatenates_S4x5000x84_S4x5000x84_S4x5000x84_S4x5000x84_S16x5000x84_d0) shapeCasts_S16x5000x84_S16x5000x21x4

/-- The four calls' second results, one after the other. -/
def join5 (P0 P1 P2 P3 : FVec Ideal S4x5000x21 .f32) : FVec Ideal S16x5000x21 .f32 :=
  concatenate S16x5000x21 0 [⟨S4x5000x21, P0⟩, ⟨S4x5000x21, P1⟩, ⟨S4x5000x21, P2⟩, ⟨S4x5000x21, P3⟩]
    concatenates_S4x5000x21_S4x5000x21_S4x5000x21_S4x5000x21_S16x5000x21_d0

/-- Image `u * 4 + t` is image `t` of part `u`. -/
theorem join4_at (P : Fin 4 → FVec Ideal S4x5000x84 .f32) (u t : Fin 4) (p : Fin 5000) (c : Fin 21) (k : Fin 4) :
    join4 (P 0) (P 1) (P 2) (P 3) (ix4 ⟨u.val * 4 + t.val, by omega⟩ p c k) = P u (ix3 t p ⟨c.val * 4 + k.val, by omega⟩) := by
  pointwise [join4]
  fin_cases u
  · rw [dif_pos (by simp)]
    exact congrArg (fun i => P 0 (ix3 i p _)) (Fin.ext (by simp))
  · rw [dif_neg (by simp), dif_pos (by simp)]
    exact congrArg (fun i => P 1 (ix3 i p _)) (Fin.ext (by simp))
  · rw [dif_neg (by simp; omega), dif_neg (by simp; omega), dif_pos (by simp; omega)]
    exact congrArg (fun i => P 2 (ix3 i p _)) (Fin.ext (by simp; omega))
  · rw [dif_neg (by simp; omega), dif_neg (by simp; omega), dif_neg (by simp; omega)]
    exact congrArg (fun i => P 3 (ix3 i p _)) (Fin.ext (by simp; omega))

/-- The same of the second results. -/
theorem join5_at (P : Fin 4 → FVec Ideal S4x5000x21 .f32) (u t : Fin 4) (p : Fin 5000) (c : Fin 21) :
    join5 (P 0) (P 1) (P 2) (P 3) (ix3 ⟨u.val * 4 + t.val, by omega⟩ p c) = P u (ix3 t p c) := by
  pointwise [join5]
  fin_cases u
  · rw [dif_pos (by simp)]
    exact congrArg (fun i => P 0 (ix3 i p _)) (Fin.ext (by simp))
  · rw [dif_neg (by simp), dif_pos (by simp)]
    exact congrArg (fun i => P 1 (ix3 i p _)) (Fin.ext (by simp))
  · rw [dif_neg (by simp; omega), dif_neg (by simp; omega), dif_pos (by simp; omega)]
    exact congrArg (fun i => P 2 (ix3 i p _)) (Fin.ext (by simp; omega))
  · rw [dif_neg (by simp; omega), dif_neg (by simp; omega), dif_neg (by simp; omega)]
    exact congrArg (fun i => P 3 (ix3 i p _)) (Fin.ext (by simp; omega))

end Cert.Layout

end
-- ==== Proof.Call0.lean ====
/- What the first kernel call leaves in its two result arrays. -/
module

public import proofs.«01_k».proof.Proof.Whole

@[expose] public section

set_option maxRecDepth 65536
set_option maxHeartbeats 4000000

noncomputable section

namespace Cert.Call0

open Idealize.ShloMosaic Idealize.ShloMosaic.TcCoe Cert.KernelIdeal Cert.KernelIdeal.Gen
open Idealize.ShloMosaic.Pipeline Cert.Block

variable (V : (c : Dev nD) → (b : Ref sig .tc) → Buf (Elt Ideal) ((c : Thread nD τ).loc b)) (c : Dev nD)

/-- Grid point `t` takes image `t` of every array. -/
theorem idx : ∀ t : Fin cfg0.N, t.val < 4 ∧ win0_0.index t = ![t.val, 0, 0, 0] ∧ win0_1.index t = ![t.val, 0, 0, 0] ∧ win0_2.index t = ![t.val, 0, 0]
    ∧ win0_3.index t = ![t.val, 0, 0] ∧ win0_4.index t = ![t.val, 0, 0, 0, 0] ∧ win0_5.index t = ![t.val, 0, 0, 0] :=
  (by decide +kernel : ∀ t : Fin grid0.N, _)

/-- The image of a grid point. -/
def img (t : Fin cfg0.N) : Fin 4 := ⟨t.val, (idx t).1⟩

/-- The block each input window holds at a grid point. -/
theorem in0 (t : Fin cfg0.N) : iblk0 V c 0 t = oneBoxes (V c main_call0_v16) (img t) := by
  funext y
  blk_ext [iblk0, oneBoxes, img, idx t]

/-- Of the ground-truth boxes. -/
theorem in1 (t : Fin cfg0.N) : iblk0 V c 1 t = oneTruths (V c main_call0_v17) (img t) := by
  funext y
  blk_ext [iblk0, oneTruths, img, idx t]

/-- Of the labels. -/
theorem in2 (t : Fin cfg0.N) : iblk0 V c 2 t = oneLabels (V c main_call0_v18) (img t) := by
  funext y
  blk_ext [iblk0, oneLabels, img, idx t]

/-- Of the draws. -/
theorem in3 (t : Fin cfg0.N) : iblk0 V c 3 t = oneDraws (V c main_call0_v19) (img t) := by
  funext y
  blk_ext [iblk0, oneDraws, img, idx t]

/-- The two result arrays after the call. -/
theorem result4 : (dat0 V c).arrAt 4 cfg0.N =
    all4 (V c main_call0_v16) (V c main_call0_v17) (V c main_call0_v18) (V c main_call0_v19) := by
  refine (dat0 V c).arrAt_eq_of_covers 4 _ (by decide +kernel) fun t _ y => ?_
  blk_simp
  rw [after0_4, out4_0, in0, in1, in2, in3]
  exact (all4_at _ _ _ _ _ (img t) y (by blk_ext [img, idx t])).symm

/-- The second result array after the call. -/
theorem result5 : (dat0 V c).arrAt 5 cfg0.N =
    all5 (V c main_call0_v16) (V c main_call0_v17) (V c main_call0_v18) (V c main_call0_v19) := by
  refine (dat0 V c).arrAt_eq_of_covers 5 _ (by decide +kernel) fun t _ y => ?_
  blk_simp
  rw [after0_5, out5_0, in0, in1, in2, in3]
  exact (all5_at _ _ _ _ _ (img t) y (by blk_ext [img, idx t])).symm

end Cert.Call0

end
-- ==== Proof.Call1.lean ====
/- What the second kernel call leaves in its two result arrays. -/
module

public import proofs.«01_k».proof.Proof.Whole

@[expose] public section

set_option maxRecDepth 65536
set_option maxHeartbeats 4000000

noncomputable section

namespace Cert.Call1

open Idealize.ShloMosaic Idealize.ShloMosaic.TcCoe Cert.KernelIdeal Cert.KernelIdeal.Gen
open Idealize.ShloMosaic.Pipeline Cert.Block

variable (V : (c : Dev nD) → (b : Ref sig .tc) → Buf (Elt Ideal) ((c : Thread nD τ).loc b)) (c : Dev nD)

/-- Grid point `t` takes image `t` of every array. -/
theorem idx : ∀ t : Fin cfg1.N, t.val < 4 ∧ win1_0.index t = ![t.val, 0, 0, 0] ∧ win1_1.index t = ![t.val, 0, 0, 0] ∧ win1_2.index t = ![t.val, 0, 0]
    ∧ win1_3.index t = ![t.val, 0, 0] ∧ win1_4.index t = ![t.val, 0, 0, 0, 0] ∧ win1_5.index t = ![t.val, 0, 0, 0] :=
  (by decide +kernel : ∀ t : Fin grid1.N, _)

/-- The image of a grid point. -/
def img (t : Fin cfg1.N) : Fin 4 := ⟨t.val, (idx t).1⟩

/-- The block each input window holds at a grid point. -/
theorem in0 (t : Fin cfg1.N) : iblk1 V c 0 t = oneBoxes (V c main_call0_v27) (img t) := by
  funext y
  blk_ext [iblk1, oneBoxes, img, idx t]

/-- Of the ground-truth boxes. -/
theorem in1 (t : Fin cfg1.N) : iblk1 V c 1 t = oneTruths (V c main_call0_v28) (img t) := by
  funext y
  blk_ext [iblk1, oneTruths, img, idx t]

/-- Of the labels. -/
theorem in2 (t : Fin cfg1.N) : iblk1 V c 2 t = oneLabels (V c main_call0_v29) (img t) := by
  funext y
  blk_ext [iblk1, oneLabels, img, idx t]

/-- Of the draws. -/
theorem in3 (t : Fin cfg1.N) : iblk1 V c 3 t = oneDraws (V c main_call0_v30) (img t) := by
  funext y
  blk_ext [iblk1, oneDraws, img, idx t]

/-- The two result arrays after the call. -/
theorem result4 : (dat1 V c).arrAt 4 cfg1.N =
    all4 (V c main_call0_v27) (V c main_call0_v28) (V c main_call0_v29) (V c main_call0_v30) := by
  refine (dat1 V c).arrAt_eq_of_covers 4 _ (by decide +kernel) fun t _ y => ?_
  blk_simp
  rw [after1_4, out4_1, in0, in1, in2, in3]
  exact (all4_at _ _ _ _ _ (img t) y (by blk_ext [img, idx t])).symm

/-- The second result array after the call. -/
theorem result5 : (dat1 V c).arrAt 5 cfg1.N =
    all5 (V c main_call0_v27) (V c main_call0_v28) (V c main_call0_v29) (V c main_call0_v30) := by
  refine (dat1 V c).arrAt_eq_of_covers 5 _ (by decide +kernel) fun t _ y => ?_
  blk_simp
  rw [after1_5, out5_1, in0, in1, in2, in3]
  exact (all5_at _ _ _ _ _ (img t) y (by blk_ext [img, idx t])).symm

end Cert.Call1

end
-- ==== Proof.Call2.lean ====
/- What the third kernel call leaves in its two result arrays. -/
module

public import proofs.«01_k».proof.Proof.Whole

@[expose] public section

set_option maxRecDepth 65536
set_option maxHeartbeats 4000000

noncomputable section

namespace Cert.Call2

open Idealize.ShloMosaic Idealize.ShloMosaic.TcCoe Cert.KernelIdeal Cert.KernelIdeal.Gen
open Idealize.ShloMosaic.Pipeline Cert.Block

variable (V : (c : Dev nD) → (b : Ref sig .tc) → Buf (Elt Ideal) ((c : Thread nD τ).loc b)) (c : Dev nD)

/-- Grid point `t` takes image `t` of every array. -/
theorem idx : ∀ t : Fin cfg2.N, t.val < 4 ∧ win2_0.index t = ![t.val, 0, 0, 0] ∧ win2_1.index t = ![t.val, 0, 0, 0] ∧ win2_2.index t = ![t.val, 0, 0]
    ∧ win2_3.index t = ![t.val, 0, 0] ∧ win2_4.index t = ![t.val, 0, 0, 0, 0] ∧ win2_5.index t = ![t.val, 0, 0, 0] :=
  (by decide +kernel : ∀ t : Fin grid2.N, _)

/-- The image of a grid point. -/
def img (t : Fin cfg2.N) : Fin 4 := ⟨t.val, (idx t).1⟩

/-- The block each input window holds at a grid point. -/
theorem in0 (t : Fin cfg2.N) : iblk2 V c 0 t = oneBoxes (V c main_call0_v38) (img t) := by
  funext y
  blk_ext [iblk2, oneBoxes, img, idx t]

/-- Of the ground-truth boxes. -/
theorem in1 (t : Fin cfg2.N) : iblk2 V c 1 t = oneTruths (V c main_call0_v39) (img t) := by
  funext y
  blk_ext [iblk2, oneTruths, img, idx t]

/-- Of the labels. -/
theorem in2 (t : Fin cfg2.N) : iblk2 V c 2 t = oneLabels (V c main_call0_v40) (img t) := by
  funext y
  blk_ext [iblk2, oneLabels, img, idx t]

/-- Of the draws. -/
theorem in3 (t : Fin cfg2.N) : iblk2 V c 3 t = oneDraws (V c main_call0_v41) (img t) := by
  funext y
  blk_ext [iblk2, oneDraws, img, idx t]

/-- The two result arrays after the call. -/
theorem result4 : (dat2 V c).arrAt 4 cfg2.N =
    all4 (V c main_call0_v38) (V c main_call0_v39) (V c main_call0_v40) (V c main_call0_v41) := by
  refine (dat2 V c).arrAt_eq_of_covers 4 _ (by decide +kernel) fun t _ y => ?_
  blk_simp
  rw [after2_4, out4_2, in0, in1, in2, in3]
  exact (all4_at _ _ _ _ _ (img t) y (by blk_ext [img, idx t])).symm

/-- The second result array after the call. -/
theorem result5 : (dat2 V c).arrAt 5 cfg2.N =
    all5 (V c main_call0_v38) (V c main_call0_v39) (V c main_call0_v40) (V c main_call0_v41) := by
  refine (dat2 V c).arrAt_eq_of_covers 5 _ (by decide +kernel) fun t _ y => ?_
  blk_simp
  rw [after2_5, out5_2, in0, in1, in2, in3]
  exact (all5_at _ _ _ _ _ (img t) y (by blk_ext [img, idx t])).symm

end Cert.Call2

end
-- ==== Proof.Call3.lean ====
/- What the fourth kernel call leaves in its two result arrays. -/
module

public import proofs.«01_k».proof.Proof.Whole

@[expose] public section

set_option maxRecDepth 65536
set_option maxHeartbeats 4000000

noncomputable section

namespace Cert.Call3

open Idealize.ShloMosaic Idealize.ShloMosaic.TcCoe Cert.KernelIdeal Cert.KernelIdeal.Gen
open Idealize.ShloMosaic.Pipeline Cert.Block

variable (V : (c : Dev nD) → (b : Ref sig .tc) → Buf (Elt Ideal) ((c : Thread nD τ).loc b)) (c : Dev nD)

/-- Grid point `t` takes image `t` of every array. -/
theorem idx : ∀ t : Fin cfg3.N, t.val < 4 ∧ win3_0.index t = ![t.val, 0, 0, 0] ∧ win3_1.index t = ![t.val, 0, 0, 0] ∧ win3_2.index t = ![t.val, 0, 0]
    ∧ win3_3.index t = ![t.val, 0, 0] ∧ win3_4.index t = ![t.val, 0, 0, 0, 0] ∧ win3_5.index t = ![t.val, 0, 0, 0] :=
  (by decide +kernel : ∀ t : Fin grid3.N, _)

/-- The image of a grid point. -/
def img (t : Fin cfg3.N) : Fin 4 := ⟨t.val, (idx t).1⟩

/-- The block each input window holds at a grid point. -/
theorem in0 (t : Fin cfg3.N) : iblk3 V c 0 t = oneBoxes (V c main_call0_v49) (img t) := by
  funext y
  blk_ext [iblk3, oneBoxes, img, idx t]

/-- Of the ground-truth boxes. -/
theorem in1 (t : Fin cfg3.N) : iblk3 V c 1 t = oneTruths (V c main_call0_v50) (img t) := by
  funext y
  blk_ext [iblk3, oneTruths, img, idx t]

/-- Of the labels. -/
theorem in2 (t : Fin cfg3.N) : iblk3 V c 2 t = oneLabels (V c main_call0_v51) (img t) := by
  funext y
  blk_ext [iblk3, oneLabels, img, idx t]

/-- Of the draws. -/
theorem in3 (t : Fin cfg3.N) : iblk3 V c 3 t = oneDraws (V c main_call0_v52) (img t) := by
  funext y
  blk_ext [iblk3, oneDraws, img, idx t]

/-- The two result arrays after the call. -/
theorem result4 : (dat3 V c).arrAt 4 cfg3.N =
    all4 (V c main_call0_v49) (V c main_call0_v50) (V c main_call0_v51) (V c main_call0_v52) := by
  refine (dat3 V c).arrAt_eq_of_covers 4 _ (by decide +kernel) fun t _ y => ?_
  blk_simp
  rw [after3_4, out4_3, in0, in1, in2, in3]
  exact (all4_at _ _ _ _ _ (img t) y (by blk_ext [img, idx t])).symm

/-- The second result array after the call. -/
theorem result5 : (dat3 V c).arrAt 5 cfg3.N =
    all5 (V c main_call0_v49) (V c main_call0_v50) (V c main_call0_v51) (V c main_call0_v52) := by
  refine (dat3 V c).arrAt_eq_of_covers 5 _ (by decide +kernel) fun t _ y => ?_
  blk_simp
  rw [after3_5, out5_3, in0, in1, in2, in3]
  exact (all5_at _ _ _ _ _ (img t) y (by blk_ext [img, idx t])).symm

end Cert.Call3

end
-- ==== Proof.Twin.lean ====
module

public import Idealize.ShloMosaic.Lib.StableHlo.RunRead

@[expose] public section

/-! Two programs of host operations that compute the same values side by side, in buffers of their own: the values that
the first leaves and those that the second leaves agree, operation by operation. -/

namespace Cert.Twin

open Idealize.ShloMosaic Idealize.ShloMosaic.StableHlo

variable {τ σ : Topo} {sig sig' : RefSig} {Val : EltTy → Type} {N : ℕ}
variable (k : Fin N → Ref sig .tc) (r : Fin N → Ref sig' .tc)

/-- The first `n` buffers of the two programs hold the same. -/
def Same (n : ℕ) (V : Valuation τ sig Val) (W : Valuation σ sig' Val) : Prop :=
  ∀ i : Fin N, i.1 < n → HEq (V (Proc.devRef .tc (k i))) (W (Proc.devRef .tc (r i)))

/-- From states agreeing on `n` buffers the programs `os` and `bs` come to states agreeing on `n'` buffers, with `ps` and `qs` still to run. -/
def Lead (n : ℕ) (os : List (HloOp τ sig Val)) (bs : List (HloOp σ sig' Val)) (n' : ℕ) (ps : List (HloOp τ sig Val))
    (qs : List (HloOp σ sig' Val)) : Prop :=
  ∀ V W, Same k r n V W → ∃ V' W', Same k r n' V' W' ∧ after os V = after ps V' ∧ after bs W = after qs W'

/-- The operations `a` and `b` write the `i`-th buffers, the same values from the same values before. -/
def Step (i : Fin N) (a : HloOp τ sig Val) (b : HloOp σ sig' Val) : Prop :=
  a.writes = {Proc.devRef .tc (k i)} ∧ b.writes = {Proc.devRef .tc (r i)} ∧
    ∀ V W, Same k r i.1 V W → HEq (a.result V (Proc.devRef .tc (k i))) (b.result W (Proc.devRef .tc (r i)))

variable {k r}

/-- Nothing left to pair. -/
theorem Lead.done (n : ℕ) (os : List (HloOp τ sig Val)) (bs : List (HloOp σ sig' Val)) : Lead k r n os bs n os bs :=
  fun V W h => ⟨V, W, h, rfl, rfl⟩

/-- One stretch after another. -/
theorem Lead.trans {n n' n'' : ℕ} {os ps us : List (HloOp τ sig Val)} {bs qs vs : List (HloOp σ sig' Val)}
    (h : Lead k r n os bs n' ps qs) (h' : Lead k r n' ps qs n'' us vs) : Lead k r n os bs n'' us vs := by
  intro V W hs
  obtain ⟨V', W', hs', e, e'⟩ := h V W hs
  obtain ⟨V'', W'', hs'', g, g'⟩ := h' V' W' hs'
  exact ⟨V'', W'', hs'', e.trans g, e'.trans g'⟩

/-- One pair of operations, and then the rest. -/
theorem Lead.cons (hk : Function.Injective k) (hr : Function.Injective r) {i : Fin N} {a : HloOp τ sig Val} {b : HloOp σ sig' Val}
    {os ps : List (HloOp τ sig Val)} {bs qs : List (HloOp σ sig' Val)} {n' : ℕ}
    (h : Step k r i a b) (hl : Lead k r (i.1 + 1) os bs n' ps qs) : Lead k r i.1 (a :: os) (b :: bs) n' ps qs := by
  intro V W hs
  refine hl (a.result V) (b.result W) fun j hj => ?_
  by_cases hij : j = i
  · subst hij; exact h.2.2 V W hs
  · rw [a.result_of_not_mem V, b.result_of_not_mem W]
    · exact hs j (by omega)
    · rw [h.2.1, Finset.mem_singleton]; exact devRef_ne_of_ne fun e => hij (hr e)
    · rw [h.1, Finset.mem_singleton]; exact devRef_ne_of_ne fun e => hij (hk e)

/-- A constant. -/
theorem Step.nullary {y : Fin N} {v : (k y).ty.Contents Val} {w : (r y).ty.Contents Val} {hy hy'} (h : HEq v w) :
    Step k r y (StableHlo.nullary (τ := τ) (k y) v hy) (StableHlo.nullary (τ := σ) (r y) w hy') :=
  ⟨nullary_writes .., nullary_writes .., fun V W _ => by rw [nullary_result', nullary_result']; exact h⟩

/-- An operation on one value. -/
theorem Step.unary {x y : Fin N} (hxy : x.1 < y.1) {f : (k x).ty.Contents Val → (k y).ty.Contents Val}
    {g : (r x).ty.Contents Val → (r y).ty.Contents Val} {hx hy hx' hy'} (h : ∀ u v, HEq u v → HEq (f u) (g v)) :
    Step k r y (StableHlo.unary (τ := τ) (k x) (k y) f hx hy) (StableHlo.unary (τ := σ) (r x) (r y) g hx' hy') :=
  ⟨unary_writes .., unary_writes .., fun V W hs => by rw [unary_result', unary_result']; exact h _ _ (hs x hxy)⟩

/-- An operation on two values. -/
theorem Step.binary {a b y : Fin N} (hay : a.1 < y.1) (hby : b.1 < y.1)
    {f : (k a).ty.Contents Val → (k b).ty.Contents Val → (k y).ty.Contents Val}
    {g : (r a).ty.Contents Val → (r b).ty.Contents Val → (r y).ty.Contents Val} {ha hb hy ha' hb' hy'}
    (h : ∀ u v, HEq u v → ∀ u' v', HEq u' v' → HEq (f u u') (g v v')) :
    Step k r y (StableHlo.binary (τ := τ) (k a) (k b) (k y) f ha hb hy) (StableHlo.binary (τ := σ) (r a) (r b) (r y) g ha' hb' hy') :=
  ⟨binary_writes .., binary_writes .., fun V W hs => by
    rw [binary_result', binary_result']; exact h _ _ (hs a hay) _ _ (hs b hby)⟩

/-- An operation on three values. -/
theorem Step.ternary {c a b y : Fin N} (hcy : c.1 < y.1) (hay : a.1 < y.1) (hby : b.1 < y.1)
    {f : (k c).ty.Contents Val → (k a).ty.Contents Val → (k b).ty.Contents Val → (k y).ty.Contents Val}
    {g : (r c).ty.Contents Val → (r a).ty.Contents Val → (r b).ty.Contents Val → (r y).ty.Contents Val} {hc ha hb hy hc' ha' hb' hy'}
    (h : ∀ t s, HEq t s → ∀ u v, HEq u v → ∀ u' v', HEq u' v' → HEq (f t u u') (g s v v')) :
    Step k r y (StableHlo.ternary (τ := τ) (k c) (k a) (k b) (k y) f hc ha hb hy)
      (StableHlo.ternary (τ := σ) (r c) (r a) (r b) (r y) g hc' ha' hb' hy') :=
  ⟨ternary_writes .., ternary_writes .., fun V W hs => by
    rw [ternary_result', ternary_result']; exact h _ _ (hs c hcy) _ _ (hs a hay) _ _ (hs b hby)⟩

/-- The reshapes of two equal values between equal types are equal. -/
theorem reshape_heq {X Y X' Y' : BufTy} (hX : X = X') (hY : Y = Y') (he : X.elt = Y.elt) (he' : X'.elt = Y'.elt)
    (hn : X.shape.ShapeCasts Y.shape) (hn' : X'.shape.ShapeCasts Y'.shape) (u : X.Contents Val) (v : X'.Contents Val) (h : HEq u v) :
    HEq (fun i => he ▸ shapeCast Y.shape u hn i : Y.Contents Val) (fun i => he' ▸ shapeCast Y'.shape v hn' i : Y'.Contents Val) := by
  subst hX hY
  cases h
  rfl

/-- A reshape. -/
theorem Step.reshape {x y : Fin N} (hxy : x.1 < y.1) (hX : (k x).ty = (r x).ty) (hY : (k y).ty = (r y).ty) {he hn hx hy he' hn' hx' hy'} :
    Step k r y (StableHlo.reshape (τ := τ) (Val := Val) (k x) (k y) he hn hx hy)
      (StableHlo.reshape (τ := σ) (Val := Val) (r x) (r y) he' hn' hx' hy') :=
  ⟨reshape_writes .., reshape_writes .., fun V W hs => by
    rw [reshape_result', reshape_result']; exact reshape_heq hX hY _ _ _ _ _ _ (hs x hxy)⟩

end Cert.Twin
-- ==== Proof.Rand.lean ====
module

public import proofs.«01_k».proof.Proof.Twin
public import proofs.«01_k».proof.Proof.RefLine
public import proofs.«01_k».proof.Proof.Gen.KernelIdeal.Launch

@[expose] public section

set_option maxRecDepth 65536
set_option maxHeartbeats 40000000

noncomputable section

namespace Cert.Rand

open Idealize.ShloMosaic Idealize.ShloMosaic.StableHlo Cert.Twin

/-- The kernel program's buffers for the random numbers' computation, in order. -/
def kbuf (i : Fin 784) : Ref KernelIdeal.sig .tc := ⟨.hbm, ⟨i.1 + 3, by have := i.2; exact (by omega : i.1 + 3 < 850)⟩, rfl⟩

/-- The reference's buffers for the same computation, in the same order. -/
def rbuf (i : Fin 784) : Ref ReferenceIdeal.sig .tc := ⟨.hbm, ⟨i.1 + 65, by have := i.2; exact (by omega : i.1 + 65 < 1044)⟩, rfl⟩

/-- They are different buffers. -/
theorem kbuf_inj : Function.Injective kbuf := fun i j h => by
  have := congrArg (fun b : Ref KernelIdeal.sig .tc => b.idx.1) h
  exact Fin.ext (by simpa [kbuf] using this)

/-- So are the reference's. -/
theorem rbuf_inj : Function.Injective rbuf := fun i j h => by
  have := congrArg (fun b : Ref ReferenceIdeal.sig .tc => b.idx.1) h
  exact Fin.ext (by simpa [rbuf] using this)

/-- The kernel program's first host operations, from the `n`-th. -/
abbrev kernelFrom (n : ℕ) : List (HloOp KernelIdeal.τ KernelIdeal.sig (Elt Ideal)) :=
  (KernelIdeal.Gen.hostOps0 (F := Ideal)).drop n

/-- The reference's operations, from the `n`-th of the random numbers' computation. -/
abbrev refFrom (d : Dev ReferenceIdeal.nD) (n : ℕ) : List (HloOp ReferenceIdeal.τ ReferenceIdeal.sig (Elt Ideal)) :=
  (ReferenceIdeal.Run.main_ops d []).1.drop (62 + n)

/-- A buffer of the kernel program and one of the reference with the same number, less than `n`. -/
def Pair (n : ℕ) (x : Ref KernelIdeal.sig .tc) (x' : Ref ReferenceIdeal.sig .tc) : Prop :=
  ∃ h : x.idx.1 - 3 < 784, kbuf ⟨x.idx.1 - 3, h⟩ = x ∧ rbuf ⟨x.idx.1 - 3, h⟩ = x' ∧ x.idx.1 - 3 < n

/-- Whether they are such a pair can be computed. -/
instance (n : ℕ) (x : Ref KernelIdeal.sig .tc) (x' : Ref ReferenceIdeal.sig .tc) : Decidable (Pair n x x') :=
  inferInstanceAs (Decidable (∃ h : x.idx.1 - 3 < 784, _))

/-- The two buffers with the number `n`. -/
def At (n : ℕ) (y : Ref KernelIdeal.sig .tc) (y' : Ref ReferenceIdeal.sig .tc) : Prop := ∃ h : n < 784, kbuf ⟨n, h⟩ = y ∧ rbuf ⟨n, h⟩ = y'

/-- And whether they are these two. -/
instance (n : ℕ) (x : Ref KernelIdeal.sig .tc) (x' : Ref ReferenceIdeal.sig .tc) : Decidable (At n x x') :=
  inferInstanceAs (Decidable (∃ h : n < 784, _))

/-- The two operations write the buffers with the number `n`, the same values from the same values before. -/
def Alike (n : ℕ) (o : HloOp KernelIdeal.τ KernelIdeal.sig (Elt Ideal)) (o' : HloOp ReferenceIdeal.τ ReferenceIdeal.sig (Elt Ideal)) : Prop :=
  ∃ h : n < 784, Step kbuf rbuf ⟨n, h⟩ o o'

variable {n : ℕ} {a b c y : Ref KernelIdeal.sig .tc} {a' b' c' y' : Ref ReferenceIdeal.sig .tc}

/-- Two operations alike, and then the rest. -/
theorem next {n' : ℕ} {o : HloOp KernelIdeal.τ KernelIdeal.sig (Elt Ideal)} {o' : HloOp ReferenceIdeal.τ ReferenceIdeal.sig (Elt Ideal)} {os ps bs qs}
    (h : Alike n o o') (hl : Lead kbuf rbuf (n + 1) os bs n' ps qs) : Lead kbuf rbuf n (o :: os) (o' :: bs) n' ps qs := by
  obtain ⟨h, hs⟩ := h
  exact Lead.cons (i := ⟨n, h⟩) kbuf_inj rbuf_inj hs hl

/-- Two constants. -/
theorem alike_nullary {v : y.ty.Contents (Elt Ideal)} {w : y'.ty.Contents (Elt Ideal)} {p p'} (hy : At n y y') (e : HEq v w) :
    Alike n (nullary y v p) (nullary y' w p') := by
  obtain ⟨h, rfl, rfl⟩ := hy
  exact ⟨h, Step.nullary e⟩

/-- Two operations on one value. -/
theorem alike_unary {f : a.ty.Contents (Elt Ideal) → y.ty.Contents (Elt Ideal)} {g : a'.ty.Contents (Elt Ideal) → y'.ty.Contents (Elt Ideal)} {p q p' q'}
    (hy : At n y y') (ha : Pair n a a') (e : ∀ u v, HEq u v → HEq (f u) (g v)) : Alike n (unary a y f p q) (unary a' y' g p' q') := by
  obtain ⟨h, rfl, rfl⟩ := hy
  obtain ⟨ha, ea, rfl, la⟩ := ha
  generalize a.idx.1 - 3 = i at *
  subst ea
  exact ⟨h, Step.unary la e⟩

/-- Two operations on two values. -/
theorem alike_binary {f : a.ty.Contents (Elt Ideal) → b.ty.Contents (Elt Ideal) → y.ty.Contents (Elt Ideal)}
    {g : a'.ty.Contents (Elt Ideal) → b'.ty.Contents (Elt Ideal) → y'.ty.Contents (Elt Ideal)} {p q s p' q' s'}
    (hy : At n y y') (ha : Pair n a a') (hb : Pair n b b') (e : ∀ u v, HEq u v → ∀ u' v', HEq u' v' → HEq (f u u') (g v v')) :
    Alike n (binary a b y f p q s) (binary a' b' y' g p' q' s') := by
  obtain ⟨h, rfl, rfl⟩ := hy
  obtain ⟨ha, ea, rfl, la⟩ := ha
  generalize a.idx.1 - 3 = i at *
  subst ea
  obtain ⟨hb, eb, rfl, lb⟩ := hb
  generalize b.idx.1 - 3 = j at *
  subst eb
  exact ⟨h, Step.binary la lb e⟩

/-- Two operations on three values. -/
theorem alike_ternary {f : c.ty.Contents (Elt Ideal) → a.ty.Contents (Elt Ideal) → b.ty.Contents (Elt Ideal) → y.ty.Contents (Elt Ideal)}
    {g : c'.ty.Contents (Elt Ideal) → a'.ty.Contents (Elt Ideal) → b'.ty.Contents (Elt Ideal) → y'.ty.Contents (Elt Ideal)} {p q s t p' q' s' t'}
    (hy : At n y y') (hc : Pair n c c') (ha : Pair n a a') (hb : Pair n b b')
    (e : ∀ u v, HEq u v → ∀ u' v', HEq u' v' → ∀ u'' v'', HEq u'' v'' → HEq (f u u' u'') (g v v' v'')) :
    Alike n (ternary c a b y f p q s t) (ternary c' a' b' y' g p' q' s' t') := by
  obtain ⟨h, rfl, rfl⟩ := hy
  obtain ⟨hc, ec, rfl, lc⟩ := hc
  generalize c.idx.1 - 3 = k at *
  subst ec
  obtain ⟨ha, ea, rfl, la⟩ := ha
  generalize a.idx.1 - 3 = i at *
  subst ea
  obtain ⟨hb, eb, rfl, lb⟩ := hb
  generalize b.idx.1 - 3 = j at *
  subst eb
  exact ⟨h, Step.ternary lc la lb e⟩

/-- Two reshapes. -/
theorem alike_reshape {he hn p q he' hn' p' q'} (hy : At n y y') (ha : Pair n a a') (hX : a.ty = a'.ty) (hY : y.ty = y'.ty) :
    Alike n (reshape (Val := Elt Ideal) a y he hn p q) (reshape (Val := Elt Ideal) a' y' he' hn' p' q') := by
  obtain ⟨h, rfl, rfl⟩ := hy
  obtain ⟨ha, ea, rfl, la⟩ := ha
  generalize a.idx.1 - 3 = i at *
  subst ea
  exact ⟨h, Step.reshape la hX hY⟩

/-- The 784 operations that draw the numbers, in eight stretches of 98. -/
theorem lead (d : Dev ReferenceIdeal.nD) :
    Lead kbuf rbuf 0 (kernelFrom 0) (refFrom d 0) 784 (kernelFrom 784) (refFrom d 784) := by
  refine
    Lead.trans (n' := 98) (ps := kernelFrom 98) (qs := refFrom d 98) ?_ <|
    Lead.trans (n' := 196) (ps := kernelFrom 196) (qs := refFrom d 196) ?_ <|
    Lead.trans (n' := 294) (ps := kernelFrom 294) (qs := refFrom d 294) ?_ <|
    Lead.trans (n' := 392) (ps := kernelFrom 392) (qs := refFrom d 392) ?_ <|
    Lead.trans (n' := 490) (ps := kernelFrom 490) (qs := refFrom d 490) ?_ <|
    Lead.trans (n' := 588) (ps := kernelFrom 588) (qs := refFrom d 588) ?_ <|
    Lead.trans (n' := 686) (ps := kernelFrom 686) (qs := refFrom d 686) ?_ ?_
  all_goals
    iterate 98
      refine next ?_ ?_
      first
        | with_reducible refine alike_nullary ?_ ?_
          · decide
          · exact HEq.rfl
        | with_reducible refine alike_unary ?_ ?_ ?_
          · decide
          · decide
          · intro u v h; cases h; rfl
        | with_reducible refine alike_binary ?_ ?_ ?_ ?_
          · decide
          · decide
          · decide
          · intro u v h u' v' h'; cases h; cases h'; rfl
        | with_reducible refine alike_ternary ?_ ?_ ?_ ?_ ?_
          · decide
          · decide
          · decide
          · decide
          · intro u v h u' v' h' u'' v'' h''; cases h; cases h'; cases h''; rfl
        | with_reducible refine alike_reshape ?_ ?_ ?_ ?_
          · decide
          · decide
          · rfl
          · rfl
    exact Lead.done _ _ _

end Cert.Rand

end
-- ==== Proof.Outer.lean ====
/- The kernel program's host operations around the calls: what the calls read and what becomes of their results. -/
module

public import proofs.«01_k».proof.Proof.Layout
public import proofs.«01_k».proof.Proof.Call0
public import proofs.«01_k».proof.Proof.Call1
public import proofs.«01_k».proof.Proof.Call2
public import proofs.«01_k».proof.Proof.Call3
public import proofs.«01_k».proof.Proof.Rand
public import Idealize.ShloMosaic.Lib.StableHlo.RunRead

@[expose] public section

set_option maxRecDepth 65536
set_option maxHeartbeats 400000

noncomputable section

namespace Cert.Outer

open Idealize.ShloMosaic Idealize.ShloMosaic.TcCoe Cert.KernelIdeal Cert.KernelIdeal.Gen Cert.Block Cert.Layout
open Idealize.ShloMosaic.StableHlo

section

variable (U : Valuation τ sig (Elt Ideal)) (A : FVec Ideal S16x5000x4 .f32) (G : FVec Ideal S16x100x4 .f32) (L : IVec S16x100 32)
  (D : IVec S16x5000 32)

/-- The padded boxes, after the operations that follow the drawing of the numbers. -/
theorem tail_boxes (hA : U (Proc.devRef .tc main_arg0) = A) : after (hostOps0.drop 784) U (Proc.devRef .tc main_call0_v12) =
    boxes A (sitofp .f32 (constantI S_ 32 0#32)) := by
  after_reads_simp
  rw [hA]
  rfl

/-- The ground-truth boxes after them. -/
theorem tail_truths (hG : U (Proc.devRef .tc main_arg1) = G) : after (hostOps0.drop 784) U (Proc.devRef .tc main_call0_v14) = truths G := by
  after_reads_simp
  rw [hG]
  rfl

/-- The labels after them. -/
theorem tail_labels (hL : U (Proc.devRef .tc main_arg2) = L) : after (hostOps0.drop 784) U (Proc.devRef .tc main_call0_v15) = labels L := by
  after_reads_simp
  rw [hL]
  rfl

/-- The padded draws after them. -/
theorem tail_draws (hD : U (Proc.devRef .tc main_call0_v7) = D) : after (hostOps0.drop 784) U (Proc.devRef .tc main_call0_v9) =
    draws D (constantI S_ 32 0#32) := by
  after_reads_simp
  rw [show U (Proc.devRef .tc main_call0_call0.v73.ref) = D from hD]
  rfl

end

section

variable (X0 : FVec Ideal S16x4x40x128 .f32) (X1 : FVec Ideal S16x4x100x1 .f32) (X2 : IVec S16x100x1 32) (X3 : IVec S16x40x128 32) (u : Fin 4)

/-- Four images of each of the kernel's operands, the `u`-th four. -/
def four0 : Vec Ideal S4x4x40x128 .f32 := fun i => X0 (ix4 ⟨u.val * 4 + (i 0).val, by have := (i 0).isLt; have := u.isLt; simp at *; omega⟩ (i 1) (i 2) (i 3))
/-- Of the ground-truth boxes. -/
def four1 : Vec Ideal S4x4x100x1 .f32 := fun i => X1 (ix4 ⟨u.val * 4 + (i 0).val, by have := (i 0).isLt; have := u.isLt; simp at *; omega⟩ (i 1) (i 2) (i 3))
/-- Of the labels. -/
def four2 : Vec Ideal S4x100x1 .i32 := fun i => X2 (ix3 ⟨u.val * 4 + (i 0).val, by have := (i 0).isLt; have := u.isLt; simp at *; omega⟩ (i 1) (i 2))
/-- Of the draws. -/
def four3 : Vec Ideal S4x40x128 .i32 := fun i => X3 (ix3 ⟨u.val * 4 + (i 0).val, by have := (i 0).isLt; have := u.isLt; simp at *; omega⟩ (i 1) (i 2))

/-- They are what the kernel program cuts out. -/
theorem cut0 (o : ℕ) (ho : o = u.val * 4) (h : S16x4x40x128.Slices ![o, 0, 0, 0] S4x4x40x128) : extractStridedSlice S4x4x40x128 ![o, 0, 0, 0] X0 h = four0 X0 u := by
  subst ho
  funext i
  refine congrArg X0 (funext fun a => ?_)
  fin_cases a <;> first | rfl | exact Fin.ext (Nat.zero_add _)

/-- The cut of the ground-truth boxes. -/
theorem cut1 (o : ℕ) (ho : o = u.val * 4) (h : S16x4x100x1.Slices ![o, 0, 0, 0] S4x4x100x1) : extractStridedSlice S4x4x100x1 ![o, 0, 0, 0] X1 h = four1 X1 u := by
  subst ho
  funext i
  refine congrArg X1 (funext fun a => ?_)
  fin_cases a <;> first | rfl | exact Fin.ext (Nat.zero_add _)

/-- The cut of the labels. -/
theorem cut2 (o : ℕ) (ho : o = u.val * 4) (h : S16x100x1.Slices ![o, 0, 0] S4x100x1) : extractStridedSlice S4x100x1 ![o, 0, 0] X2 h = four2 X2 u := by
  subst ho
  funext i
  refine congrArg X2 (funext fun a => ?_)
  fin_cases a <;> first | rfl | exact Fin.ext (Nat.zero_add _)

/-- The cut of the draws. -/
theorem cut3 (o : ℕ) (ho : o = u.val * 4) (h : S16x40x128.Slices ![o, 0, 0] S4x40x128) : extractStridedSlice S4x40x128 ![o, 0, 0] X3 h = four3 X3 u := by
  subst ho
  funext i
  refine congrArg X3 (funext fun a => ?_)
  fin_cases a <;> first | rfl | exact Fin.ext (Nat.zero_add _)

/-- The two results of a call over the `u`-th four images. -/
def part4 : FVec Ideal S4x5000x84 .f32 := back4 (all4 (four0 X0 u) (four1 X1 u) (four2 X2 u) (four3 X3 u))
/-- The second one. -/
def part5 : FVec Ideal S4x5000x21 .f32 := back5 (all5 (four0 X0 u) (four1 X1 u) (four2 X2 u) (four3 X3 u))

end

section

variable (U : Valuation τ sig (Elt Ideal)) (X0 : FVec Ideal S16x4x40x128 .f32) (X1 : FVec Ideal S16x4x100x1 .f32) (X2 : IVec S16x100x1 32) (X3 : IVec S16x40x128 32)
  (h0 : U (Proc.devRef .tc main_call0_v12) = X0) (h1 : U (Proc.devRef .tc main_call0_v14) = X1)
  (h2 : U (Proc.devRef .tc main_call0_v15) = X2) (h3 : U (Proc.devRef .tc main_call0_v9) = X3)

include h0 h1 h2 h3 in
/-- What the second call reads. -/
theorem ops1_in : after hostOps1 U (Proc.devRef .tc main_call0_v27) = four0 X0 1 ∧ after hostOps1 U (Proc.devRef .tc main_call0_v28) = four1 X1 1
    ∧ after hostOps1 U (Proc.devRef .tc main_call0_v29) = four2 X2 1 ∧ after hostOps1 U (Proc.devRef .tc main_call0_v30) = four3 X3 1 := by
  refine ⟨?_, ?_, ?_, ?_⟩ <;> after_reads_simp
  · rw [h0]; exact cut0 X0 1 4 rfl slices_S16x4x40x128_S4x4x40x128_4_0_0_0
  · rw [h1]; exact cut1 X1 1 4 rfl slices_S16x4x100x1_S4x4x100x1_4_0_0_0
  · rw [h2]; exact cut2 X2 1 4 rfl slices_S16x100x1_S4x100x1_4_0_0
  · rw [h3]; exact cut3 X3 1 4 rfl slices_S16x40x128_S4x40x128_4_0_0

include h0 h1 h2 h3 in
/-- What the third call reads. -/
theorem ops2_in : after hostOps2 U (Proc.devRef .tc main_call0_v38) = four0 X0 2 ∧ after hostOps2 U (Proc.devRef .tc main_call0_v39) = four1 X1 2
    ∧ after hostOps2 U (Proc.devRef .tc main_call0_v40) = four2 X2 2 ∧ after hostOps2 U (Proc.devRef .tc main_call0_v41) = four3 X3 2 := by
  refine ⟨?_, ?_, ?_, ?_⟩ <;> after_reads_simp
  · rw [h0]; exact cut0 X0 2 8 rfl slices_S16x4x40x128_S4x4x40x128_8_0_0_0
  · rw [h1]; exact cut1 X1 2 8 rfl slices_S16x4x100x1_S4x4x100x1_8_0_0_0
  · rw [h2]; exact cut2 X2 2 8 rfl slices_S16x100x1_S4x100x1_8_0_0
  · rw [h3]; exact cut3 X3 2 8 rfl slices_S16x40x128_S4x40x128_8_0_0

include h0 h1 h2 h3 in
/-- What the fourth call reads. -/
theorem ops3_in : after hostOps3 U (Proc.devRef .tc main_call0_v49) = four0 X0 3 ∧ after hostOps3 U (Proc.devRef .tc main_call0_v50) = four1 X1 3
    ∧ after hostOps3 U (Proc.devRef .tc main_call0_v51) = four2 X2 3 ∧ after hostOps3 U (Proc.devRef .tc main_call0_v52) = four3 X3 3 := by
  refine ⟨?_, ?_, ?_, ?_⟩ <;> after_reads_simp
  · rw [h0]; exact cut0 X0 3 12 rfl slices_S16x4x40x128_S4x4x40x128_12_0_0_0
  · rw [h1]; exact cut1 X1 3 12 rfl slices_S16x4x100x1_S4x4x100x1_12_0_0_0
  · rw [h2]; exact cut2 X2 3 12 rfl slices_S16x100x1_S4x100x1_12_0_0
  · rw [h3]; exact cut3 X3 3 12 rfl slices_S16x40x128_S4x40x128_12_0_0

/-- What becomes of the first call's results. -/
theorem ops1_out (O4 : FVec Ideal S4x21x4x40x128 .f32) (O5 : FVec Ideal S4x21x40x128 .f32) (e4 : U (Proc.devRef .tc main_call0_v20_0) = O4)
    (e5 : U (Proc.devRef .tc main_call0_v20_1) = O5) : after hostOps1 U (Proc.devRef .tc main_call0_v23) = back4 O4 ∧
    after hostOps1 U (Proc.devRef .tc main_call0_v26) = back5 O5 := by
  constructor <;> after_reads_simp
  · rw [e4]; rfl
  · rw [e5]; rfl

/-- What becomes of the second call's results. -/
theorem ops2_out (O4 : FVec Ideal S4x21x4x40x128 .f32) (O5 : FVec Ideal S4x21x40x128 .f32) (e4 : U (Proc.devRef .tc main_call0_v31_0) = O4)
    (e5 : U (Proc.devRef .tc main_call0_v31_1) = O5) : after hostOps2 U (Proc.devRef .tc main_call0_v34) = back4 O4 ∧
    after hostOps2 U (Proc.devRef .tc main_call0_v37) = back5 O5 := by
  constructor <;> after_reads_simp
  · rw [e4]; rfl
  · rw [e5]; rfl

/-- What becomes of the third call's results. -/
theorem ops3_out (O4 : FVec Ideal S4x21x4x40x128 .f32) (O5 : FVec Ideal S4x21x40x128 .f32) (e4 : U (Proc.devRef .tc main_call0_v42_0) = O4)
    (e5 : U (Proc.devRef .tc main_call0_v42_1) = O5) : after hostOps3 U (Proc.devRef .tc main_call0_v45) = back4 O4 ∧
    after hostOps3 U (Proc.devRef .tc main_call0_v48) = back5 O5 := by
  constructor <;> after_reads_simp
  · rw [e4]; rfl
  · rw [e5]; rfl

/-- The last operations put the calls' results together. -/
theorem joined : after (hostOps4.drop 6) U (Proc.devRef .tc main_v0_0) =
      join4 (U (Proc.devRef .tc main_call0_v23)) (U (Proc.devRef .tc main_call0_v34)) (U (Proc.devRef .tc main_call0_v45)) (U (Proc.devRef .tc main_call0_v56)) ∧
    after (hostOps4.drop 6) U (Proc.devRef .tc main_v0_1) =
      join5 (U (Proc.devRef .tc main_call0_v26)) (U (Proc.devRef .tc main_call0_v37)) (U (Proc.devRef .tc main_call0_v48)) (U (Proc.devRef .tc main_call0_v59)) := by
  constructor <;> after_reads_simp
  · rfl
  · rfl

/-- Running two lists of operations, one after the other. -/
theorem after_two (l₁ l₂ : List (HloOp τ sig (Elt Ideal))) (U : Valuation τ sig (Elt Ideal)) : after (l₁ ++ l₂) U = after l₂ (after l₁ U) := by
  induction l₁ generalizing U with
  | nil => rfl
  | cons op l ih => exact ih _

/-- What becomes of the fourth call's results. -/
theorem last_out (O4 : FVec Ideal S4x21x4x40x128 .f32) (O5 : FVec Ideal S4x21x40x128 .f32)
    (e4 : U (Proc.devRef .tc main_call0_v53_0) = O4) (e5 : U (Proc.devRef .tc main_call0_v53_1) = O5) :
    after (hostOps4.take 6) U (Proc.devRef .tc main_call0_v56) = back4 O4 ∧ after (hostOps4.take 6) U (Proc.devRef .tc main_call0_v59) = back5 O5 := by
  constructor <;> after_reads_simp
  · rw [e4]; rfl
  · rw [e5]; rfl

/-- The other calls' results are unchanged meanwhile. -/
theorem last_keeps {r : Ref sig .tc} (h : r ∉ hostOps4_W.take 6) :
    after (hostOps4.take 6) U (Proc.devRef .tc r) = U (Proc.devRef .tc r) :=
  after_of_writes_sub (W := hostOps4_W.take 6) _ _ (forall_writes_sub_of_map rfl) h

/-- The two results of the kernel program, of its calls' results. -/
theorem ops4_out (P : Fin 4 → FVec Ideal S4x5000x84 .f32) (Q : Fin 4 → FVec Ideal S4x5000x21 .f32) (O4 : FVec Ideal S4x21x4x40x128 .f32) (O5 : FVec Ideal S4x21x40x128 .f32)
    (p0 : U (Proc.devRef .tc main_call0_v23) = P 0) (p1 : U (Proc.devRef .tc main_call0_v34) = P 1) (p2 : U (Proc.devRef .tc main_call0_v45) = P 2)
    (q0 : U (Proc.devRef .tc main_call0_v26) = Q 0) (q1 : U (Proc.devRef .tc main_call0_v37) = Q 1) (q2 : U (Proc.devRef .tc main_call0_v48) = Q 2)
    (e4 : U (Proc.devRef .tc main_call0_v53_0) = O4) (e5 : U (Proc.devRef .tc main_call0_v53_1) = O5) (p3 : back4 O4 = P 3) (q3 : back5 O5 = Q 3) :
    after hostOps4 U (Proc.devRef .tc main_v0_0) = join4 (P 0) (P 1) (P 2) (P 3) ∧
    after hostOps4 U (Proc.devRef .tc main_v0_1) = join5 (Q 0) (Q 1) (Q 2) (Q 3) := by
  have h : after hostOps4 U = after (hostOps4.drop 6) (after (hostOps4.take 6) U) := by
    rw [← after_two, List.take_append_drop]
  rw [h]
  refine ⟨(joined _).1.trans ?_, (joined _).2.trans ?_⟩
  · rw [last_keeps U (by decide +kernel), last_keeps U (by decide +kernel), last_keeps U (by decide +kernel), (last_out U O4 O5 e4 e5).1, p0, p1, p2, p3]
  · rw [last_keeps U (by decide +kernel), last_keeps U (by decide +kernel), last_keeps U (by decide +kernel), (last_out U O4 O5 e4 e5).2, q0, q1, q2, q3]

end

end Cert.Outer

end
-- ==== Proof.KernelRun.lean ====
module

public import proofs.«01_k».proof.Proof.Gen.KernelIdeal.Frame
public import Idealize.ShloMosaic.PureOps.Ideal

@[expose] public section

set_option maxRecDepth 16384

/-! The run of the kernel's program: it ends, and what its two results hold then. -/

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every run of the program ends with the two results as the last host operations leave them, the arguments as they were. -/
theorem run : θ_run defs (onTc (τ := τ) (main (F := Ideal))) ⟨m, fun _ => 0, ρ⟩ (fun r => ∀ c : Dev nD,
      r.2.mem ((c.tc : Thread nD τ).loc main_v0_0) = W9 m ρ c (Proc.devRef .tc main_v0_0)
      ∧ r.2.mem ((c.tc : Thread nD τ).loc main_v0_1) = W9 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨h c _ (mem_uc main_v0_0 (by decide)), h c _ (mem_uc main_v0_1 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c)⟩)

end Cert.KernelIdeal.Run

end
-- ==== Proof.Chain.lean ====
/- The kernel program's results, of what stands before its calls. -/
module

public import proofs.«01_k».proof.Proof.Outer
public import proofs.«01_k».proof.Proof.KernelRun

@[expose] public section

set_option maxRecDepth 65536
set_option maxHeartbeats 400000

noncomputable section

namespace Cert.Chain

open Idealize.ShloMosaic Idealize.ShloMosaic.TcCoe Cert.KernelIdeal Cert.KernelIdeal.Gen Cert.Block Cert.Layout Cert.Outer
open Idealize.ShloMosaic.StableHlo

section

variable (U : Valuation τ sig (Elt Ideal)) (A : FVec Ideal S16x5000x4 .f32) (G : FVec Ideal S16x100x4 .f32) (L : IVec S16x100 32)
  (D : IVec S16x5000 32) (hA : U (Proc.devRef .tc main_arg0) = A) (hG : U (Proc.devRef .tc main_arg1) = G)
  (hL : U (Proc.devRef .tc main_arg2) = L) (hD : U (Proc.devRef .tc main_call0_v7) = D)

include hA hG hL hD in
/-- What the first call reads. -/
theorem ops0_in : after (hostOps0.drop 784) U (Proc.devRef .tc main_call0_v16) = four0 (boxes A (sitofp .f32 (constantI S_ 32 0#32))) 0 ∧
    after (hostOps0.drop 784) U (Proc.devRef .tc main_call0_v17) = four1 (truths G) 0 ∧
    after (hostOps0.drop 784) U (Proc.devRef .tc main_call0_v18) = four2 (labels L) 0 ∧
    after (hostOps0.drop 784) U (Proc.devRef .tc main_call0_v19) = four3 (draws D (constantI S_ 32 0#32)) 0 := by
  refine ⟨?_, ?_, ?_, ?_⟩ <;> after_reads_simp
  · rw [hA]; exact cut0 (boxes A _) 0 0 rfl slices_S16x4x40x128_S4x4x40x128_0_0_0_0
  · rw [hG]; exact cut1 (truths G) 0 0 rfl slices_S16x4x100x1_S4x4x100x1_0_0_0_0
  · rw [hL]; exact cut2 (labels L) 0 0 rfl slices_S16x100x1_S4x100x1_0_0_0
  · rw [show U (Proc.devRef .tc main_call0_call0.v73.ref) = D from hD]; exact cut3 (draws D _) 0 0 rfl slices_S16x40x128_S4x40x128_0_0_0

/-- The arguments are not written after the drawing of the numbers. -/
theorem tail_keeps {r : Ref sig .tc} (h : r ∉ hostOps0_W.drop 784) :
    after (hostOps0.drop 784) U (Proc.devRef .tc r) = U (Proc.devRef .tc r) :=
  after_of_writes_sub (W := hostOps0_W.drop 784) _ _ (forall_writes_sub_of_map rfl) h

end

variable (m : (ℓ : Loc nD τ sig) → Buf (Elt Ideal) ℓ) (ρ : Dev nD → PrngReg) (c : Dev nD)
  (X0 : FVec Ideal S16x4x40x128 .f32) (X1 : FVec Ideal S16x4x100x1 .f32) (X2 : IVec S16x100x1 32) (X3 : IVec S16x40x128 32)

/-- The four arrays the calls take their images from, at a stage of the program. -/
def Stand (U : Valuation τ sig (Elt Ideal)) : Prop := U (Proc.devRef .tc main_call0_v12) = X0 ∧ U (Proc.devRef .tc main_call0_v14) = X1 ∧
  U (Proc.devRef .tc main_call0_v15) = X2 ∧ U (Proc.devRef .tc main_call0_v9) = X3

/-- They stand unchanged where nothing writes them. -/
theorem Stand.next {U U' : Valuation τ sig (Elt Ideal)} (h : Stand X0 X1 X2 X3 U)
    (e0 : U' (Proc.devRef .tc main_call0_v12) = U (Proc.devRef .tc main_call0_v12)) (e1 : U' (Proc.devRef .tc main_call0_v14) = U (Proc.devRef .tc main_call0_v14))
    (e2 : U' (Proc.devRef .tc main_call0_v15) = U (Proc.devRef .tc main_call0_v15)) (e3 : U' (Proc.devRef .tc main_call0_v9) = U (Proc.devRef .tc main_call0_v9)) :
    Stand X0 X1 X2 X3 U' := ⟨e0.trans h.1, e1.trans h.2.1, e2.trans h.2.2.1, e3.trans h.2.2.2⟩

variable (h1 : Stand X0 X1 X2 X3 (W1 m ρ c))
include h1

/-- They stand at stage 2. -/
theorem stand2 : Stand X0 X1 X2 X3 (W2 m ρ c) :=
  h1.next _ _ _ _ (W2_of m ρ c _ (by decide +kernel)) (W2_of m ρ c _ (by decide +kernel))
    (W2_of m ρ c _ (by decide +kernel)) (W2_of m ρ c _ (by decide +kernel))

/-- They stand at stage 3. -/
theorem stand3 : Stand X0 X1 X2 X3 (W3 m ρ c) :=
  (stand2 m ρ c X0 X1 X2 X3 h1).next _ _ _ _ (W3_of m ρ c _ (by decide +kernel)) (W3_of m ρ c _ (by decide +kernel))
    (W3_of m ρ c _ (by decide +kernel)) (W3_of m ρ c _ (by decide +kernel))

/-- They stand at stage 4. -/
theorem stand4 : Stand X0 X1 X2 X3 (W4 m ρ c) :=
  (stand3 m ρ c X0 X1 X2 X3 h1).next _ _ _ _ (W4_of m ρ c _ (by decide +kernel)) (W4_of m ρ c _ (by decide +kernel))
    (W4_of m ρ c _ (by decide +kernel)) (W4_of m ρ c _ (by decide +kernel))

/-- They stand at stage 5. -/
theorem stand5 : Stand X0 X1 X2 X3 (W5 m ρ c) :=
  (stand4 m ρ c X0 X1 X2 X3 h1).next _ _ _ _ (W5_of m ρ c _ (by decide +kernel)) (W5_of m ρ c _ (by decide +kernel))
    (W5_of m ρ c _ (by decide +kernel)) (W5_of m ρ c _ (by decide +kernel))

/-- They stand at stage 6. -/
theorem stand6 : Stand X0 X1 X2 X3 (W6 m ρ c) :=
  (stand5 m ρ c X0 X1 X2 X3 h1).next _ _ _ _ (W6_of m ρ c _ (by decide +kernel)) (W6_of m ρ c _ (by decide +kernel))
    (W6_of m ρ c _ (by decide +kernel)) (W6_of m ρ c _ (by decide +kernel))

/-- They stand at stage 7. -/
theorem stand7 : Stand X0 X1 X2 X3 (W7 m ρ c) :=
  (stand6 m ρ c X0 X1 X2 X3 h1).next _ _ _ _ (W7_of m ρ c _ (by decide +kernel)) (W7_of m ρ c _ (by decide +kernel))
    (W7_of m ρ c _ (by decide +kernel)) (W7_of m ρ c _ (by decide +kernel))

omit h1

/-- What call 0 leaves in its two results. -/
theorem call0_out (hin : W1 m ρ c (Proc.devRef .tc main_call0_v16) = four0 X0 0 ∧ W1 m ρ c (Proc.devRef .tc main_call0_v17) = four1 X1 0
    ∧ W1 m ρ c (Proc.devRef .tc main_call0_v18) = four2 X2 0 ∧ W1 m ρ c (Proc.devRef .tc main_call0_v19) = four3 X3 0) :
    W2 m ρ c (Proc.devRef .tc main_call0_v20_0) = all4 (four0 X0 0) (four1 X1 0) (four2 X2 0) (four3 X3 0) ∧
    W2 m ρ c (Proc.devRef .tc main_call0_v20_1) = all5 (four0 X0 0) (four1 X1 0) (four2 X2 0) (four3 X3 0) := by
  obtain ⟨e0, e1, e2, e3⟩ := hin
  rw [← e0, ← e1, ← e2, ← e3]
  exact ⟨(W2_arr m ρ c 4).trans (Call0.result4 (V1 m ρ) c), (W2_arr m ρ c 5).trans (Call0.result5 (V1 m ρ) c)⟩

/-- What call 1 leaves in its two results. -/
theorem call1_out (hin : W3 m ρ c (Proc.devRef .tc main_call0_v27) = four0 X0 1 ∧ W3 m ρ c (Proc.devRef .tc main_call0_v28) = four1 X1 1
    ∧ W3 m ρ c (Proc.devRef .tc main_call0_v29) = four2 X2 1 ∧ W3 m ρ c (Proc.devRef .tc main_call0_v30) = four3 X3 1) :
    W4 m ρ c (Proc.devRef .tc main_call0_v31_0) = all4 (four0 X0 1) (four1 X1 1) (four2 X2 1) (four3 X3 1) ∧
    W4 m ρ c (Proc.devRef .tc main_call0_v31_1) = all5 (four0 X0 1) (four1 X1 1) (four2 X2 1) (four3 X3 1) := by
  obtain ⟨e0, e1, e2, e3⟩ := hin
  rw [← e0, ← e1, ← e2, ← e3]
  exact ⟨(W4_arr m ρ c 4).trans (Call1.result4 (V3 m ρ) c), (W4_arr m ρ c 5).trans (Call1.result5 (V3 m ρ) c)⟩

/-- What call 2 leaves in its two results. -/
theorem call2_out (hin : W5 m ρ c (Proc.devRef .tc main_call0_v38) = four0 X0 2 ∧ W5 m ρ c (Proc.devRef .tc main_call0_v39) = four1 X1 2
    ∧ W5 m ρ c (Proc.devRef .tc main_call0_v40) = four2 X2 2 ∧ W5 m ρ c (Proc.devRef .tc main_call0_v41) = four3 X3 2) :
    W6 m ρ c (Proc.devRef .tc main_call0_v42_0) = all4 (four0 X0 2) (four1 X1 2) (four2 X2 2) (four3 X3 2) ∧
    W6 m ρ c (Proc.devRef .tc main_call0_v42_1) = all5 (four0 X0 2) (four1 X1 2) (four2 X2 2) (four3 X3 2) := by
  obtain ⟨e0, e1, e2, e3⟩ := hin
  rw [← e0, ← e1, ← e2, ← e3]
  exact ⟨(W6_arr m ρ c 4).trans (Call2.result4 (V5 m ρ) c), (W6_arr m ρ c 5).trans (Call2.result5 (V5 m ρ) c)⟩

/-- What call 3 leaves in its two results. -/
theorem call3_out (hin : W7 m ρ c (Proc.devRef .tc main_call0_v49) = four0 X0 3 ∧ W7 m ρ c (Proc.devRef .tc main_call0_v50) = four1 X1 3
    ∧ W7 m ρ c (Proc.devRef .tc main_call0_v51) = four2 X2 3 ∧ W7 m ρ c (Proc.devRef .tc main_call0_v52) = four3 X3 3) :
    W8 m ρ c (Proc.devRef .tc main_call0_v53_0) = all4 (four0 X0 3) (four1 X1 3) (four2 X2 3) (four3 X3 3) ∧
    W8 m ρ c (Proc.devRef .tc main_call0_v53_1) = all5 (four0 X0 3) (four1 X1 3) (four2 X2 3) (four3 X3 3) := by
  obtain ⟨e0, e1, e2, e3⟩ := hin
  rw [← e0, ← e1, ← e2, ← e3]
  exact ⟨(W8_arr m ρ c 4).trans (Call3.result4 (V7 m ρ) c), (W8_arr m ρ c 5).trans (Call3.result5 (V7 m ρ) c)⟩

include h1 in
/-- The two results of the kernel program, each joined of what the four calls give. -/
theorem results (g : W1 m ρ c (Proc.devRef .tc main_call0_v16) = four0 X0 0 ∧ W1 m ρ c (Proc.devRef .tc main_call0_v17) = four1 X1 0
    ∧ W1 m ρ c (Proc.devRef .tc main_call0_v18) = four2 X2 0 ∧ W1 m ρ c (Proc.devRef .tc main_call0_v19) = four3 X3 0) :
    W9 m ρ c (Proc.devRef .tc main_v0_0) = join4 (part4 X0 X1 X2 X3 0) (part4 X0 X1 X2 X3 1) (part4 X0 X1 X2 X3 2) (part4 X0 X1 X2 X3 3) ∧
    W9 m ρ c (Proc.devRef .tc main_v0_1) = join5 (part5 X0 X1 X2 X3 0) (part5 X0 X1 X2 X3 1) (part5 X0 X1 X2 X3 2) (part5 X0 X1 X2 X3 3) := by
  have o0 := call0_out m ρ c X0 X1 X2 X3 g
  have s2 := stand2 m ρ c X0 X1 X2 X3 h1
  have s4 := stand4 m ρ c X0 X1 X2 X3 h1
  have s6 := stand6 m ρ c X0 X1 X2 X3 h1
  have o1 := call1_out m ρ c X0 X1 X2 X3 (ops1_in _ X0 X1 X2 X3 s2.1 s2.2.1 s2.2.2.1 s2.2.2.2)
  have o2 := call2_out m ρ c X0 X1 X2 X3 (ops2_in _ X0 X1 X2 X3 s4.1 s4.2.1 s4.2.2.1 s4.2.2.2)
  have o3 := call3_out m ρ c X0 X1 X2 X3 (ops3_in _ X0 X1 X2 X3 s6.1 s6.2.1 s6.2.2.1 s6.2.2.2)
  have b0 := ops1_out (W2 m ρ c) _ _ o0.1 o0.2
  have b1 := ops2_out (W4 m ρ c) _ _ o1.1 o1.2
  have b2 := ops3_out (W6 m ρ c) _ _ o2.1 o2.2
  have k8 {r : Ref sig .tc} (h : ∀ w : Fin cfg3.W, Pipeline.arrRef spec3 w = r → (cfg3.win w).isOut = false) := W8_of m ρ c r h
  have k6 {r : Ref sig .tc} (h8 : ∀ w : Fin cfg3.W, Pipeline.arrRef spec3 w = r → (cfg3.win w).isOut = false) (h7 : r ∉ hostOps3_W)
      (h6 : ∀ w : Fin cfg2.W, Pipeline.arrRef spec2 w = r → (cfg2.win w).isOut = false) :=
    (W8_of m ρ c r h8).trans ((W7_of m ρ c r h7).trans (W6_of m ρ c r h6))
  have k4 {r : Ref sig .tc} (h5 : r ∉ hostOps2_W) (h4 : ∀ w : Fin cfg1.W, Pipeline.arrRef spec1 w = r → (cfg1.win w).isOut = false) :=
    (W5_of m ρ c r h5).trans (W4_of m ρ c r h4)
  exact ops4_out (W8 m ρ c) (part4 X0 X1 X2 X3) (part5 X0 X1 X2 X3) _ _
    ((k6 (by decide +kernel) (by decide +kernel) (by decide +kernel)).trans ((k4 (by decide +kernel) (by decide +kernel)).trans b0.1))
    ((k6 (by decide +kernel) (by decide +kernel) (by decide +kernel)).trans b1.1)
    ((k8 (by decide +kernel)).trans b2.1)
    ((k6 (by decide +kernel) (by decide +kernel) (by decide +kernel)).trans ((k4 (by decide +kernel) (by decide +kernel)).trans b0.2))
    ((k6 (by decide +kernel) (by decide +kernel) (by decide +kernel)).trans b1.2)
    ((k8 (by decide +kernel)).trans b2.2)
    o3.1 o3.2 rfl rfl

end Cert.Chain

end
-- ==== Proof.Spec.lean ====
/- What both programs compute for one image, in plain words and numbers. -/
module

public import proofs.«01_k».proof.Proof.Delta
public import proofs.«01_k».proof.Proof.First
public import proofs.«01_k».proof.Proof.Count

@[expose] public section

set_option maxRecDepth 65536

noncomputable section

namespace Cert.Spec

open Idealize.ShloMosaic Cert.Block

/-- A choice by the truth of a statement. -/
theorem select_dec {α : Type} (P : Prop) [Decidable P] (x y : α) : Scalar.select (BitVec.ofBool (decide P)) x y = if P then x else y := by
  by_cases h : P
  · rw [if_pos h, decide_eq_true h]; rfl
  · rw [if_neg h, decide_eq_false h]; rfl

variable (a : Fin 5000 → Fin 4 → EReal) (g : Fin 100 → Fin 4 → EReal) (lb : Fin 100 → BitVec 32) (dr : Fin 5000 → ℕ)

/-- The first ground-truth box that overlaps a box the most. -/
def first (p : Fin 5000) : Fin 100 := Classical.choose (First.exists_first fun j => Delta.overlap (a p) (g j))

/-- It is the first of the largest overlap. -/
theorem first_spec (p : Fin 5000) : First.IsFirst (fun j => Delta.overlap (a p) (g j)) (first a g p) :=
  Classical.choose_spec (First.exists_first fun j => Delta.overlap (a p) (g j))

/-- A box is positive when it overlaps a ground-truth box by more than a half. -/
def Pos (p : Fin 5000) : Prop := Ideal.ofBits FTy.f32 1056964608#32 < Delta.overlap (a p) (g (first a g p))

/-- Either it is or it isn't. -/
instance : DecidablePred (Pos a g) := Classical.decPred _

/-- A box is picked when it is positive and fewer than 128 boxes are sorted before it. -/
def Picked (p : Fin 5000) : Prop := Pos a g p ∧ (Finset.univ.filter fun q => sortKey (Pos a g) dr q < sortKey (Pos a g) dr p ∨
  (sortKey (Pos a g) dr q = sortKey (Pos a g) dr p ∧ q < p)).card < 128

/-- Either it is or it isn't. -/
instance : DecidablePred (Picked a g dr) := Classical.decPred _

/-- A box's label: its ground-truth box's where it is picked, −1 elsewhere. -/
def label (p : Fin 5000) : BitVec 32 := if Picked a g dr p then lb (first a g p) else 4294967295#32

/-- The box to aim at: the ground-truth box where the box is picked, zero elsewhere. -/
def target (p : Fin 5000) (k : Fin 4) : EReal := if Picked a g dr p then g (first a g p) k else 0

/-- One where the class is the box's label, zero elsewhere. -/
def hot (p : Fin 5000) (c : Fin 21) : EReal := if label a g lb dr p = BitVec.ofNat 32 c.val then 1 else 0

/-- The four numbers at the class of the box's label, zero at the others. -/
def offsets (p : Fin 5000) (c : Fin 21) (k : Fin 4) : EReal := hot a g lb dr p c * Delta.delta (a p) (target a g dr p) k

end Cert.Spec

end
-- ==== Proof.BlockSpec.lean ====
/- What one block of the kernel leaves, for a whole image. -/
module

public import proofs.«01_k».proof.Proof.Spec
public import proofs.«01_k».proof.Proof.BlockValue
public import proofs.«01_k».proof.Proof.Pick

@[expose] public section

set_option maxRecDepth 65536
set_option maxHeartbeats 400000

noncomputable section

namespace Cert.Block

open Idealize.ShloMosaic Idealize.ShloMosaic.TcCoe Cert.KernelIdeal Cert.KernelIdeal.Gen
open Idealize.ShloMosaic.Pipeline

variable (a : Fin 5000 → Fin 4 → EReal) (g : Fin 100 → Fin 4 → EReal) (lb : Fin 100 → BitVec 32) (dr : Fin 5000 → ℕ)
  (x0 : Boxes) (x1 : Truths) (x2 : Labels) (x3 : Draws)
  (h0 : ∀ p q, x0 (ix4 0 q (cell p).1 (cell p).2) = a p q) (h1 : ∀ j q, x1 (ix4 0 q j 0) = g j q)
  (h2 : ∀ j, x2 (ix3 0 j 0) = lb j)
  (h3 : ∀ (r : Fin 40) (l : Fin 128), x3 (ix3 0 r l) = if h : r.val * 128 + l.val < 5000 then BitVec.ofNat 32 (dr ⟨r.val * 128 + l.val, h⟩) else 0#32)
  (hlo : ∀ q, 1 ≤ dr q) (hhi : ∀ q, dr q ≤ 1279) (p : Fin 5000)

/-- Four values in a row. -/
theorem four (f : Fin 4 → EReal) : (![f 0, f 1, f 2, f 3] : Fin 4 → EReal) = f := by
  funext q
  fin_cases q <;> rfl

/-- A coordinate to aim at. -/
theorem aim (q : Fin 4) : (Scalar.select (BitVec.ofBool (decide (Spec.Picked a g dr p))) (g (Spec.first a g p) q) 0 : EReal) = Spec.target a g dr p q :=
  Spec.select_dec _ _ _

include h0 h1

/-- The first largest overlap, of the block's arrays. -/
theorem first_block : First.IsFirst (fun j => Delta.overlap (fun q => x0 (ix4 0 q (cell p).1 (cell p).2)) (fun q => x1 (ix4 0 q j 0)))
    (Spec.first a g p) := by
  simpa only [h0, h1] using Spec.first_spec a g p

/-- Which boxes are positive, by the block's arrays. -/
theorem pos_block : Ideal.ofBits FTy.f32 1056964608#32 < best x0 x1 (ix2 (cell p).1 (cell p).2) ↔ Spec.Pos a g p := by
  rw [best_eq x0 x1 _ _ _ (first_block a g x0 x1 h0 h1 p)]
  simp only [h0, h1]
  rfl

include h3 hlo hhi

/-- The block picks the same boxes. -/
theorem sel_block : sel x0 x1 x3 (ix2 (cell p).1 (cell p).2) = BitVec.ofBool (decide (Spec.Picked a g dr p)) := by
  let pos : Fin 40 × Fin 128 → Prop := fun x => Ideal.ofBits FTy.f32 1056964608#32 < best x0 x1 (ix2 x.1 x.2)
  let d : Fin 40 × Fin 128 → ℕ := fun x => if h : x.1.val * 128 + x.2.val < 5000 then dr ⟨x.1.val * 128 + x.2.val, h⟩ else 0
  letI : DecidablePred pos := Classical.decPred _
  have hd : ∀ q, d (cell q) = dr q := fun q => by
    have e : (cell q).1.val * 128 + (cell q).2.val = q.val := by
      show q.val / 128 * 128 + q.val % 128 = q.val
      omega
    have hq : (cell q).1.val * 128 + (cell q).2.val < 5000 := by omega
    show (if h : _ then _ else _) = _
    rw [dif_pos hq]
    exact congrArg dr (Fin.ext e)
  refine (keep_bit (best x0 x1) x3 pos d (fun r l => Iff.rfl) (fun r l => ?_) (fun x => ?_) (cell p).1 (cell p).2).trans ?_
  · rw [h3]
    show _ = BitVec.ofNat 32 (if h : _ then _ else _)
    split <;> rfl
  · show (if h : _ then _ else _) ≤ _
    split
    · exact hhi _
    · omega
  · refine congrArg BitVec.ofBool (decide_eq_decide.2 ?_)
    have hp : pos (cell p) ↔ Spec.Pos a g p := pos_block a g x0 x1 h0 h1 p
    refine ⟨fun ⟨u, v⟩ => ⟨hp.1 u, ?_⟩, fun ⟨u, v⟩ => ⟨hp.2 u, ?_⟩⟩
    · rw [← before_card (Spec.Pos a g) dr pos d hlo (fun q => pos_block a g x0 x1 h0 h1 q) hd (fun x hx => dif_neg (by omega)) p (hp.1 u)]
      exact v
    · refine lt_of_eq_of_lt (before_card (Spec.Pos a g) dr pos d hlo (fun q => pos_block a g x0 x1 h0 h1 q) hd (fun x hx => dif_neg (by omega)) p u) v

include h2

/-- The block's labels. -/
theorem label_block : lab x0 x1 x2 x3 (ix2 (cell p).1 (cell p).2) = Spec.label a g lb dr p := by
  rw [lab_at x0 x1 x2 x3 _ _ _ (first_block a g x0 x1 h0 h1 p), sel_block a g dr x0 x1 x3 h0 h1 h3 hlo hhi p, Spec.select_dec, h2]
  rfl

/-- The block's second result. -/
theorem hot_block (c : Fin 21) : B5 x0 x1 x2 x3 (ix4 0 c (cell p).1 (cell p).2) = Spec.hot a g lb dr p c := by
  rw [B5_of, label_block a g lb dr x0 x1 x2 x3 h0 h1 h2 h3 hlo hhi p]
  show (((BitVec.setWidth 32 (BitVec.ofBool (Spec.label a g lb dr p == BitVec.ofNat 32 c.val))).toInt : ℝ) : EReal) = if _ then _ else _
  by_cases h : Spec.label a g lb dr p = BitVec.ofNat 32 c.val
  · rw [if_pos h, beq_iff_eq.2 h, show (BitVec.setWidth 32 (BitVec.ofBool true)).toInt = 1 by decide]
    simp
  · rw [if_neg h, beq_false_of_ne h, show (BitVec.setWidth 32 (BitVec.ofBool false)).toInt = 0 by decide]
    simp

/-- The block's first result. -/
theorem offsets_block (c : Fin 21) (k : Fin 4) : B4 x0 x1 x2 x3 (ix5 0 c k (cell p).1 (cell p).2) = Spec.offsets a g lb dr p c k := by
  have hf := first_block a g x0 x1 h0 h1 p
  have hs := sel_block a g dr x0 x1 x3 h0 h1 h3 hlo hhi p
  have t0 := ey1_at x0 x1 x3 _ _ _ hf
  have t1 := ex1_at x0 x1 x3 _ _ _ hf
  have t2 := ey2_at x0 x1 x3 _ _ _ hf
  rw [hs, h1, aim] at t0 t1 t2
  have ha : (fun q => x0 (ix4 0 q (cell p).1 (cell p).2)) = a p := funext fun q => h0 p q
  rw [B4_of, label_block a g lb dr x0 x1 x2 x3 h0 h1 h2 h3 hlo hhi p, t0, t1, t2, hs, gx2h_at x0 x1 _ _ _ hf, h1, aim, four, ha]
  show Scalar.select (BitVec.ofBool (Spec.label a g lb dr p == BitVec.ofNat 32 c.val)) _ _ = Spec.hot a g lb dr p c * _
  rw [beq_eq_decide, Spec.select_dec]
  unfold Spec.hot
  by_cases h : Spec.label a g lb dr p = BitVec.ofNat 32 c.val
  · rw [if_pos h, if_pos h, one_mul]
  · rw [if_neg h, if_neg h, zero_mul]

end Cert.Block

end
-- ==== Proof.KernelSpec.lean ====
/- What the kernel program's two results hold at a point. -/
module

public import proofs.«01_k».proof.Proof.BlockSpec
public import proofs.«01_k».proof.Proof.Outer

@[expose] public section

set_option maxRecDepth 65536
set_option maxHeartbeats 400000

noncomputable section

namespace Cert.Outer

open Idealize.ShloMosaic Idealize.ShloMosaic.TcCoe Cert.KernelIdeal Cert.KernelIdeal.Gen Cert.Block Cert.Layout

variable (A : FVec Ideal S16x5000x4 .f32) (zf : FVec Ideal S_ .f32) (G : FVec Ideal S16x100x4 .f32) (L : IVec S16x100 32)
  (D : IVec S16x5000 32) (dr : Fin 16 → Fin 5000 → ℕ) (hdr : ∀ n p, D (ix2 n p) = BitVec.ofNat 32 (dr n p))
  (hlo : ∀ n p, 1 ≤ dr n p) (hhi : ∀ n p, dr n p ≤ 1279) (u t : Fin 4) (p : Fin 5000) (c : Fin 21)

/-- Image `t` of the `u`-th four. -/
abbrev image (u t : Fin 4) : Fin 16 := ⟨u.val * 4 + t.val, by omega⟩

include hdr in
/-- The draws an image's block reads. -/
theorem draws_block (n : Fin 16) (r : Fin 40) (l : Fin 128) : draws D (constantI S_ 32 0#32) (ix3 n r l) =
    if h : r.val * 128 + l.val < 5000 then BitVec.ofNat 32 (dr n ⟨r.val * 128 + l.val, h⟩) else 0#32 := by
  rw [draws_at]
  by_cases h : r.val * 128 + l.val < 5000
  · rw [dif_pos h, dif_pos h, hdr]
  · rw [dif_neg h, dif_neg h]; rfl

include hdr hlo hhi

/-- One part of the first result at a point. -/
theorem part4_at (k : Fin 4) : part4 (boxes A zf) (truths G) (labels L) (draws D (constantI S_ 32 0#32)) u (ix3 t p ⟨c.val * 4 + k.val, by omega⟩) =
    Spec.offsets (fun p q => A (ix3 (image u t) p q)) (fun j q => G (ix3 (image u t) j q)) (fun j => L (ix2 (image u t) j)) (dr (image u t)) p c k := by
  unfold part4
  rw [back4_at]
  exact offsets_block _ _ _ _ _ _ _ _ (fun p q => boxes_at A zf (image u t) q p) (fun j q => truths_at G (image u t) q j)
    (fun j => labels_at L (image u t) j) (fun r l => draws_block D dr hdr (image u t) r l) (hlo _) (hhi _) p c k

/-- One part of the second result at a point. -/
theorem part5_at : part5 (boxes A zf) (truths G) (labels L) (draws D (constantI S_ 32 0#32)) u (ix3 t p c) =
    Spec.hot (fun p q => A (ix3 (image u t) p q)) (fun j q => G (ix3 (image u t) j q)) (fun j => L (ix2 (image u t) j)) (dr (image u t)) p c := by
  unfold part5
  rw [back5_at]
  exact hot_block _ _ _ _ _ _ _ _ (fun p q => boxes_at A zf (image u t) q p) (fun j q => truths_at G (image u t) q j)
    (fun j => labels_at L (image u t) j) (fun r l => draws_block D dr hdr (image u t) r l) (hlo _) (hhi _) p c

/-- The two results at a point, by the parts put together. -/
theorem offsets_whole (P : Fin 4 → FVec Ideal S4x5000x84 .f32)
    (hP : P = part4 (boxes A zf) (truths G) (labels L) (draws D (constantI S_ 32 0#32))) (n : Fin 16) (k : Fin 4) :
    join4 (P 0) (P 1) (P 2) (P 3) (ix4 n p c k) =
    Spec.offsets (fun p q => A (ix3 n p q)) (fun j q => G (ix3 n j q)) (fun j => L (ix2 n j)) (dr n) p c k := by
  have e : n = image ⟨n.val / 4, by omega⟩ ⟨n.val % 4, by omega⟩ := Fin.ext (by show n.val = n.val / 4 * 4 + n.val % 4; omega)
  rw [e]
  refine (join4_at P _ _ p c k).trans ?_
  rw [hP]
  exact part4_at A zf G L D dr hdr hlo hhi _ _ p c k

/-- The second result at a point. -/
theorem hot_whole (P : Fin 4 → FVec Ideal S4x5000x21 .f32)
    (hP : P = part5 (boxes A zf) (truths G) (labels L) (draws D (constantI S_ 32 0#32))) (n : Fin 16) :
    join5 (P 0) (P 1) (P 2) (P 3) (ix3 n p c) =
    Spec.hot (fun p q => A (ix3 n p q)) (fun j q => G (ix3 n j q)) (fun j => L (ix2 n j)) (dr n) p c := by
  have e : n = image ⟨n.val / 4, by omega⟩ ⟨n.val % 4, by omega⟩ := Fin.ext (by show n.val = n.val / 4 * 4 + n.val % 4; omega)
  rw [e]
  refine (join5_at P _ _ p c).trans ?_
  rw [hP]
  exact part5_at A zf G L D dr hdr hlo hhi _ _ p c

end Cert.Outer

end
-- ==== Proof.RefStage.lean ====
/- The reference's line cut into stages: what each stage's result is, of the results before it. -/
module

public import proofs.«01_k».proof.Proof.RefRun
public import Idealize.ShloMosaic.Lib.StableHlo.RunRead
public import Idealize.ShloMosaic.Lib.Pipeline.ValueKit

@[expose] public section

set_option maxRecDepth 65536
set_option maxHeartbeats 4000000

noncomputable section

namespace Cert.ReferenceIdeal.Run

open Idealize.ShloMosaic Idealize.ShloMosaic.TcCoe Cert.ReferenceIdeal Idealize.ShloMosaic.StableHlo
open Cert.ReferenceIdeal.Facts₀

variable (V : Valuation τ sig (Elt Ideal)) (d : Dev nD)

/-- Running two lists of operations, one after the other. -/
theorem after_two (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The write sets of the line, in order. -/
theorem line_map (d : Dev nD) :
    (line d).map HloOp.writes = written.map fun r => {Proc.devRef (τ := τ) .tc r} := rfl

/-- What the operations from the `n`-th on don't write is as it was before them. -/
theorem drop_keeps (n : Nat) {b : Ref sig .tc} (hb : b ∉ written.drop n) :
    after ((line d).drop n) V (Proc.devRef .tc b) = V (Proc.devRef .tc b) :=
  after_of_writes_sub _ _ (forall_writes_sub_of_map (by rw [List.map_drop, List.map_drop, line_map])) hb

/-- What a buffer holds at the end, after all the operations. -/
abbrev fin (b : Ref sig .tc) : (Proc.devRef (τ := τ) .tc b).ty.Contents (Elt Ideal) := after (line d) V (Proc.devRef .tc b)

/-- A buffer that isn't written after the first `n` operations holds its last contents by then. -/
theorem by_then (n : Nat) {b : Ref sig .tc} (hb : b ∉ written.drop n) :
    after ((line d).take n) V (Proc.devRef .tc b) = fin V d b := by
  show _ = after (line d) V (Proc.devRef .tc b)
  conv_rhs => rw [← List.take_append_drop n (line d), after_two]
  exact (drop_keeps _ d n hb).symm

/-- The last contents of a buffer that is written among operations `a` to `a + k` and not after. -/
theorem cut (a k : Nat) {b : Ref sig .tc} (hb : b ∉ written.drop (a + k)) :
    fin V d b = after (((line d).drop a).take k) (after ((line d).take a) V) (Proc.devRef .tc b) := by
  rw [← by_then V d (a + k) hb, List.take_add, after_two]

/-- The same, with the contents before the operation `a` forgotten but for what isn't written from there on. -/
theorem stage (a k : Nat) {b : Ref sig .tc} (hb : b ∉ written.drop (a + k)) {Y : (Proc.devRef (τ := τ) .tc b).ty.Contents (Elt Ideal)}
    (h : ∀ U : Valuation τ sig (Elt Ideal), (∀ c : Ref sig .tc, c ∉ written.drop a → U (Proc.devRef .tc c) = fin V d c) →
      after (((line d).drop a).take k) U (Proc.devRef .tc b) = Y) : fin V d b = Y :=
  (cut V d a k hb).trans (h _ fun _ hc => by_then V d a hc)

/-- The overlaps, each of a box and a ground-truth box. -/
theorem v47_at (n : Fin 16) (p : Fin 5000) (m : Fin 100) (A : FVec Ideal S16x5000x4 .f32) (G : FVec Ideal S16x100x4 .f32)
    (hA : V (Proc.devRef .tc main_arg0) = A) (hG : V (Proc.devRef .tc main_arg1) = G) :
    (fin V d main_v47 : FVec Ideal S16x5000x100 .f32) (ix3 n p m) =
    Ideal.div
      (max (min (A (ix3 n p 3)) (G (ix3 n m 3)) - max (A (ix3 n p 1)) (G (ix3 n m 1))) 0 *
        max (min (A (ix3 n p 2)) (G (ix3 n m 2)) - max (A (ix3 n p 0)) (G (ix3 n m 0))) 0)
      ((A (ix3 n p 2) - A (ix3 n p 0)) * (A (ix3 n p 3) - A (ix3 n p 1)) +
          (G (ix3 n m 2) - G (ix3 n m 0)) * (G (ix3 n m 3) - G (ix3 n m 1)) -
          max (min (A (ix3 n p 3)) (G (ix3 n m 3)) - max (A (ix3 n p 1)) (G (ix3 n m 1))) 0 *
            max (min (A (ix3 n p 2)) (G (ix3 n m 2)) - max (A (ix3 n p 0)) (G (ix3 n m 0))) 0 +
        Ideal.ofBits FTy.f32 869711765#32) := by
  rw [← by_then V d 52 (b := main_v47) (by decide +kernel)]
  after_reads_simp
  rw [hA, hG]
  pointwise

section

variable (X : FVec Ideal S16x5000x100 .f32) (hX : fin V d main_v47 = X)
include hX

/-- The index of each box's largest overlap. -/
theorem v48_eq : fin V d main_v48 = (fun j =>
    (Host.argReduce reducer_argmax_f32_i32 X (iotaInDim S16x5000x100 32 2)
      (constant (F := Ideal) S_ .f32 0xFF800000#32) (constantI S_ 32 0#32) reducesTo_S16x5000x100_S16x5000_d2 h_S_ j).2 :
        IVec S16x5000 32) := by
  refine stage V d 52 10 (by decide +kernel) fun U hU => ?_
  have e := (hU main_v47 (by decide +kernel)).trans hX
  after_reads_simp
  rw [e]
  rfl

/-- Which boxes overlap a ground-truth box by more than a half. -/
theorem v51_eq : fin V d main_v51 = (cmpf .ogt (Host.reduce FloatOps.maximumf X (constant (F := Ideal) S_ .f32 0xFF800000#32)
      reducesTo_S16x5000x100_S16x5000_d2 h_S_)
      (broadcastInDim S16x5000 ![] bcast_S_S16x5000 (constant (F := Ideal) S_ .f32 0x3F000000#32)) : IVec S16x5000 1) := by
  refine stage V d 52 10 (by decide +kernel) fun U hU => ?_
  have e := (hU main_v47 (by decide +kernel)).trans hX
  after_reads_simp
  rw [e]

end

section

variable (M : IVec S16x5000 1) (hM : fin V d main_v51 = M) (D : IVec S16x5000 32) (hD : fin V d main_v59 = D)

include hM hD in
/-- The drawn numbers of the boxes that overlap enough, negated. -/
theorem v62_eq : fin V d main_v62 = negi (muli (extui 32 M natLt_1_32) D) := by
  refine stage V d 846 3 (by decide +kernel) fun U hU => ?_
  have e := (hU main_v51 (by decide +kernel)).trans hM
  have e' := (hU main_v59 (by decide +kernel)).trans hD
  after_reads_simp
  rw [e, e']

/-- The order of the boxes by these numbers. -/
theorem v63_eq (K : IVec S16x5000 32) (hK : fin V d main_v62 = K) : fin V d main_v63 =
    (Host.sort2 S16x5000 1 comparator_i32_i32_d1 K (iotaInDim S16x5000 32 1)).2 := by
  refine stage V d 849 3 (by decide +kernel) fun U hU => ?_
  have e := (hU main_v62 (by decide +kernel)).trans hK
  after_reads_simp
  rw [e]
  rfl

/-- The place of each box in that order. -/
theorem v64_eq (K : IVec S16x5000 32) (hK : fin V d main_v63 = K) : fin V d main_v64 =
    (Host.sort2 S16x5000 1 comparator_i32_i32_d1 K (iotaInDim S16x5000 32 1)).2 := by
  refine stage V d 852 3 (by decide +kernel) fun U hU => ?_
  have e := (hU main_v63 (by decide +kernel)).trans hK
  after_reads_simp
  rw [e]
  rfl

include hM in
/-- Which boxes are picked. -/
theorem v67_eq (K : IVec S16x5000 32) (hK : fin V d main_v64 = K) : fin V d main_v67 =
    (andi M (cmpi .slt K (broadcastInDim S16x5000 ![] bcast_S_S16x5000 (constantI S_ 32 128#32))) : IVec S16x5000 1) := by
  refine stage V d 855 4 (by decide +kernel) fun U hU => ?_
  have e := (hU main_v51 (by decide +kernel)).trans hM
  have e' := (hU main_v64 (by decide +kernel)).trans hK
  after_reads_simp
  rw [e, e']

end

end Cert.ReferenceIdeal.Run

end
-- ==== Proof.Rank.lean ====
/- The place of an element in a stable order: sorting positions by a comparison, and sorting the
   sorted positions once more. -/
module

public import Idealize.ShloMosaic.Lib.SortFacts

@[expose] public section

namespace Cert.Rank

open Idealize.ShloMosaic

variable {n : Nat} (B : Fin n → Fin n → Bool)

/-- One position comes before another: the comparison says so, or it says nothing and the position is lower. -/
def Before (i j : Fin n) : Prop := B i j = true ∨ (B j i = false ∧ i < j)

/-- Inserting a position lower than all keeps a list in order. -/
theorem insert_pairwise (hirr : ∀ i j, B i j = true → B j i = false)
    (htr : ∀ i j k, Before B i j → Before B j k → Before B i k) (a : Fin n) (L : List (Fin n)) (ha : ∀ b ∈ L, a < b)
    (h : L.Pairwise (Before B)) : (insertBefore B a L).Pairwise (Before B) := by
  induction L with
  | nil => exact List.pairwise_singleton _ _
  | cons b L ih =>
    rw [insertBefore]
    rw [List.pairwise_cons] at h
    split
    · rename_i hb
      rw [List.pairwise_cons]
      refine ⟨fun x hx => ?_, ih (fun x hx => ha x (List.mem_cons_of_mem _ hx)) h.2⟩
      rcases List.mem_cons.mp ((perm_insertBefore B a L).mem_iff.mp hx) with rfl | hx
      · exact Or.inl hb
      · exact h.1 x hx
    · rename_i hb
      have hab : Before B a b := Or.inr ⟨by simpa using hb, ha b List.mem_cons_self⟩
      rw [List.pairwise_cons, List.pairwise_cons]
      refine ⟨fun x hx => ?_, h⟩
      rcases List.mem_cons.mp hx with rfl | hx
      · exact hab
      · exact htr _ _ _ hab (h.1 x hx)

/-- Sorting positions that stand in their own order leaves them in order. -/
theorem stableSort_pairwise (hirr : ∀ i j, B i j = true → B j i = false)
    (htr : ∀ i j k, Before B i j → Before B j k → Before B i k) (L : List (Fin n)) (hL : L.Pairwise (· < ·)) :
    (stableSort B L).Pairwise (Before B) := by
  induction L with
  | nil => exact List.Pairwise.nil
  | cons a L ih =>
    rw [List.pairwise_cons] at hL
    rw [stableSort]
    refine insert_pairwise B hirr htr a _ (fun b hb => hL.1 b ((perm_stableSort B L).mem_iff.mp hb)) (ih hL.2)

/-- The sorted positions are in order. -/
theorem sortedFrom_before (hirr : ∀ i j, B i j = true → B j i = false)
    (htr : ∀ i j k, Before B i j → Before B j k → Before B i k) {a b : Fin n} (h : a < b) :
    Before B (sortedFrom B a) (sortedFrom B b) := by
  have hp := stableSort_pairwise B hirr htr (List.finRange n) (List.pairwise_lt_finRange n)
  rw [List.pairwise_iff_get] at hp
  exact hp (a.cast (length_sortPositions n B).symm) (b.cast (length_sortPositions n B).symm) h

/-- An order-keeping map of positions to positions is the identity. -/
theorem eq_of_strictMono (f : Fin n → Fin n) (hf : ∀ a b, a < b → f a < f b) (a : Fin n) : f a = a := by
  have hm : StrictMono f := fun a b h => hf a b h
  exact le_antisymm hm.apply_le hm.le_apply

/-- Sorting positions by numbers `K`, and the places by what was found: the place of `i` is the number of positions before it. -/
theorem rank_eq (K : Fin n → ℤ) (C : Fin n → Fin n → Bool)
    (hC : ∀ a b, C a b = decide ((sortedFrom (fun i j => decide (K i < K j)) a) < (sortedFrom (fun i j => decide (K i < K j)) b)))
    (i : Fin n) :
    (sortedFrom C i).val = (Finset.univ.filter fun j => K j < K i ∨ (K j = K i ∧ j < i)).card := by
  set B : Fin n → Fin n → Bool := fun i j => decide (K i < K j) with hB
  have hBf : ∀ i j, Before B i j ↔ K i < K j ∨ (K i = K j ∧ i < j) := by
    intro i j
    simp only [Before, hB, decide_eq_true_eq, decide_eq_false_iff_not]
    constructor
    · rintro (h | ⟨h, k⟩)
      · exact Or.inl h
      · rcases lt_or_eq_of_le (not_lt.mp h) with q | q
        · exact Or.inl q
        · exact Or.inr ⟨q, k⟩
    · rintro (h | ⟨h, k⟩)
      · exact Or.inl h
      · exact Or.inr ⟨by rw [h]; exact lt_irrefl _, k⟩
  have hst : ∀ {a b : Fin n}, a < b → Before B (sortedFrom B a) (sortedFrom B b) := fun {a b} h => sortedFrom_before B
    (fun i j h => by simp only [hB, decide_eq_true_eq, decide_eq_false_iff_not] at *; omega)
    (fun i j k h h' => by rw [hBf] at *; omega) h
  have hinj := sortedFrom_injective B
  have hCst : ∀ {a b : Fin n}, a < b → Before C (sortedFrom C a) (sortedFrom C b) := fun {a b} h => sortedFrom_before C
    (fun i j h => by rw [hC] at *; simp only [decide_eq_true_eq, decide_eq_false_iff_not] at *; omega)
    (fun i j k h h' => by
      simp only [Before, hC, decide_eq_true_eq, decide_eq_false_iff_not] at *
      have e1 : sortedFrom B i = sortedFrom B j → i = j := fun e => hinj e
      have e2 : sortedFrom B j = sortedFrom B k → j = k := fun e => hinj e
      have e3 : sortedFrom B i = sortedFrom B k → i = k := fun e => hinj e
      omega) h
  have hid : ∀ a, sortedFrom B (sortedFrom C a) = a := by
    refine eq_of_strictMono _ fun a b h => ?_
    rcases hCst h with h | ⟨h, k⟩
    · rw [hC] at h; exact of_decide_eq_true h
    · rw [hC] at h
      have h := not_lt.mp (of_decide_eq_false h)
      rcases lt_or_eq_of_le h with q | q
      · exact q
      · exact absurd k (by rw [hinj q]; exact lt_irrefl _)
  have hcount : (Finset.univ.filter fun j => K j < K i ∨ (K j = K i ∧ j < i)) =
      (Finset.univ.filter fun k => k < sortedFrom C i).image (sortedFrom B) := by
    ext j
    simp only [Finset.mem_filter, Finset.mem_univ, true_and, Finset.mem_image]
    rw [← hBf]
    constructor
    · intro h
      obtain ⟨k, rfl⟩ := sortedFrom_surjective B j
      refine ⟨k, ?_, rfl⟩
      by_contra hk
      rcases lt_or_eq_of_le (not_lt.mp hk) with q | q
      · have := hst q
        rw [hid] at this
        rw [hBf] at *
        omega
      · rw [← q, hid, hBf] at h
        omega
    · rintro ⟨k, hk, rfl⟩
      have := hst hk
      rwa [hid] at this
  rw [hcount, Finset.card_image_of_injective _ hinj]
  rw [show (Finset.univ.filter fun k => k < sortedFrom C i) = Finset.Iio (sortedFrom C i) from by ext; simp, Fin.card_Iio]

end Cert.Rank
-- ==== Proof.RefPick.lean ====
/- Which boxes the reference picks: the positive ones that fewer than 128 come before, by drawn number. -/
module

public import proofs.«01_k».proof.Proof.RefStage
public import proofs.«01_k».proof.Proof.First
public import proofs.«01_k».proof.Proof.Rank
public import proofs.«01_k».proof.Proof.Bisect

@[expose] public section

set_option maxRecDepth 65536
set_option maxHeartbeats 200000

noncomputable section

namespace Cert.ReferenceIdeal.Run

open Idealize.ShloMosaic Idealize.ShloMosaic.TcCoe Cert.ReferenceIdeal Idealize.ShloMosaic.StableHlo
open Cert.ReferenceIdeal.Facts₀

/-- The second operand of a sort along the second axis of a table, read at a row and a place. -/
theorem sort_row {a b : ℕ} {α β : Type} (cmp : α × β → α × β → BitVec 1) (x : (⟨2, ![a, b]⟩ : Shape).Idx → α)
    (y : (⟨2, ![a, b]⟩ : Shape).Idx → β) (n : Fin a) (p : Fin b) :
    (Host.sort2 ⟨2, ![a, b]⟩ 1 cmp x y).2 (ix2 n p) =
      y (ix2 n (sortedFrom (fun k k' : Fin b => cmp (x (ix2 n k), y (ix2 n k)) (x (ix2 n k'), y (ix2 n k')) == 1#1) p)) := by
  have ha : ∀ k : Fin b, (ix2 n p : (⟨2, ![a, b]⟩ : Shape).Idx).along 1 k = ix2 n k := by
    intro k
    funext q
    match q with
    | ⟨0, _⟩ => rfl
    | ⟨1, _⟩ => rfl
  rw [Host.sort2, dif_pos (by show (1 : ℕ) < 2; decide)]
  refine (congrArg y (ha _)).trans (congrArg (fun f => y (ix2 n (sortedFrom f p))) (funext fun i => funext fun j => ?_))
  exact congrArg₂ (fun u v => cmp (x u, y u) (x v, y v) == 1#1) (ha i) (ha j)

/-- The order of two words, as the sort asks it. -/
theorem order_bit (x y : BitVec 32) : (IntOp.cmpi .slt x y == 1#1) = decide (x.toInt < y.toInt) := by
  show (BitVec.ofBool (x.slt y) == 1#1) = _
  rw [BitVec.slt_eq_decide]
  cases decide (x.toInt < y.toInt) <;> rfl

/-- Sorting positions by words: the word at `p` is the position that comes `p`-th. -/
theorem sort_at (K : IVec S16x5000 32) (n : Fin 16) (p : Fin 5000) :
    ((Host.sort2 S16x5000 1 comparator_i32_i32_d1 K (iotaInDim S16x5000 32 1)).2 : IVec S16x5000 32) (ix2 n p) =
      BitVec.ofNat 32 (sortedFrom (fun i j : Fin 5000 => decide ((K (ix2 n i)).toInt < (K (ix2 n j)).toInt)) p).val := by
  refine (sort_row comparator_i32_i32_d1 K (iotaInDim S16x5000 32 1) n p).trans ?_
  have e : (fun k k' : Fin 5000 => comparator_i32_i32_d1 (K (ix2 n k), iotaInDim S16x5000 32 1 (ix2 n k))
      (K (ix2 n k'), iotaInDim S16x5000 32 1 (ix2 n k')) == 1#1) =
      fun i j : Fin 5000 => decide ((K (ix2 n i)).toInt < (K (ix2 n j)).toInt) := by
    funext i j
    exact order_bit (K (ix2 n i)) (K (ix2 n j))
  rw [e]
  rfl

/-- A box is positive when its largest overlap is over one half. -/
theorem positive_at (X : FVec Ideal S16x5000x100 .f32) (n : Fin 16) (p : Fin 5000) (m : Fin 100) (h : First.IsFirst (fun j => X (ix3 n p j)) m) :
    (cmpf .ogt (Host.reduce FloatOps.maximumf X (constant (F := Ideal) S_ .f32 0xFF800000#32)
      reducesTo_S16x5000x100_S16x5000_d2 h_S_)
      (broadcastInDim S16x5000 ![] bcast_S_S16x5000 (constant (F := Ideal) S_ .f32 0x3F000000#32)) : IVec S16x5000 1) (ix2 n p)
    = BitVec.ofBool (decide (Ideal.ofBits FTy.f32 1056964608#32 < X (ix3 n p m))) := by
  have hf := First.fold_max (fun j => X (ix3 n p j)) m h
  rw [← hf]
  have e : ∀ Y : FVec Ideal S16x5000 .f32, (cmpf .ogt Y (broadcastInDim S16x5000 ![] bcast_S_S16x5000
      (constant (F := Ideal) S_ .f32 0x3F000000#32)) : IVec S16x5000 1) (ix2 n p)
      = BitVec.ofBool (decide (Ideal.ofBits FTy.f32 1056964608#32 < Y (ix2 n p))) := by
    intro Y
    pointwise
  rw [e]
  have e' : (Host.reduce FloatOps.maximumf X (constant (F := Ideal) S_ .f32 0xFF800000#32)
      reducesTo_S16x5000x100_S16x5000_d2 h_S_ : FVec Ideal S16x5000 .f32) (ix2 n p) =
      Finset.fold max (Ideal.ofBits FTy.f32 4286578688#32) (fun j => X (ix3 n p j)) Finset.univ := by
    pointwise
  rw [e']

variable (n : Fin 16) (M : IVec S16x5000 1) (D : IVec S16x5000 32) (posR : Fin 5000 → Prop) [DecidablePred posR] (dR : Fin 5000 → ℕ)
  (hM : ∀ q, M (ix2 n q) = BitVec.ofBool (decide (posR q))) (hD : ∀ q, D (ix2 n q) = BitVec.ofNat 32 (dR q)) (hr : ∀ q, dR q ≤ 1279)

include hM hD hr

/-- The number a box is sorted by. -/
theorem sorted_by (q : Fin 5000) : (negi (muli (extui 32 M natLt_1_32) D) (ix2 n q)).toInt = -(if posR q then (dR q : ℤ) else 0) := by
  have hq := hr q
  show (0#32 - BitVec.setWidth 32 (M (ix2 n q)) * D (ix2 n q)).toInt = _
  rw [hM, hD]
  have i1 : Affine.IsInt (BitVec.ofNat 32 (dR q)) (dR q) := Affine.ofNat _ ⟨rfl, by omega⟩
  have i0 : Affine.IsInt (0#32) 0 := Affine.ofNat 0 ⟨rfl, by omega⟩
  by_cases h : posR q
  · rw [decide_eq_true h, if_pos h]
    have i2 : Affine.IsInt (IntOp.muli 1#32 (BitVec.ofNat 32 (dR q))) (1 * (dR q : ℤ)) :=
      Affine.muli (Affine.ofNat 1 ⟨rfl, by omega⟩) i1 ⟨rfl, by omega, by omega⟩
    exact Bisect.toInt_of (Affine.subi i0 i2 ⟨by omega, by omega, by omega⟩)
  · rw [decide_eq_false h, if_neg h]
    have i2 : Affine.IsInt (IntOp.muli 0#32 (BitVec.ofNat 32 (dR q))) (0 * (dR q : ℤ)) :=
      Affine.muli i0 i1 ⟨rfl, by omega, by omega⟩
    exact Bisect.toInt_of (Affine.subi i0 i2 ⟨by omega, by omega, by omega⟩)

/-- The reference's pick, of the positive boxes and their drawn numbers. -/
theorem pick_at (K K' : IVec S16x5000 32)
    (hK : K = (Host.sort2 S16x5000 1 comparator_i32_i32_d1 (negi (muli (extui 32 M natLt_1_32) D)) (iotaInDim S16x5000 32 1)).2)
    (hK' : K' = (Host.sort2 S16x5000 1 comparator_i32_i32_d1 K (iotaInDim S16x5000 32 1)).2) (p : Fin 5000) :
    (andi M (cmpi .slt K' (broadcastInDim S16x5000 ![] bcast_S_S16x5000 (constantI S_ 32 128#32))) : IVec S16x5000 1) (ix2 n p) =
    BitVec.ofBool (decide (posR p ∧ (Finset.univ.filter fun q => -(if posR q then (dR q : ℤ) else 0) < -(if posR p then (dR p : ℤ) else 0) ∨
      (-(if posR q then (dR q : ℤ) else 0) = -(if posR p then (dR p : ℤ) else 0) ∧ q < p)).card < 128)) := by
  have small : ∀ x : Fin 5000, (BitVec.ofNat 32 x.val).toInt = (x.val : ℤ) := fun x => Bisect.toInt_of (Affine.ofNat _ ⟨rfl, by omega⟩)
  have e1 : ∀ q, K (ix2 n q) = BitVec.ofNat 32 (sortedFrom (fun i j : Fin 5000 =>
      decide (-(if posR i then (dR i : ℤ) else 0) < -(if posR j then (dR j : ℤ) else 0))) q).val := by
    intro q
    rw [hK, sort_at]
    simp only [sorted_by n M D posR dR hM hD hr]
  have e2 := sort_at K n p
  rw [← hK'] at e2
  have e3 := Rank.rank_eq (fun i => -(if posR i then (dR i : ℤ) else 0))
    (fun i j : Fin 5000 => decide ((K (ix2 n i)).toInt < (K (ix2 n j)).toInt)) (fun a b => by
      simp only [e1, small, Nat.cast_lt, Fin.lt_def]) p
  have e4 : ∀ x : IVec S16x5000 32, (andi M (cmpi .slt x (broadcastInDim S16x5000 ![] bcast_S_S16x5000 (constantI S_ 32 128#32))) : IVec S16x5000 1) (ix2 n p) =
      IntOp.andi (M (ix2 n p)) (IntOp.cmpi .slt (x (ix2 n p)) 128#32) := by
    intro x
    pointwise
  rw [e4, e2, hM]
  show BitVec.ofBool _ &&& BitVec.ofBool (BitVec.slt _ _) = _
  rw [BitVec.slt_eq_decide, small, e3, show (128#32 : BitVec 32).toInt = 128 by decide, BitVec.ofBool_and_ofBool, ← Bool.decide_and]
  refine congrArg BitVec.ofBool (decide_eq_decide.2 (and_congr_right fun _ => ?_))
  exact ⟨fun h => by exact_mod_cast h, fun h => by exact_mod_cast h⟩

end Cert.ReferenceIdeal.Run

end
-- ==== Proof.RefValue.lean ====
/- The reference's results, point by point. -/
module

public import proofs.«01_k».proof.Proof.RefStage
public import proofs.«01_k».proof.Proof.Delta

@[expose] public section
set_option maxRecDepth 65536
set_option maxHeartbeats 4000000

noncomputable section
namespace Cert.ReferenceIdeal.Run
open Idealize.ShloMosaic Idealize.ShloMosaic.TcCoe Cert.ReferenceIdeal Idealize.ShloMosaic.StableHlo
open Cert.ReferenceIdeal.Facts₀

variable (V : Valuation τ sig (Elt Ideal)) (d : Dev nD)

/-- An index from 0 to 99 read back from its word. -/
theorem back (m : Fin 100) : (BitVec.ofNat 32 m.val).toInt.toNat = m.val := by
  revert m; decide

/-- The gather of boxes reads the box that the index names, an index from 0 to 99. -/
theorem gather_box (G : FVec Ideal S16x100x4 .f32) (I : IVec S16x5000x1 32) (n : Fin 16) (p : Fin 5000) (k : Fin 4) (m : Fin 100)
    (h : I (ix3 n p 0) = BitVec.ofNat 32 m.val) :
    Host.gather gather_S16x100x4_S16x5000x1_S16x5000x4_2_1_0_0_1_2_114 G I (ix3 n p k) = G (ix3 n m k) := by
  refine congrArg G (funext fun a => Fin.ext ?_)
  fin_cases a
  · show GatherDims.start _ _ _ _ + GatherDims.batchCoord _ _ _ + GatherDims.offCoord _ _ _ = n.val
    rw [GatherDims.start_batching _ _ _ _ (by decide), GatherDims.offCoord_eq_zero _ _ _ (by decide)]
    simp only [Nat.zero_add, Nat.add_zero]
    unfold GatherDims.batchCoord
    rw [dif_pos (by decide)]
    rfl
  · show GatherDims.start _ _ _ _ + GatherDims.batchCoord _ _ _ + GatherDims.offCoord _ _ _ = m.val
    rw [GatherDims.batchCoord_eq_zero _ _ _ (by decide),
      GatherDims.offCoord_eq_zero _ _ _ (by decide)]
    simp only [Nat.add_zero]
    unfold GatherDims.start
    rw [dif_pos (by decide)]
    have hsi : gather_S16x100x4_S16x5000x1_S16x5000x4_2_1_0_0_1_2_114.siIdx (ix3 n p k) ⟨0, by decide⟩ = ix3 n p 0 := by
      funext b; refine Fin.ext ?_
      match b with
      | ⟨0, _⟩ => rfl
      | ⟨1, _⟩ => rfl
      | ⟨2, _⟩ => rfl
    show min (I (gather_S16x100x4_S16x5000x1_S16x5000x4_2_1_0_0_1_2_114.siIdx (ix3 n p k) ⟨0, by decide⟩)).toInt.toNat 99 = _
    rw [hsi, h, back m]
    have := m.isLt
    omega
  · show GatherDims.start _ _ _ _ + GatherDims.batchCoord _ _ _ + GatherDims.offCoord _ _ _ = k.val
    rw [GatherDims.batchCoord_eq_zero _ _ _ (by decide)]
    unfold GatherDims.start GatherDims.offCoord
    rw [dif_neg (by decide), dif_pos (by decide)]
    simp only [Nat.zero_add]
    rfl

/-- The gather of labels reads the label that the index names, an index from 0 to 99. -/
theorem gather_label (G : IVec S16x100 32) (I : IVec S16x5000x1 32) (n : Fin 16) (p : Fin 5000) (m : Fin 100)
    (h : I (ix3 n p 0) = BitVec.ofNat 32 m.val) :
    Host.gather gather_S16x100_S16x5000x1_S16x5000_n_1_0_0_1_2_11 G I (ix2 n p) = G (ix2 n m) := by
  refine congrArg G (funext fun a => Fin.ext ?_)
  fin_cases a
  · show GatherDims.start _ _ _ _ + GatherDims.batchCoord _ _ _ + GatherDims.offCoord _ _ _ = n.val
    rw [GatherDims.start_batching _ _ _ _ (by decide), GatherDims.offCoord_eq_zero _ _ _ (by decide)]
    simp only [Nat.zero_add, Nat.add_zero]
    unfold GatherDims.batchCoord
    rw [dif_pos (by decide)]
    rfl
  · show GatherDims.start _ _ _ _ + GatherDims.batchCoord _ _ _ + GatherDims.offCoord _ _ _ = m.val
    rw [GatherDims.batchCoord_eq_zero _ _ _ (by decide),
      GatherDims.offCoord_eq_zero _ _ _ (by decide)]
    simp only [Nat.add_zero]
    unfold GatherDims.start
    rw [dif_pos (by decide)]
    have hsi : gather_S16x100_S16x5000x1_S16x5000_n_1_0_0_1_2_11.siIdx (ix2 n p) ⟨0, by decide⟩ = ix3 n p 0 := by
      funext b; refine Fin.ext ?_
      match b with
      | ⟨0, _⟩ => rfl
      | ⟨1, _⟩ => rfl
      | ⟨2, _⟩ => rfl
    show min (I (gather_S16x100_S16x5000x1_S16x5000_n_1_0_0_1_2_11.siIdx (ix2 n p) ⟨0, by decide⟩)).toInt.toNat 99 = _
    rw [hsi, h, back m]
    have := m.isLt
    omega

/-- An index from 0 to 99 isn't wrapped. -/
theorem keep (m : Fin 100) : Scalar.select (IntOp.cmpi .slt (BitVec.ofNat 32 m.val) 0#32)
    (IntOp.addi (BitVec.ofNat 32 m.val) 100#32) (BitVec.ofNat 32 m.val) = BitVec.ofNat 32 m.val := by
  have h : IntOp.cmpi .slt (BitVec.ofNat 32 m.val) 0#32 = 0#1 := by revert m; decide
  rw [h]
  rfl

/-- An index from 0 to 99 is inside. -/
theorem inside (m : Fin 100) :
    IntOp.andi (IntOp.cmpi .sge (BitVec.ofNat 32 m.val) 0#32) (IntOp.cmpi .sle (BitVec.ofNat 32 m.val) 99#32) = 1#1 := by
  revert m; decide

/-- A property of what a stage leaves in a buffer, of what the buffers hold that aren't written from the stage on. -/
theorem stageP (a k : Nat) {b : Ref sig .tc} (hb : b ∉ written.drop (a + k)) {P : (Proc.devRef (τ := τ) .tc b).ty.Contents (Elt Ideal) → Prop}
    (h : ∀ U : Valuation τ sig (Elt Ideal), (∀ c : Ref sig .tc, c ∉ written.drop a → U (Proc.devRef .tc c) = fin V d c) →
      P (after (((line d).drop a).take k) U (Proc.devRef .tc b))) : P (fin V d b) :=
  (cut V d a k hb).symm ▸ h _ fun _ hc => by_then V d a hc

/-- The ground-truth box taken for a box, zero where the box isn't picked. -/
theorem v72_at (I : IVec S16x5000 32) (hI : fin V d main_v48 = I) (M : IVec S16x5000 1) (hM : fin V d main_v67 = M)
    (G : FVec Ideal S16x100x4 .f32) (hG : fin V d main_arg1 = G) (n : Fin 16) (p : Fin 5000) (k : Fin 4) (m : Fin 100)
    (hm : I (ix2 n p) = BitVec.ofNat 32 m.val) :
    (fin V d main_v72 : FVec Ideal S16x5000x4 .f32) (ix3 n p k) = (Scalar.select (M (ix2 n p)) (G (ix3 n m k)) 0 : EReal) := by
  refine stageP V d 859 28 (b := main_v72) (by decide +kernel)
    (P := fun Y => (Y : FVec Ideal S16x5000x4 .f32) (ix3 n p k) = Scalar.select (M (ix2 n p)) (G (ix3 n m k)) (0 : EReal)) fun U hU => ?_
  have e := (hU main_v48 (by decide +kernel)).trans hI
  have e' := (hU main_v67 (by decide +kernel)).trans hM
  have e2 := (hU main_arg1 (by decide +kernel)).trans hG
  after_reads_simp
  rw [e, e', e2]
  simp only [TRef.ofBuf_toBuf]
  simp only [TRef.ofBuf, TRef.toBuf, cast_eq]
  pointwise
  rw [gather_box G _ n p k m (by pointwise; rw [hm]; exact keep m), hm, keep m, inside m]
  refine congrArg (fun x : EReal => Scalar.select (M (ix2 n p)) x 0) ?_
  rfl
/-- The label taken for a box, −1 where the box isn't picked. -/
theorem v74_at (I : IVec S16x5000 32) (hI : fin V d main_v48 = I) (M : IVec S16x5000 1) (hM : fin V d main_v67 = M)
    (G : IVec S16x100 32) (hG : fin V d main_arg2 = G) (n : Fin 16) (p : Fin 5000) (m : Fin 100)
    (hm : I (ix2 n p) = BitVec.ofNat 32 m.val) :
    (fin V d main_v74 : IVec S16x5000 32) (ix2 n p) = Scalar.select (M (ix2 n p)) (G (ix2 n m)) 4294967295#32 := by
  refine stageP V d 887 25 (b := main_v74) (by decide +kernel)
    (P := fun Y => (Y : IVec S16x5000 32) (ix2 n p) = Scalar.select (M (ix2 n p)) (G (ix2 n m)) 4294967295#32) fun U hU => ?_
  have e := (hU main_v48 (by decide +kernel)).trans hI
  have e' := (hU main_v67 (by decide +kernel)).trans hM
  have e2 := (hU main_arg2 (by decide +kernel)).trans hG
  after_reads_simp
  rw [e, e', e2]
  simp only [TRef.ofBuf_toBuf]
  simp only [TRef.ofBuf, TRef.toBuf, cast_eq]
  pointwise
  rw [gather_label G _ n p m (by pointwise; rw [hm]; exact keep m), hm, keep m, inside m]
  rfl
/-- The shift across, of a box and the ground-truth box taken for it. -/
theorem v125_at (A : FVec Ideal S16x5000x4 .f32) (hA : fin V d main_arg0 = A) (E : FVec Ideal S16x5000x4 .f32)
    (hE : fin V d main_v72 = E) (n : Fin 16) (p : Fin 5000) :
    (fin V d main_v125 : FVec Ideal S16x5000 .f32) (ix2 n p) =
      Delta.shift (A (ix3 n p 1)) (A (ix3 n p 3)) (E (ix3 n p 1)) (E (ix3 n p 3)) := by
  refine stageP V d 912 108 (b := main_v125) (by decide +kernel) (P := fun Y => (Y : FVec Ideal S16x5000 .f32) (ix2 n p) =
    Delta.shift (A (ix3 n p 1)) (A (ix3 n p 3)) (E (ix3 n p 1)) (E (ix3 n p 3))) fun U hU => ?_
  have e := (hU main_arg0 (by decide +kernel)).trans hA
  have e' := (hU main_v72 (by decide +kernel)).trans hE
  after_reads_simp
  rw [e, e']
  simp only [TRef.ofBuf_toBuf]
  simp only [TRef.ofBuf, TRef.toBuf, cast_eq, id]
  pointwise
  simp only [Delta.shift, Delta.ratio, Delta.extent]

/-- The shift down, of a box and the ground-truth box taken for it. -/
theorem v130_at (A : FVec Ideal S16x5000x4 .f32) (hA : fin V d main_arg0 = A) (E : FVec Ideal S16x5000x4 .f32)
    (hE : fin V d main_v72 = E) (n : Fin 16) (p : Fin 5000) :
    (fin V d main_v130 : FVec Ideal S16x5000 .f32) (ix2 n p) =
      Delta.shift (A (ix3 n p 0)) (A (ix3 n p 2)) (E (ix3 n p 0)) (E (ix3 n p 2)) := by
  refine stageP V d 912 108 (b := main_v130) (by decide +kernel) (P := fun Y => (Y : FVec Ideal S16x5000 .f32) (ix2 n p) =
    Delta.shift (A (ix3 n p 0)) (A (ix3 n p 2)) (E (ix3 n p 0)) (E (ix3 n p 2))) fun U hU => ?_
  have e := (hU main_arg0 (by decide +kernel)).trans hA
  have e' := (hU main_v72 (by decide +kernel)).trans hE
  after_reads_simp
  rw [e, e']
  simp only [TRef.ofBuf_toBuf]
  simp only [TRef.ofBuf, TRef.toBuf, cast_eq, id]
  pointwise
  simp only [Delta.shift, Delta.ratio, Delta.extent]

/-- The ratio across, of a box and the ground-truth box taken for it. -/
theorem v141_at (A : FVec Ideal S16x5000x4 .f32) (hA : fin V d main_arg0 = A) (E : FVec Ideal S16x5000x4 .f32)
    (hE : fin V d main_v72 = E) (n : Fin 16) (p : Fin 5000) :
    (fin V d main_v141 : FVec Ideal S16x5000 .f32) (ix2 n p) =
      Delta.ratio (A (ix3 n p 1)) (A (ix3 n p 3)) (E (ix3 n p 1)) (E (ix3 n p 3)) := by
  refine stageP V d 912 108 (b := main_v141) (by decide +kernel) (P := fun Y => (Y : FVec Ideal S16x5000 .f32) (ix2 n p) =
    Delta.ratio (A (ix3 n p 1)) (A (ix3 n p 3)) (E (ix3 n p 1)) (E (ix3 n p 3))) fun U hU => ?_
  have e := (hU main_arg0 (by decide +kernel)).trans hA
  have e' := (hU main_v72 (by decide +kernel)).trans hE
  after_reads_simp
  rw [e, e']
  simp only [TRef.ofBuf_toBuf]
  simp only [TRef.ofBuf, TRef.toBuf, cast_eq, id]
  pointwise
  simp only [Delta.shift, Delta.ratio, Delta.extent]

/-- The ratio down, of a box and the ground-truth box taken for it. -/
theorem v146_at (A : FVec Ideal S16x5000x4 .f32) (hA : fin V d main_arg0 = A) (E : FVec Ideal S16x5000x4 .f32)
    (hE : fin V d main_v72 = E) (n : Fin 16) (p : Fin 5000) :
    (fin V d main_v146 : FVec Ideal S16x5000 .f32) (ix2 n p) =
      Delta.ratio (A (ix3 n p 0)) (A (ix3 n p 2)) (E (ix3 n p 0)) (E (ix3 n p 2)) := by
  refine stageP V d 912 108 (b := main_v146) (by decide +kernel) (P := fun Y => (Y : FVec Ideal S16x5000 .f32) (ix2 n p) =
    Delta.ratio (A (ix3 n p 0)) (A (ix3 n p 2)) (E (ix3 n p 0)) (E (ix3 n p 2))) fun U hU => ?_
  have e := (hU main_arg0 (by decide +kernel)).trans hA
  have e' := (hU main_v72 (by decide +kernel)).trans hE
  after_reads_simp
  rw [e, e']
  simp only [TRef.ofBuf_toBuf]
  simp only [TRef.ofBuf, TRef.toBuf, cast_eq, id]
  pointwise
  simp only [Delta.shift, Delta.ratio, Delta.extent]

/-- The variances. -/
theorem cst_at (k : Fin 4) : (fin V d main_cst : FVec Ideal S4 .f32) (ix1 k) =
    Ideal.ofBits FTy.f32 ((![0x3DCCCCCD#32, 0x3DCCCCCD#32, 0x3E4CCCCD#32, 0x3E4CCCCD#32] : Fin 4 → BitVec 32) k) := by
  refine stageP V d 0 1 (b := main_cst) (by decide +kernel) (P := fun Y => (Y : FVec Ideal S4 .f32) (ix1 k) =
    Ideal.ofBits FTy.f32 ((![0x3DCCCCCD#32, 0x3DCCCCCD#32, 0x3E4CCCCD#32, 0x3E4CCCCD#32] : Fin 4 → BitVec 32) k)) fun U hU => ?_
  after_reads_simp
  fin_cases k <;> rfl

/-- One of the four numbers, on a new last axis of one. -/
theorem v147_at (A : FVec Ideal S16x5000 .f32) (hA : fin V d main_v130 = A) (n : Fin 16) (p : Fin 5000) (k : Fin 1) :
    (fin V d main_v147 : FVec Ideal S16x5000x1 .f32) (ix3 n p k) = A (ix2 n p) := by
  refine stageP V d 1020 4 (b := main_v147) (by decide +kernel)
    (P := fun Y => (Y : FVec Ideal S16x5000x1 .f32) (ix3 n p k) = A (ix2 n p)) fun U hU => ?_
  have e := (hU main_v130 (by decide +kernel)).trans hA
  after_reads_simp
  rw [e]
  pointwise

/-- One of the four numbers, on a new last axis of one. -/
theorem v148_at (A : FVec Ideal S16x5000 .f32) (hA : fin V d main_v125 = A) (n : Fin 16) (p : Fin 5000) (k : Fin 1) :
    (fin V d main_v148 : FVec Ideal S16x5000x1 .f32) (ix3 n p k) = A (ix2 n p) := by
  refine stageP V d 1020 4 (b := main_v148) (by decide +kernel)
    (P := fun Y => (Y : FVec Ideal S16x5000x1 .f32) (ix3 n p k) = A (ix2 n p)) fun U hU => ?_
  have e := (hU main_v125 (by decide +kernel)).trans hA
  after_reads_simp
  rw [e]
  pointwise

/-- One of the four numbers, on a new last axis of one. -/
theorem v149_at (A : FVec Ideal S16x5000 .f32) (hA : fin V d main_v146 = A) (n : Fin 16) (p : Fin 5000) (k : Fin 1) :
    (fin V d main_v149 : FVec Ideal S16x5000x1 .f32) (ix3 n p k) = A (ix2 n p) := by
  refine stageP V d 1020 4 (b := main_v149) (by decide +kernel)
    (P := fun Y => (Y : FVec Ideal S16x5000x1 .f32) (ix3 n p k) = A (ix2 n p)) fun U hU => ?_
  have e := (hU main_v146 (by decide +kernel)).trans hA
  after_reads_simp
  rw [e]
  pointwise

/-- One of the four numbers, on a new last axis of one. -/
theorem v150_at (A : FVec Ideal S16x5000 .f32) (hA : fin V d main_v141 = A) (n : Fin 16) (p : Fin 5000) (k : Fin 1) :
    (fin V d main_v150 : FVec Ideal S16x5000x1 .f32) (ix3 n p k) = A (ix2 n p) := by
  refine stageP V d 1020 4 (b := main_v150) (by decide +kernel)
    (P := fun Y => (Y : FVec Ideal S16x5000x1 .f32) (ix3 n p k) = A (ix2 n p)) fun U hU => ?_
  have e := (hU main_v141 (by decide +kernel)).trans hA
  after_reads_simp
  rw [e]
  pointwise

/-- The four numbers side by side, each divided by its variance. -/
theorem v154_at (A B C D : FVec Ideal S16x5000x1 .f32) (hA : fin V d main_v147 = A) (hB : fin V d main_v148 = B)
   (hC : fin V d main_v149 = C) (hD : fin V d main_v150 = D) (S : FVec Ideal S4 .f32) (hS : fin V d main_cst = S)
    (n : Fin 16) (p : Fin 5000) (k : Fin 4) :
    (fin V d main_v154 : FVec Ideal S16x5000x4 .f32) (ix3 n p k) =
      Ideal.div ((![A (ix3 n p 0), B (ix3 n p 0), C (ix3 n p 0), D (ix3 n p 0)] : Fin 4 → EReal) k) (S (ix1 k)) := by
  refine stageP V d 1024 4 (b := main_v154) (by decide +kernel) (P := fun Y => (Y : FVec Ideal S16x5000x4 .f32) (ix3 n p k) =
      Ideal.div ((![A (ix3 n p 0), B (ix3 n p 0), C (ix3 n p 0), D (ix3 n p 0)] : Fin 4 → EReal) k) (S (ix1 k))) fun U hU => ?_
  have e1 := (hU main_v147 (by decide +kernel)).trans hA
  have e2 := (hU main_v148 (by decide +kernel)).trans hB
  have e3 := (hU main_v149 (by decide +kernel)).trans hC
  have e4 := (hU main_v150 (by decide +kernel)).trans hD
  have e5 := (hU main_cst (by decide +kernel)).trans hS
  after_reads_simp
  simp only [e5]
  fin_cases k <;> pointwise
  · exact congrArg (fun x : FVec Ideal S16x5000x1 .f32 => Ideal.div (x (ix3 n p 0)) (S (ix1 0))) e1
  · exact congrArg (fun x : FVec Ideal S16x5000x1 .f32 => Ideal.div (x (ix3 n p 0)) (S (ix1 1))) e2
  · exact congrArg (fun x : FVec Ideal S16x5000x1 .f32 => Ideal.div (x (ix3 n p 0)) (S (ix1 2))) e3
  · exact congrArg (fun x : FVec Ideal S16x5000x1 .f32 => Ideal.div (x (ix3 n p 0)) (S (ix1 3))) e4

/-- The label's one-hot row. -/
theorem v155_at (L : IVec S16x5000 32) (hL : fin V d main_v74 = L) (n : Fin 16) (p : Fin 5000) (c : Fin 21) :
    (fin V d main_v155 : FVec Ideal S16x5000x21 .f32) (ix3 n p c) = (if L (ix2 n p) = BitVec.ofNat 32 c.val then 1 else 0 : EReal) := by
  refine stageP V d 1028 6 (b := main_v155) (by decide +kernel) (P := fun Y => (Y : FVec Ideal S16x5000x21 .f32) (ix3 n p c) = (if L (ix2 n p) = BitVec.ofNat 32 c.val then 1 else 0 : EReal)) fun U hU => ?_
  have e := (hU main_v74 (by decide +kernel)).trans hL
  after_reads_simp
  rw [e]
  simp only [TRef.ofBuf_toBuf]
  simp only [TRef.ofBuf, TRef.toBuf, cast_eq, id]
  pointwise
  show (((IntOp.cmpi .eq (L (ix2 n p)) (BitVec.ofNat 32 c.val)).toNat : ℝ) : EReal) = _
  by_cases h : L (ix2 n p) = BitVec.ofNat 32 c.val
  · simp [IntOp.cmpi, h]
  · simp [IntOp.cmpi, h]

/-- The deltas, at the label. -/
theorem v162_at (L : FVec Ideal S16x5000x21 .f32) (hL : fin V d main_v155 = L) (D : FVec Ideal S16x5000x4 .f32) (hD : fin V d main_v154 = D)
    (n : Fin 16) (p : Fin 5000) (c : Fin 21) (k : Fin 4) :
    (fin V d main_v162 : FVec Ideal S16x5000x21x4 .f32) (ix4 n p c k) = L (ix3 n p c) * D (ix3 n p k) := by
  refine stageP V d 1034 7 (b := main_v162) (by decide +kernel) (P := fun Y => (Y : FVec Ideal S16x5000x21x4 .f32) (ix4 n p c k) = L (ix3 n p c) * D (ix3 n p k)) fun U hU => ?_
  have e := (hU main_v155 (by decide +kernel)).trans hL
  have e' := (hU main_v154 (by decide +kernel)).trans hD
  after_reads_simp
  rw [e, e']
  pointwise
end Cert.ReferenceIdeal.Run
end
-- ==== Proof.RefSpec.lean ====
/- What the reference leaves in its two results, image by image. -/
module

public import proofs.«01_k».proof.Proof.Spec
public import proofs.«01_k».proof.Proof.RefPick
public import proofs.«01_k».proof.Proof.RefValue

@[expose] public section

set_option maxRecDepth 65536
set_option maxHeartbeats 400000

noncomputable section

namespace Cert.ReferenceIdeal.Run

open Idealize.ShloMosaic Idealize.ShloMosaic.TcCoe Cert.ReferenceIdeal Idealize.ShloMosaic.StableHlo
open Cert.ReferenceIdeal.Facts₀

variable (V : Valuation τ sig (Elt Ideal)) (d : Dev nD) (A : FVec Ideal S16x5000x4 .f32) (G : FVec Ideal S16x100x4 .f32) (L : IVec S16x100 32)
  (D : IVec S16x5000 32) (hA : V (Proc.devRef .tc main_arg0) = A) (hG : V (Proc.devRef .tc main_arg1) = G)
  (hL : V (Proc.devRef .tc main_arg2) = L) (hD : fin V d main_v59 = D) (dr : Fin 16 → Fin 5000 → ℕ)
  (hdr : ∀ n p, D (ix2 n p) = BitVec.ofNat 32 (dr n p)) (hhi : ∀ n p, dr n p ≤ 1279) (n : Fin 16) (p : Fin 5000)

/-- An image's boxes. -/
abbrev imageBoxes : Fin 5000 → Fin 4 → EReal := fun p q => A (ix3 n p q)
/-- An image's ground-truth boxes. -/
abbrev imageTruths : Fin 100 → Fin 4 → EReal := fun j q => G (ix3 n j q)
/-- An image's labels. -/
abbrev imageLabels : Fin 100 → BitVec 32 := fun j => L (ix2 n j)

/-- The arguments at the end are the arguments. -/
theorem fin_arg {b : Ref sig .tc} (h : b ∉ written) : fin V d b = V (Proc.devRef .tc b) := after_of_writes_sub _ _ (line_writes d) h

include hA hG in
/-- The overlaps. -/
theorem over_ref (X : FVec Ideal S16x5000x100 .f32) (hX : fin V d main_v47 = X) :
    ∀ j, X (ix3 n p j) = Delta.overlap (imageBoxes A n p) (imageTruths G n j) := fun j => by
  subst hX
  exact v47_at V d n p j A G hA hG

include hA hG in
/-- The index of the first largest overlap. -/
theorem first_ref (I : IVec S16x5000 32) (hI : fin V d main_v48 = I) :
    I (ix2 n p) = BitVec.ofNat 32 (Spec.first (imageBoxes A n) (imageTruths G n) p).val := by
  obtain ⟨X, hX⟩ : ∃ X : FVec Ideal S16x5000x100 .f32, fin V d main_v47 = X := ⟨_, rfl⟩
  have h := over_ref V d A G hA hG n p X hX
  rw [show I = _ from hI.symm.trans (v48_eq V d X hX)]
  refine First.argmax_at X n p _ ?_ _ _
  simpa only [h] using Spec.first_spec (imageBoxes A n) (imageTruths G n) p

include hA hG in
/-- Which boxes are positive. -/
theorem pos_ref (M : IVec S16x5000 1) (hM : fin V d main_v51 = M) :
    M (ix2 n p) = BitVec.ofBool (decide (Spec.Pos (imageBoxes A n) (imageTruths G n) p)) := by
  obtain ⟨X, hX⟩ : ∃ X : FVec Ideal S16x5000x100 .f32, fin V d main_v47 = X := ⟨_, rfl⟩
  have h := over_ref V d A G hA hG n p X hX
  rw [show M = _ from hM.symm.trans (v51_eq V d X hX)]
  refine (positive_at X n p (Spec.first (imageBoxes A n) (imageTruths G n) p) ?_).trans ?_
  · simpa only [h] using Spec.first_spec (imageBoxes A n) (imageTruths G n) p
  · refine congrArg BitVec.ofBool (decide_eq_decide.2 ?_)
    rw [h]
    rfl

include hA hG hD hdr hhi in
/-- Which boxes are picked. -/
theorem pick_ref (P : IVec S16x5000 1) (hP : fin V d main_v67 = P) :
    P (ix2 n p) = BitVec.ofBool (decide (Spec.Picked (imageBoxes A n) (imageTruths G n) (dr n) p)) := by
  obtain ⟨M, hM⟩ : ∃ M : IVec S16x5000 1, fin V d main_v51 = M := ⟨_, rfl⟩
  obtain ⟨K, hK⟩ : ∃ K : IVec S16x5000 32, fin V d main_v63 = K := ⟨_, rfl⟩
  obtain ⟨K', hK'⟩ : ∃ K : IVec S16x5000 32, fin V d main_v64 = K := ⟨_, rfl⟩
  have hm := fun q => pos_ref V d A G hA hG n q M hM
  have e1 := hK.symm.trans (v63_eq V d _ (v62_eq V d M hM D hD))
  have e2 := hK'.symm.trans (v64_eq V d K hK)
  rw [show P = _ from hP.symm.trans (v67_eq V d M hM K' hK')]
  refine (pick_at n M D (Spec.Pos (imageBoxes A n) (imageTruths G n)) (dr n) hm (hdr n) (hhi n) K K' e1 e2 p).trans ?_
  exact congrArg BitVec.ofBool (decide_eq_decide.2 Iff.rfl)

include hA hG hL hD hdr hhi

/-- The labels. -/
theorem label_ref (T : IVec S16x5000 32) (hT : fin V d main_v74 = T) :
    T (ix2 n p) = Spec.label (imageBoxes A n) (imageTruths G n) (imageLabels L n) (dr n) p := by
  obtain ⟨I, hI⟩ : ∃ I : IVec S16x5000 32, fin V d main_v48 = I := ⟨_, rfl⟩
  obtain ⟨P, hP⟩ : ∃ P : IVec S16x5000 1, fin V d main_v67 = P := ⟨_, rfl⟩
  have h := v74_at V d I hI P hP L ((fin_arg V d args_not_written.2.2).trans hL) n p _ (first_ref V d A G hA hG n p I hI)
  rw [pick_ref V d A G D hA hG hD dr hdr hhi n p P hP, Spec.select_dec] at h
  subst hT
  exact h

omit hL in
/-- The boxes to aim at. -/
theorem target_ref (E : FVec Ideal S16x5000x4 .f32) (hE : fin V d main_v72 = E) (k : Fin 4) :
    E (ix3 n p k) = Spec.target (imageBoxes A n) (imageTruths G n) (dr n) p k := by
  obtain ⟨I, hI⟩ : ∃ I : IVec S16x5000 32, fin V d main_v48 = I := ⟨_, rfl⟩
  obtain ⟨P, hP⟩ : ∃ P : IVec S16x5000 1, fin V d main_v67 = P := ⟨_, rfl⟩
  have h := v72_at V d I hI P hP G ((fin_arg V d args_not_written.2.1).trans hG) n p k _ (first_ref V d A G hA hG n p I hI)
  rw [pick_ref V d A G D hA hG hD dr hdr hhi n p P hP, Spec.select_dec] at h
  subst hE
  exact h

omit hL in
/-- The four numbers of a box. -/
theorem delta_ref (Z : FVec Ideal S16x5000x4 .f32) (hZ : fin V d main_v154 = Z) (k : Fin 4) :
    Z (ix3 n p k) = Delta.delta (imageBoxes A n p) (Spec.target (imageBoxes A n) (imageTruths G n) (dr n) p) k := by
  obtain ⟨E, hE⟩ : ∃ E : FVec Ideal S16x5000x4 .f32, fin V d main_v72 = E := ⟨_, rfl⟩
  have ht := target_ref V d A G D hA hG hD dr hdr hhi n p E hE
  have ha := (fin_arg V d args_not_written.1).trans hA
  have y0 := v147_at V d _ rfl n p 0
  have y1 := v148_at V d _ rfl n p 0
  have y2 := v149_at V d _ rfl n p 0
  have y3 := v150_at V d _ rfl n p 0
  rw [v130_at V d A ha E hE, ht, ht] at y0
  rw [v125_at V d A ha E hE, ht, ht] at y1
  rw [v146_at V d A ha E hE, ht, ht] at y2
  rw [v141_at V d A ha E hE, ht, ht] at y3
  have h := v154_at V d _ _ _ _ rfl rfl rfl rfl _ rfl n p k
  rw [cst_at, y0, y1, y2, y3] at h
  subst hZ
  refine h.trans ?_
  fin_cases k <;> rfl

/-- The second result. -/
theorem hot_ref (Y : FVec Ideal S16x5000x21 .f32) (hY : fin V d main_v155 = Y) (c : Fin 21) :
    Y (ix3 n p c) = Spec.hot (imageBoxes A n) (imageTruths G n) (imageLabels L n) (dr n) p c := by
  obtain ⟨T, hT⟩ : ∃ T : IVec S16x5000 32, fin V d main_v74 = T := ⟨_, rfl⟩
  have h := v155_at V d T hT n p c
  rw [label_ref V d A G L D hA hG hL hD dr hdr hhi n p T hT] at h
  subst hY
  exact h

/-- The first result. -/
theorem offsets_ref (Y : FVec Ideal S16x5000x21x4 .f32) (hY : fin V d main_v162 = Y) (c : Fin 21) (k : Fin 4) :
    Y (ix4 n p c k) = Spec.offsets (imageBoxes A n) (imageTruths G n) (imageLabels L n) (dr n) p c k := by
  obtain ⟨H, hH⟩ : ∃ H : FVec Ideal S16x5000x21 .f32, fin V d main_v155 = H := ⟨_, rfl⟩
  obtain ⟨Z, hZ⟩ : ∃ Z : FVec Ideal S16x5000x4 .f32, fin V d main_v154 = Z := ⟨_, rfl⟩
  have h := v162_at V d H hH Z hZ n p c k
  rw [hot_ref V d A G L D hA hG hL hD dr hdr hhi n p H hH c, delta_ref V d A G D hA hG hD dr hdr hhi n p Z hZ k] at h
  subst hY
  exact h

end Cert.ReferenceIdeal.Run

end
-- ==== Proof.DrawRange.lean ====
/- The drawn numbers lie between 1 and 1279: a remainder by 1279, and one more. -/
module

public import proofs.«01_k».proof.Proof.RefStage

@[expose] public section

set_option maxRecDepth 65536
set_option maxHeartbeats 400000

noncomputable section

namespace Cert.ReferenceIdeal.Run

open Idealize.ShloMosaic Idealize.ShloMosaic.TcCoe Cert.ReferenceIdeal Idealize.ShloMosaic.StableHlo
open Cert.ReferenceIdeal.Facts₀

variable (V : Valuation τ sig (Elt Ideal)) (d : Dev nD)

/-- The least number that may be drawn. -/
theorem least_eq : fin V d main_call1_v6 = (fun _ => 1#32 : IVec S1x1 32) := by
  refine stage V d 70 24 (by decide +kernel) fun U _ => ?_
  after_reads_simp
  simp only [TRef.ofBuf_toBuf]
  simp only [TRef.ofBuf, TRef.toBuf, cast_eq, id]
  funext j
  pointwise
  decide

/-- The first number past the largest that may be drawn. -/
theorem past_eq : fin V d main_call1_v7 = (fun _ => 1280#32 : IVec S1x1 32) := by
  refine stage V d 70 24 (by decide +kernel) fun U _ => ?_
  after_reads_simp
  simp only [TRef.ofBuf_toBuf]
  simp only [TRef.ofBuf, TRef.toBuf, cast_eq, id]
  funext j
  pointwise
  decide

/-- That number is within the words' range. -/
theorem within_eq : fin V d main_call1_v1 = (fun _ => 0#1 : IVec S_ 1) := by
  refine stage V d 70 24 (by decide +kernel) fun U _ => ?_
  after_reads_simp
  simp only [TRef.ofBuf_toBuf]
  simp only [TRef.ofBuf, TRef.toBuf, cast_eq, id]
  funext j
  pointwise
  decide

/-- How many numbers may be drawn. -/
theorem span_eq : fin V d main_call1_v57 = (fun _ => 1279#32 : IVec S1x1 32) := by
  refine stage V d 816 13 (by decide +kernel) fun U hU => ?_
  have e := (hU main_call1_v6 (by decide +kernel)).trans (least_eq V d)
  have e' := (hU main_call1_v7 (by decide +kernel)).trans (past_eq V d)
  have e'' := (hU main_call1_v1 (by decide +kernel)).trans (within_eq V d)
  after_reads_simp
  rw [e, e', e'']
  simp only [TRef.ofBuf_toBuf]
  simp only [TRef.ofBuf, TRef.toBuf, cast_eq, id]
  funext j
  pointwise
  decide

/-- The drawn numbers, of the numbers whose remainder they are. -/
theorem drawn_eq (X : IVec S16x5000 32) (hX : fin V d main_call1_v68 = X) :
    fin V d main_v59 = (addi (fun _ => 1#32) (Host.remui X (fun _ => 1279#32)) : IVec S16x5000 32) := by
  refine stage V d 841 5 (by decide +kernel) fun U hU => ?_
  have e := (hU main_call1_v6 (by decide +kernel)).trans (least_eq V d)
  have e' := (hU main_call1_v57 (by decide +kernel)).trans (span_eq V d)
  have e'' := (hU main_call1_v68 (by decide +kernel)).trans hX
  after_reads_simp
  rw [e, e', e'']
  simp only [TRef.ofBuf_toBuf]
  simp only [TRef.ofBuf, TRef.toBuf, cast_eq, id]
  rfl

/-- Every drawn number lies between 1 and 1279. -/
theorem draw_range (n : Fin 16) (p : Fin 5000) : ∃ k : ℕ, 1 ≤ k ∧ k ≤ 1279 ∧
    (fin V d main_v59 : IVec S16x5000 32) (ix2 n p) = BitVec.ofNat 32 k := by
  have hd := drawn_eq V d _ rfl
  generalize (fin V d main_call1_v68 : IVec S16x5000 32) = X at hd
  have h : ∃ x : BitVec 32, (fin V d main_v59 : IVec S16x5000 32) (ix2 n p) = 1#32 + x % 1279#32 := by
    refine ⟨X (ix2 n p), (congrFun hd (ix2 n p)).trans ?_⟩
    show 1#32 + IntOp.remui .host (X (ix2 n p)) 1279#32 = _
    unfold IntOp.remui
    rw [if_neg (by decide)]
  obtain ⟨x, hx⟩ := h
  refine ⟨1 + x.toNat % 1279, by omega, by omega, ?_⟩
  rw [hx]
  apply BitVec.eq_of_toNat_eq
  rw [BitVec.toNat_add, BitVec.toNat_umod, BitVec.toNat_ofNat, BitVec.toNat_ofNat, BitVec.toNat_ofNat]

end Cert.ReferenceIdeal.Run

end
-- ==== Proof.Algebraic.lean ====
/- Kernel and reference, over the extended reals: from the same arguments the same two results. -/
module

public import proofs.«01_k».proof.Proof.Chain
public import proofs.«01_k».proof.Proof.KernelSpec
public import proofs.«01_k».proof.Proof.RefSpec
public import proofs.«01_k».proof.Proof.DrawRange

@[expose] public section

set_option maxRecDepth 65536
set_option maxHeartbeats 400000

noncomputable section

namespace Cert.Agree

open Idealize.ShloMosaic Idealize.ShloMosaic.TcCoe Idealize.ShloMosaic.StableHlo Idealize.SL.Sem
open Cert.Layout Cert.Outer Cert.Chain

/-- The kernel program's first operations draw the numbers that the reference draws. -/
theorem drawn_alike (V : Valuation KernelIdeal.τ KernelIdeal.sig (Elt Ideal)) (W : Valuation ReferenceIdeal.τ ReferenceIdeal.sig (Elt Ideal))
    (d : Dev ReferenceIdeal.nD) : ∃ V' : Valuation KernelIdeal.τ KernelIdeal.sig (Elt Ideal),
      after KernelIdeal.Gen.hostOps0 V = after (KernelIdeal.Gen.hostOps0.drop 784) V' ∧
      (V' (Proc.devRef .tc KernelIdeal.main_call0_v7) : IVec KernelIdeal.S16x5000 32) = ReferenceIdeal.Run.fin W d ReferenceIdeal.main_v59 := by
  obtain ⟨V', W', hs, ek, er⟩ := Rand.lead d V (after ((ReferenceIdeal.Run.line d).take 62) W) fun i hi => absurd hi (Nat.not_lt_zero _)
  refine ⟨V', ek, ?_⟩
  have e : after (ReferenceIdeal.Run.line d) W = after ((ReferenceIdeal.Run.line d).drop 846) W' := by
    conv_lhs => rw [← List.take_append_drop 62 (ReferenceIdeal.Run.line d), ReferenceIdeal.Run.after_two]
    exact er
  have h : W' (Proc.devRef .tc ReferenceIdeal.main_v59) = ReferenceIdeal.Run.fin W d ReferenceIdeal.main_v59 :=
    (ReferenceIdeal.Run.drop_keeps W' d 846 (by decide +kernel)).symm.trans (congrFun e _).symm
  rw [← h]
  exact eq_of_heq (hs 783 (by decide))

section

open Cert.KernelIdeal.Gen

variable (m : (ℓ : Loc KernelIdeal.nD KernelIdeal.τ KernelIdeal.sig) → Buf (Elt Ideal) ℓ) (g : Dev KernelIdeal.nD → PrngReg)
  (W : Valuation ReferenceIdeal.τ ReferenceIdeal.sig (Elt Ideal)) (c : Dev KernelIdeal.nD)
  (A : FVec Ideal KernelIdeal.S16x5000x4 .f32) (G : FVec Ideal KernelIdeal.S16x100x4 .f32) (L : IVec KernelIdeal.S16x100 32)
  (hA : m ((c.tc : Thread KernelIdeal.nD KernelIdeal.τ).loc KernelIdeal.main_arg0) = A)
  (hG : m ((c.tc : Thread KernelIdeal.nD KernelIdeal.τ).loc KernelIdeal.main_arg1) = G)
  (hL : m ((c.tc : Thread KernelIdeal.nD KernelIdeal.τ).loc KernelIdeal.main_arg2) = L)
  (hA' : W (Proc.devRef .tc ReferenceIdeal.main_arg0) = A) (hG' : W (Proc.devRef .tc ReferenceIdeal.main_arg1) = G)
  (hL' : W (Proc.devRef .tc ReferenceIdeal.main_arg2) = L)

include hA hG hL in
/-- The kernel program's two results, of the arguments and of the reference's draws. -/
theorem kernel_results (D : IVec KernelIdeal.S16x5000 32) (hD : ReferenceIdeal.Run.fin W c ReferenceIdeal.main_v59 = D) :
    let X := boxes A (sitofp .f32 (constantI KernelIdeal.S_ 32 0#32))
    let Z := draws D (constantI KernelIdeal.S_ 32 0#32)
    W9 m g c (Proc.devRef .tc KernelIdeal.main_v0_0) = join4 (part4 X (truths G) (labels L) Z 0) (part4 X (truths G) (labels L) Z 1)
        (part4 X (truths G) (labels L) Z 2) (part4 X (truths G) (labels L) Z 3) ∧
      W9 m g c (Proc.devRef .tc KernelIdeal.main_v0_1) = join5 (part5 X (truths G) (labels L) Z 0) (part5 X (truths G) (labels L) Z 1)
        (part5 X (truths G) (labels L) Z 2) (part5 X (truths G) (labels L) Z 3) := by
  intro X Z
  obtain ⟨V', e, ed⟩ := drawn_alike (W0 m g c) W c
  have arg {r : Ref KernelIdeal.sig .tc} (h : r ∉ hostOps0_W.drop 784) (h' : r ∉ hostOps0_W) :
      V' (Proc.devRef .tc r) = W0 m g c (Proc.devRef .tc r) :=
    (tail_keeps V' h).symm.trans ((congrFun e _).symm.trans (W1_of m g c r h'))
  have a0 := (arg (r := KernelIdeal.main_arg0) (by decide +kernel) (by decide +kernel)).trans hA
  have a1 := (arg (r := KernelIdeal.main_arg1) (by decide +kernel) (by decide +kernel)).trans hG
  have a2 := (arg (r := KernelIdeal.main_arg2) (by decide +kernel) (by decide +kernel)).trans hL
  have a3 := ed.trans hD
  have e1 : W1 m g c = after (hostOps0.drop 784) V' := e
  refine results m g c X (truths G) (labels L) Z ?_ ?_
  · rw [e1]
    exact ⟨tail_boxes V' A a0, tail_truths V' G a1, tail_labels V' L a2, tail_draws V' D a3⟩
  · rw [e1]
    exact ops0_in V' A G L D a0 a1 a2 a3

include hA hG hL hA' hG' hL'

/-- The results of the two programs are the same. -/
theorem same_results :
    W9 m g c (Proc.devRef .tc KernelIdeal.main_v0_0) = ReferenceIdeal.Run.fin W c ReferenceIdeal.main_v162 ∧
    W9 m g c (Proc.devRef .tc KernelIdeal.main_v0_1) = ReferenceIdeal.Run.fin W c ReferenceIdeal.main_v155 := by
  obtain ⟨D, hD⟩ : ∃ D : IVec KernelIdeal.S16x5000 32, ReferenceIdeal.Run.fin W c ReferenceIdeal.main_v59 = D := ⟨_, rfl⟩
  obtain ⟨Y, hY⟩ : ∃ Y : FVec Ideal KernelIdeal.S16x5000x21x4 .f32, ReferenceIdeal.Run.fin W c ReferenceIdeal.main_v162 = Y := ⟨_, rfl⟩
  obtain ⟨H, hH⟩ : ∃ H : FVec Ideal KernelIdeal.S16x5000x21 .f32, ReferenceIdeal.Run.fin W c ReferenceIdeal.main_v155 = H := ⟨_, rfl⟩
  choose dr hlo hhi hdr using fun n p => ReferenceIdeal.Run.draw_range W c n p
  have hdr' : ∀ n p, D (ix2 n p) = BitVec.ofNat 32 (dr n p) := fun n p => (congrFun hD _).symm.trans (hdr n p)
  obtain ⟨k0, k1⟩ := kernel_results m g W c A G L hA hG hL D hD
  rw [hY, hH]
  refine ⟨k0.trans (funext fun i => ?_), k1.trans (funext fun i => ?_)⟩
  · have hi : ix4 (i 0) (i 1) (i 2) (i 3) = i := by funext q; fin_cases q <;> rfl
    rw [← hi]
    exact (offsets_whole A _ G L D dr hdr' hlo hhi (i 1) (i 2) _ rfl (i 0) (i 3)).trans
      (ReferenceIdeal.Run.offsets_ref W c A G L D hA' hG' hL' hD dr hdr' hhi (i 0) (i 1) Y hY (i 2) (i 3)).symm
  · have hi : ix3 (i 0) (i 1) (i 2) = i := by funext q; fin_cases q <;> rfl
    rw [← hi]
    exact (hot_whole A (sitofp .f32 (constantI KernelIdeal.S_ 32 0#32)) G L D dr hdr' hlo hhi (i 1) (i 2) _ rfl (i 0)).trans
      (ReferenceIdeal.Run.hot_ref W c A G L D hA' hG' hL' hD dr hdr' hhi (i 0) (i 1) H hH (i 2)).symm

end

/-- From the same arguments the kernel and the reference end with the same two results. -/
theorem algebraic [h : KernelIdeal.Facts] [h' : ReferenceIdeal.Facts] : Cert.algebraic_KernelIdeal_ReferenceIdeal := by
  unfold Cert.algebraic_KernelIdeal_ReferenceIdeal
  intro m g m' g' _ ha
  refine ⟨fun c => KernelIdeal.Gen.W9 m g c (Proc.devRef .tc KernelIdeal.main_v0_0),
    fun c => KernelIdeal.Gen.W9 m g c (Proc.devRef .tc KernelIdeal.main_v0_1), KernelIdeal.Run.run m g, ?_⟩
  refine θ_run_mono (ReferenceIdeal.Run.run m' g') fun r hr c => ?_
  obtain ⟨h0, h1, h2⟩ := ReferenceIdeal.Run.out_args m' c
  obtain ⟨s0, s1⟩ := same_results m g (launchContents m' c) c _ _ _ rfl rfl rfl (ha c).1 (ha c).2.1 (ha c).2.2
  exact ⟨(hr c _).trans s0.symm, (hr c _).trans s1.symm, (hr c _).trans h0, (hr c _).trans h1, (hr c _).trans h2⟩

end Cert.Agree

end
-- ==== Proof.lean ====
/- The claims about the kernel and the reference, put together from the modules under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every run of the kernel, of its reading over the extended reals and of the reference ends
    without fault, leaves the arguments as they were and every semaphore counter at zero; and from the
    same arguments the kernel and the reference end, over the extended reals, with the same two results. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    Cert.ReferenceIdeal.Run.frame,
    trivial,
    Cert.Agree.algebraic (h := Cert.KernelIdeal.Gen.facts) (h' := Cert.ReferenceIdeal.Gen.facts)⟩

end Cert.Proof

end
